-- ==== Defs.lean ====
def Pre_Kernel [hPre_places : Cert.Pre_places.Facts] (m : (ℓ : Loc Cert.Kernel.nD Cert.Kernel.τ Cert.Kernel.sig) → Buf (Elt Bits) ℓ) : Prop :=
  ∀ c : Dev Cert.Kernel.nD,
    (Cert.Pre_places.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_places : Cert.Pre_places.Facts] (m : (ℓ : Loc Cert.KernelIdeal.nD Cert.KernelIdeal.τ Cert.KernelIdeal.sig) → Buf (Elt Ideal) ℓ) : Prop :=
  ∀ c : Dev Cert.KernelIdeal.nD,
    (Cert.Pre_places.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_places : Cert.Pre_places.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_places : Cert.Pre_places.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_places : Cert.Pre_places.Facts) (hPre_ranges : Cert.Pre_ranges.Facts),
    quiescent_Kernel (hKernel := hKernel) (hPre_places := hPre_places)
    ∧ quiescent_KernelIdeal (hKernelIdeal := hKernelIdeal) (hPre_places := hPre_places)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_places.lean ====
abbrev S10000x128 : Shape := ⟨2, ![10000, 128]⟩
abbrev S10000 : Shape := ⟨1, ![10000]⟩
abbrev S320000x4 : Shape := ⟨2, ![320000, 4]⟩
abbrev S2x320000 : Shape := ⟨2, ![2, 320000]⟩
abbrev S320000 : Shape := ⟨1, ![320000]⟩
abbrev S1x128 : Shape := ⟨2, ![1, 128]⟩
abbrev S1x4 : Shape := ⟨2, ![1, 4]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S10000x128 .f32) (main_arg1 : IVec S10000 32) (main_arg2 : FVec F S320000x4 .f32) (main_arg3 : IVec S2x320000 32) (main_arg4 : IVec S320000 32) (main_arg5 : FVec F S1x128 .f32) (main_arg6 : FVec F S1x4 .f32) : IVec S_ 1 :=
  let main_c : IVec S_ 32 := constantI S_ 32 0#32
  let main_v0 : IVec S320000 32 := broadcastInDim S320000 ![] bcast_S_S320000 main_c
  let main_v1 : IVec S320000 1 := cmpi .sge main_arg4 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 64#32
  let main_v3 : IVec S320000 32 := broadcastInDim S320000 ![] bcast_S_S320000 main_c_1
  let main_v4 : IVec S320000 1 := cmpi .slt main_arg4 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  main_v6
-- ==== Pre_ranges.lean ====
abbrev S10000x128 : Shape := ⟨2, ![10000, 128]⟩
abbrev S10000 : Shape := ⟨1, ![10000]⟩
abbrev S320000x4 : Shape := ⟨2, ![320000, 4]⟩
abbrev S2x320000 : Shape := ⟨2, ![2, 320000]⟩
abbrev S320000 : Shape := ⟨1, ![320000]⟩
abbrev S1x128 : Shape := ⟨2, ![1, 128]⟩
abbrev S1x4 : Shape := ⟨2, ![1, 4]⟩
abbrev S_ : Shape := ⟨0, ![]⟩
abbrev S1x320000 : Shape := ⟨2, ![1, 320000]⟩

class Facts : Prop where
  bcast_S_S320000 : S_.BroadcastsInDim S320000 (![] : Fin 0 → Fin S320000.rank)
  reducesTo_S320000_S_d0 : S320000.ReducesTo [0] S_
  h_S_ : 0 < S_.numel
  slices_S2x320000_S1x320000_0_0 : S2x320000.Slices ![0, 0] S1x320000
  shapeCasts_S1x320000_S320000 : S1x320000.ShapeCasts S320000

variable [Facts]

def fn {F : FTy → Type} [FloatOps F] (main_arg0 : FVec F S10000x128 .f32) (main_arg1 : IVec S10000 32) (main_arg2 : FVec F S320000x4 .f32) (main_arg3 : IVec S2x320000 32) (main_arg4 : IVec S320000 32) (main_arg5 : FVec F S1x128 .f32) (main_arg6 : FVec F S1x4 .f32) : IVec S_ 1 :=
  let main_c : IVec S_ 32 := constantI S_ 32 0#32
  let main_v0 : IVec S320000 32 := broadcastInDim S320000 ![] bcast_S_S320000 main_c
  let main_v1 : IVec S320000 1 := cmpi .sge main_arg4 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 64#32
  let main_v3 : IVec S320000 32 := broadcastInDim S320000 ![] bcast_S_S320000 main_c_1
  let main_v4 : IVec S320000 1 := cmpi .slt main_arg4 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S1x320000 32 := (extractStridedSlice S1x320000 ![0, 0] · slices_S2x320000_S1x320000_0_0) main_arg3
  let main_v8 : IVec S320000 32 := shapeCast S320000 main_v7 shapeCasts_S1x320000_S320000
  let main_c_3 : IVec S_ 32 := constantI S_ 32 0#32
  let main_v9 : IVec S320000 32 := broadcastInDim S320000 ![] bcast_S_S320000 main_c_3
  let main_v10 : IVec S320000 1 := cmpi .sge main_v8 main_v9
  let main_c_4 : IVec S_ 1 := constantI S_ 1 1#1
  let main_v11 : IVec S_ 1 := (fun x v => Host.reduce IntOp.andi x v reducesTo_S320000_S_d0 h_S_) main_v10 main_c_4
  let main_v12 : IVec S_ 1 := andi main_v6 main_v11
  main_v12
-- ==== Kernel.lean ====
abbrev S10000x128 : Shape := ⟨2, ![10000, 128]⟩
abbrev S10000 : Shape := ⟨1, ![10000]⟩
abbrev S320000x4 : Shape := ⟨2, ![320000, 4]⟩
abbrev S2x320000 : Shape := ⟨2, ![2, 320000]⟩
abbrev S320000 : Shape := ⟨1, ![320000]⟩
abbrev S1x128 : Shape := ⟨2, ![1, 128]⟩
abbrev S1x4 : Shape := ⟨2, ![1, 4]⟩
abbrev S10x1x1000 : Shape := ⟨3, ![10, 1, 1000]⟩
abbrev S64x128 : Shape := ⟨2, ![64, 128]⟩
abbrev S64x1 : Shape := ⟨2, ![64, 1]⟩
abbrev S1x1x1000 : Shape := ⟨3, ![1, 1, 1000]⟩
abbrev S1000x128 : Shape := ⟨2, ![1000, 128]⟩
abbrev S1000 : Shape := ⟨1, ![1000]⟩
abbrev S1x1000 : Shape := ⟨2, ![1, 1000]⟩
abbrev S64x1000 : Shape := ⟨2, ![64, 1000]⟩
abbrev S64 : Shape := ⟨1, ![64]⟩
abbrev S4x320000 : Shape := ⟨2, ![4, 320000]⟩
abbrev S1280000 : Shape := ⟨1, ![1280000]⟩
abbrev S32x256 : Shape := ⟨2, ![32, 256]⟩
abbrev S32x128 : Shape := ⟨2, ![32, 128]⟩
abbrev S40000 : Shape := ⟨1, ![40000]⟩
abbrev S4112 : Shape := ⟨1, ![4112]⟩
abbrev S2064 : Shape := ⟨1, ![2064]⟩
abbrev S256 : Shape := ⟨1, ![256]⟩
abbrev S128 : Shape := ⟨1, ![128]⟩
abbrev S_ : Shape := ⟨0, ![]⟩
abbrev S2000 : Shape := ⟨1, ![2000]⟩
abbrev S16 : Shape := ⟨1, ![16]⟩
abbrev S1x256 : Shape := ⟨2, ![1, 256]⟩
abbrev S1x64 : Shape := ⟨2, ![1, 64]⟩
abbrev S4x256 : Shape := ⟨2, ![4, 256]⟩
abbrev S64x256 : Shape := ⟨2, ![64, 256]⟩

abbrev nBuf : Table → Nat
  | .hbm => 16
  | .local .tc .vmem => 13
  | .local .scVector .vmem => 6
  | _ => 0

abbrev bufTy : (tb : Table) → Fin (nBuf tb) → BufTy
  | .hbm, ⟨0, _⟩ => ⟨S10000x128, .f32⟩
  | .hbm, ⟨1, _⟩ => ⟨S10000, .i32⟩
  | .hbm, ⟨2, _⟩ => ⟨S320000x4, .f32⟩
  | .hbm, ⟨3, _⟩ => ⟨S2x320000, .i32⟩
  | .hbm, ⟨4, _⟩ => ⟨S320000, .i32⟩
  | .hbm, ⟨5, _⟩ => ⟨S1x128, .f32⟩
  | .hbm, ⟨6, _⟩ => ⟨S1x4, .f32⟩
  | .hbm, ⟨7, _⟩ => ⟨S10x1x1000, .i32⟩
  | .hbm, ⟨8, _⟩ => ⟨S64x128, .f32⟩
  | .hbm, ⟨9, _⟩ => ⟨S64x1, .f32⟩
  | .hbm, ⟨10, _⟩ => ⟨S4x320000, .f32⟩
  | .hbm, ⟨11, _⟩ => ⟨S1280000, .f32⟩
  | .hbm, ⟨12, _⟩ => ⟨S32x256, .f32⟩
  | .hbm, ⟨13, _⟩ => ⟨S32x128, .f32⟩
  | .hbm, ⟨14, _⟩ => ⟨S1x64, .f32⟩
  | .hbm, ⟨15, _⟩ => ⟨S64, .f32⟩
  | .local .tc .vmem, ⟨0, _⟩ => ⟨S1x1x1000, .i32⟩
  | .local .tc .vmem, ⟨1, _⟩ => ⟨S1x1x1000, .i32⟩
  | .local .tc .vmem, ⟨2, _⟩ => ⟨S1000x128, .f32⟩
  | .local .tc .vmem, ⟨3, _⟩ => ⟨S1000x128, .f32⟩
  | .local .tc .vmem, ⟨4, _⟩ => ⟨S64x128, .f32⟩
  | .local .tc .vmem, ⟨5, _⟩ => ⟨S64x1, .f32⟩
  | .local .tc .vmem, ⟨6, _⟩ => ⟨S64x128, .f32⟩
  | .local .tc .vmem, ⟨7, _⟩ => ⟨S64x1, .f32⟩
  | .local .tc .vmem, ⟨8, _⟩ => ⟨S32x256, .f32⟩
  | .local .tc .vmem, ⟨9, _⟩ => ⟨S32x128, .f32⟩
  | .local .tc .vmem, ⟨10, _⟩ => ⟨S1x128, .f32⟩
  | .local .tc .vmem, ⟨11, _⟩ => ⟨S1x4, .f32⟩
  | .local .tc .vmem, ⟨12, _⟩ => ⟨S1x64, .f32⟩
  | .local .scVector .vmem, ⟨0, _⟩ => ⟨S40000, .f32⟩
  | .local .scVector .vmem, ⟨1, _⟩ => ⟨S10000, .i32⟩
  | .local .scVector .vmem, ⟨2, _⟩ => ⟨S4112, .f32⟩
  | .local .scVector .vmem, ⟨3, _⟩ => ⟨S2064, .f32⟩
  | .local .scVector .vmem, ⟨4, _⟩ => ⟨S256, .f32⟩
  | .local .scVector .vmem, ⟨5, _⟩ => ⟨S128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v3_scv : Ref sig .scVector := ⟨.hbm, 11, rfl⟩
abbrev main_arg4_scv : Ref sig .scVector := ⟨.hbm, 4, rfl⟩
abbrev main_v4_0_scv : Ref sig .scVector := ⟨.hbm, 12, rfl⟩
abbrev main_v4_1_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) (c0_i32 : BitVec 32) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v3 : BitVec 32 := Scalar.addi c0_i32 v2
  let v4 : BitVec 32 := Scalar.addi v3 c0_i32_0
  ![v4.toNat]
def k1_off2 (i : grid1.Coords) (c0_i32_10 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v27 : BitVec 32 := Scalar.addi v2 c0_i32_10
  ![v27.toNat]
@[reducible] def k1_t1_loop : Scf.Loop 32 :=
  let c0_i32_216 : BitVec 32 := 0#32
  let c25_i32 : BitVec 32 := 25#32
  let v563 : BitVec 32 := Scalar.addi c0_i32_216 c25_i32
  let c1_i32 : BitVec 32 := 1#32
  ⟨c0_i32_216, v563, c1_i32⟩
def k1_off3 (k1_t1 : Fin k1_t1_loop.trips) : Fin 1 → Nat :=
  let c0_i32_326 : BitVec 32 := 0#32
  let c0_i32_216 : BitVec 32 := 0#32
  let c1_i32 : BitVec 32 := 1#32
  let arg17 : BitVec 32 := Scf.iv c0_i32_216 c1_i32 k1_t1
  let c5_i32 : BitVec 32 := 5#32
  let v1416 : BitVec 32 := Scalar.muli arg17 c5_i32
  let v1417 : BitVec 32 := Scalar.addi c0_i32_326 v1416
  let c0_i32_327 : BitVec 32 := 0#32
  let v1418 : BitVec 32 := Scalar.addi v1417 c0_i32_327
  let c16_i32 : BitVec 32 := 16#32
  let v1419 : BitVec 32 := Scalar.muli v1418 c16_i32
  let v1420 : Index := Scalar.indexCast v1419
  ![v1420.toNat]

def k1_chk1 (v1422 : IVec S16 32) : Prop :=
  (∀ a x, ((![v1422] : Fin 1 → IVec S16 32) a x).toNat < S2064.size a)
theorem k1_idx1_inb : ∀ (v1422 : IVec S16 32) (k1_hw1 : k1_chk1 v1422), ∀ a x, ((![v1422] : Fin 1 → IVec S16 32) a x).toNat < S2064.size a := fun v1422 k1_hw1 => k1_hw1
def k1_off4 (k1_t1 : Fin k1_t1_loop.trips) : Fin 1 → Nat :=
  let c0_i32_329 : BitVec 32 := 0#32
  let c0_i32_326 : BitVec 32 := 0#32
  let c0_i32_216 : BitVec 32 := 0#32
  let c1_i32 : BitVec 32 := 1#32
  let arg17 : BitVec 32 := Scf.iv c0_i32_216 c1_i32 k1_t1
  let c5_i32 : BitVec 32 := 5#32
  let v1416 : BitVec 32 := Scalar.muli arg17 c5_i32
  let v1417 : BitVec 32 := Scalar.addi c0_i32_326 v1416
  let c0_i32_327 : BitVec 32 := 0#32
  let v1418 : BitVec 32 := Scalar.addi v1417 c0_i32_327
  let c16_i32 : BitVec 32 := 16#32
  let v1419 : BitVec 32 := Scalar.muli v1418 c16_i32
  let v1426 : BitVec 32 := Scalar.addi c0_i32_329 v1419
  let v1427 : Index := Scalar.indexCast v1426
  ![v1427.toNat]

def k1_chk2 (v1430 : IVec S16 32) : Prop :=
  (∀ a x, ((![v1430] : Fin 1 → IVec S16 32) a x).toNat < S4112.size a)
theorem k1_idx2_inb : ∀ (v1430 : IVec S16 32) (k1_hw2 : k1_chk2 v1430), ∀ a x, ((![v1430] : Fin 1 → IVec S16 32) a x).toNat < S4112.size a := fun v1430 k1_hw2 => k1_hw2
def k1_off5 (k1_t1 : Fin k1_t1_loop.trips) : Fin 1 → Nat :=
  let c10000_i32_331 : BitVec 32 := 10000#32
  let c0_i32_326 : BitVec 32 := 0#32
  let c0_i32_216 : BitVec 32 := 0#32
  let c1_i32 : BitVec 32 := 1#32
  let arg17 : BitVec 32 := Scf.iv c0_i32_216 c1_i32 k1_t1
  let c5_i32 : BitVec 32 := 5#32
  let v1416 : BitVec 32 := Scalar.muli arg17 c5_i32
  let v1417 : BitVec 32 := Scalar.addi c0_i32_326 v1416
  let c0_i32_327 : BitVec 32 := 0#32
  let v1418 : BitVec 32 := Scalar.addi v1417 c0_i32_327
  let c16_i32 : BitVec 32 := 16#32
  let v1419 : BitVec 32 := Scalar.muli v1418 c16_i32
  let v1431 : BitVec 32 := Scalar.addi c10000_i32_331 v1419
  let v1432 : Index := Scalar.indexCast v1431
  ![v1432.toNat]

def k1_chk3 (v1435 : IVec S16 32) : Prop :=
  (∀ a x, ((![v1435] : Fin 1 → IVec S16 32) a x).toNat < S4112.size a)
theorem k1_idx3_inb : ∀ (v1435 : IVec S16 32) (k1_hw3 : k1_chk3 v1435), ∀ a x, ((![v1435] : Fin 1 → IVec S16 32) a x).toNat < S4112.size a := fun v1435 k1_hw3 => k1_hw3
def k1_off6 (k1_t1 : Fin k1_t1_loop.trips) : Fin 1 → Nat :=
  let c20000_i32_333 : BitVec 32 := 20000#32
  let c0_i32_326 : BitVec 32 := 0#32
  let c0_i32_216 : BitVec 32 := 0#32
  let c1_i32 : BitVec 32 := 1#32
  let arg17 : BitVec 32 := Scf.iv c0_i32_216 c1_i32 k1_t1
  let c5_i32 : BitVec 32 := 5#32
  let v1416 : BitVec 32 := Scalar.muli arg17 c5_i32
  let v1417 : BitVec 32 := Scalar.addi c0_i32_326 v1416
  let c0_i32_327 : BitVec 32 := 0#32
  let v1418 : BitVec 32 := Scalar.addi v1417 c0_i32_327
  let c16_i32 : BitVec 32 := 16#32
  let v1419 : BitVec 32 := Scalar.muli v1418 c16_i32
  let v1436 : BitVec 32 := Scalar.addi c20000_i32_333 v1419
  let v1437 : Index := Scalar.indexCast v1436
  ![v1437.toNat]

def k1_chk4 (v1440 : IVec S16 32) : Prop :=
  (∀ a x, ((![v1440] : Fin 1 → IVec S16 32) a x).toNat < S4112.size a)
theorem k1_idx4_inb : ∀ (v1440 : IVec S16 32) (k1_hw4 : k1_chk4 v1440), ∀ a x, ((![v1440] : Fin 1 → IVec S16 32) a x).toNat < S4112.size a := fun v1440 k1_hw4 => k1_hw4
def k1_off7 (k1_t1 : Fin k1_t1_loop.trips) : Fin 1 → Nat :=
  let c30000_i32_335 : BitVec 32 := 30000#32
  let c0_i32_326 : BitVec 32 := 0#32
  let c0_i32_216 : BitVec 32 := 0#32
  let c1_i32 : BitVec 32 := 1#32
  let arg17 : BitVec 32 := Scf.iv c0_i32_216 c1_i32 k1_t1
  let c5_i32 : BitVec 32 := 5#32
  let v1416 : BitVec 32 := Scalar.muli arg17 c5_i32
  let v1417 : BitVec 32 := Scalar.addi c0_i32_326 v1416
  let c0_i32_327 : BitVec 32 := 0#32
  let v1418 : BitVec 32 := Scalar.addi v1417 c0_i32_327
  let c16_i32 : BitVec 32 := 16#32
  let v1419 : BitVec 32 := Scalar.muli v1418 c16_i32
  let v1441 : BitVec 32 := Scalar.addi c30000_i32_335 v1419
  let v1442 : Index := Scalar.indexCast v1441
  ![v1442.toNat]

def k1_chk5 (v1445 : IVec S16 32) : Prop :=
  (∀ a x, ((![v1445] : Fin 1 → IVec S16 32) a x).toNat < S4112.size a)
theorem k1_idx5_inb : ∀ (v1445 : IVec S16 32) (k1_hw5 : k1_chk5 v1445), ∀ a x, ((![v1445] : Fin 1 → IVec S16 32) a x).toNat < S4112.size a := fun v1445 k1_hw5 => k1_hw5
def k1_off8 (k1_t1 : Fin k1_t1_loop.trips) : Fin 1 → Nat :=
  let c0_i32_337 : BitVec 32 := 0#32
  let c0_i32_216 : BitVec 32 := 0#32
  let c1_i32 : BitVec 32 := 1#32
  let arg17 : BitVec 32 := Scf.iv c0_i32_216 c1_i32 k1_t1
  let c5_i32_336 : BitVec 32 := 5#32
  let v1446 : BitVec 32 := Scalar.muli arg17 c5_i32_336
  let v1447 : BitVec 32 := Scalar.addi c0_i32_337 v1446
  let c1_i32_338 : BitVec 32 := 1#32
  let v1448 : BitVec 32 := Scalar.addi v1447 c1_i32_338
  let c16_i32_339 : BitVec 32 := 16#32
  let v1449 : BitVec 32 := Scalar.muli v1448 c16_i32_339
  let v1450 : Index := Scalar.indexCast v1449
  ![v1450.toNat]

def k1_chk6 (v1452 : IVec S16 32) : Prop :=
  (∀ a x, ((![v1452] : Fin 1 → IVec S16 32) a x).toNat < S2064.size a)
theorem k1_idx6_inb : ∀ (v1452 : IVec S16 32) (k1_hw6 : k1_chk6 v1452), ∀ a x, ((![v1452] : Fin 1 → IVec S16 32) a x).toNat < S2064.size a := fun v1452 k1_hw6 => k1_hw6
def k1_off9 (k1_t1 : Fin k1_t1_loop.trips) : Fin 1 → Nat :=
  let c0_i32_341 : BitVec 32 := 0#32
  let c0_i32_337 : BitVec 32 := 0#32
  let c0_i32_216 : BitVec 32 := 0#32
  let c1_i32 : BitVec 32 := 1#32
  let arg17 : BitVec 32 := Scf.iv c0_i32_216 c1_i32 k1_t1
  let c5_i32_336 : BitVec 32 := 5#32
  let v1446 : BitVec 32 := Scalar.muli arg17 c5_i32_336
  let v1447 : BitVec 32 := Scalar.addi c0_i32_337 v1446
  let c1_i32_338 : BitVec 32 := 1#32
  let v1448 : BitVec 32 := Scalar.addi v1447 c1_i32_338
  let c16_i32_339 : BitVec 32 := 16#32
  let v1449 : BitVec 32 := Scalar.muli v1448 c16_i32_339
  let v1456 : BitVec 32 := Scalar.addi c0_i32_341 v1449
  let v1457 : Index := Scalar.indexCast v1456
  ![v1457.toNat]

def k1_chk7 (v1460 : IVec S16 32) : Prop :=
  (∀ a x, ((![v1460] : Fin 1 → IVec S16 32) a x).toNat < S4112.size a)
theorem k1_idx7_inb : ∀ (v1460 : IVec S16 32) (k1_hw7 : k1_chk7 v1460), ∀ a x, ((![v1460] : Fin 1 → IVec S16 32) a x).toNat < S4112.size a := fun v1460 k1_hw7 => k1_hw7
def k1_off10 (k1_t1 : Fin k1_t1_loop.trips) : Fin 1 → Nat :=
  let c10000_i32_343 : BitVec 32 := 10000#32
  let c0_i32_337 : BitVec 32 := 0#32
  let c0_i32_216 : BitVec 32 := 0#32
  let c1_i32 : BitVec 32 := 1#32
  let arg17 : BitVec 32 := Scf.iv c0_i32_216 c1_i32 k1_t1
  let c5_i32_336 : BitVec 32 := 5#32
  let v1446 : BitVec 32 := Scalar.muli arg17 c5_i32_336
  let v1447 : BitVec 32 := Scalar.addi c0_i32_337 v1446
  let c1_i32_338 : BitVec 32 := 1#32
  let v1448 : BitVec 32 := Scalar.addi v1447 c1_i32_338
  let c16_i32_339 : BitVec 32 := 16#32
  let v1449 : BitVec 32 := Scalar.muli v1448 c16_i32_339
  let v1461 : BitVec 32 := Scalar.addi c10000_i32_343 v1449
  let v1462 : Index := Scalar.indexCast v1461
  ![v1462.toNat]

def k1_chk8 (v1465 : IVec S16 32) : Prop :=
  (∀ a x, ((![v1465] : Fin 1 → IVec S16 32) a x).toNat < S4112.size a)
theorem k1_idx8_inb : ∀ (v1465 : IVec S16 32) (k1_hw8 : k1_chk8 v1465), ∀ a x, ((![v1465] : Fin 1 → IVec S16 32) a x).toNat < S4112.size a := fun v1465 k1_hw8 => k1_hw8
def k1_off11 (k1_t1 : Fin k1_t1_loop.trips) : Fin 1 → Nat :=
  let c20000_i32_345 : BitVec 32 := 20000#32
  let c0_i32_337 : BitVec 32 := 0#32
  let c0_i32_216 : BitVec 32 := 0#32
  let c1_i32 : BitVec 32 := 1#32
  let arg17 : BitVec 32 := Scf.iv c0_i32_216 c1_i32 k1_t1
  let c5_i32_336 : BitVec 32 := 5#32
  let v1446 : BitVec 32 := Scalar.muli arg17 c5_i32_336
  let v1447 : BitVec 32 := Scalar.addi c0_i32_337 v1446
  let c1_i32_338 : BitVec 32 := 1#32
  let v1448 : BitVec 32 := Scalar.addi v1447 c1_i32_338
  let c16_i32_339 : BitVec 32 := 16#32
  let v1449 : BitVec 32 := Scalar.muli v1448 c16_i32_339
  let v1466 : BitVec 32 := Scalar.addi c20000_i32_345 v1449
  let v1467 : Index := Scalar.indexCast v1466
  ![v1467.toNat]

def k1_chk9 (v1470 : IVec S16 32) : Prop :=
  (∀ a x, ((![v1470] : Fin 1 → IVec S16 32) a x).toNat < S4112.size a)
theorem k1_idx9_inb : ∀ (v1470 : IVec S16 32) (k1_hw9 : k1_chk9 v1470), ∀ a x, ((![v1470] : Fin 1 → IVec S16 32) a x).toNat < S4112.size a := fun v1470 k1_hw9 => k1_hw9
def k1_off12 (k1_t1 : Fin k1_t1_loop.trips) : Fin 1 → Nat :=
  let c30000_i32_347 : BitVec 32 := 30000#32
  let c0_i32_337 : BitVec 32 := 0#32
  let c0_i32_216 : BitVec 32 := 0#32
  let c1_i32 : BitVec 32 := 1#32
  let arg17 : BitVec 32 := Scf.iv c0_i32_216 c1_i32 k1_t1
  let c5_i32_336 : BitVec 32 := 5#32
  let v1446 : BitVec 32 := Scalar.muli arg17 c5_i32_336
  let v1447 : BitVec 32 := Scalar.addi c0_i32_337 v1446
  let c1_i32_338 : BitVec 32 := 1#32
  let v1448 : BitVec 32 := Scalar.addi v1447 c1_i32_338
  let c16_i32_339 : BitVec 32 := 16#32
  let v1449 : BitVec 32 := Scalar.muli v1448 c16_i32_339
  let v1471 : BitVec 32 := Scalar.addi c30000_i32_347 v1449
  let v1472 : Index := Scalar.indexCast v1471
  ![v1472.toNat]

def k1_chk10 (v1475 : IVec S16 32) : Prop :=
  (∀ a x, ((![v1475] : Fin 1 → IVec S16 32) a x).toNat < S4112.size a)
theorem k1_idx10_inb : ∀ (v1475 : IVec S16 32) (k1_hw10 : k1_chk10 v1475), ∀ a x, ((![v1475] : Fin 1 → IVec S16 32) a x).toNat < S4112.size a := fun v1475 k1_hw10 => k1_hw10
def k1_off13 (k1_t1 : Fin k1_t1_loop.trips) : Fin 1 → Nat :=
  let c0_i32_350 : BitVec 32 := 0#32
  let c0_i32_216 : BitVec 32 := 0#32
  let c1_i32 : BitVec 32 := 1#32
  let arg17 : BitVec 32 := Scf.iv c0_i32_216 c1_i32 k1_t1
  let c5_i32_349 : BitVec 32 := 5#32
  let v1476 : BitVec 32 := Scalar.muli arg17 c5_i32_349
  let v1477 : BitVec 32 := Scalar.addi c0_i32_350 v1476
  let c2_i32_351 : BitVec 32 := 2#32
  let v1478 : BitVec 32 := Scalar.addi v1477 c2_i32_351
  let c16_i32_352 : BitVec 32 := 16#32
  let v1479 : BitVec 32 := Scalar.muli v1478 c16_i32_352
  let v1480 : Index := Scalar.indexCast v1479
  ![v1480.toNat]

def k1_chk11 (v1482 : IVec S16 32) : Prop :=
  (∀ a x, ((![v1482] : Fin 1 → IVec S16 32) a x).toNat < S2064.size a)
theorem k1_idx11_inb : ∀ (v1482 : IVec S16 32) (k1_hw11 : k1_chk11 v1482), ∀ a x, ((![v1482] : Fin 1 → IVec S16 32) a x).toNat < S2064.size a := fun v1482 k1_hw11 => k1_hw11
def k1_off14 (k1_t1 : Fin k1_t1_loop.trips) : Fin 1 → Nat :=
  let c0_i32_354 : BitVec 32 := 0#32
  let c0_i32_350 : BitVec 32 := 0#32
  let c0_i32_216 : BitVec 32 := 0#32
  let c1_i32 : BitVec 32 := 1#32
  let arg17 : BitVec 32 := Scf.iv c0_i32_216 c1_i32 k1_t1
  let c5_i32_349 : BitVec 32 := 5#32
  let v1476 : BitVec 32 := Scalar.muli arg17 c5_i32_349
  let v1477 : BitVec 32 := Scalar.addi c0_i32_350 v1476
  let c2_i32_351 : BitVec 32 := 2#32
  let v1478 : BitVec 32 := Scalar.addi v1477 c2_i32_351
  let c16_i32_352 : BitVec 32 := 16#32
  let v1479 : BitVec 32 := Scalar.muli v1478 c16_i32_352
  let v1486 : BitVec 32 := Scalar.addi c0_i32_354 v1479
  let v1487 : Index := Scalar.indexCast v1486
  ![v1487.toNat]

def k1_chk12 (v1490 : IVec S16 32) : Prop :=
  (∀ a x, ((![v1490] : Fin 1 → IVec S16 32) a x).toNat < S4112.size a)
theorem k1_idx12_inb : ∀ (v1490 : IVec S16 32) (k1_hw12 : k1_chk12 v1490), ∀ a x, ((![v1490] : Fin 1 → IVec S16 32) a x).toNat < S4112.size a := fun v1490 k1_hw12 => k1_hw12
def k1_off15 (k1_t1 : Fin k1_t1_loop.trips) : Fin 1 → Nat :=
  let c10000_i32_356 : BitVec 32 := 10000#32
  let c0_i32_350 : BitVec 32 := 0#32
  let c0_i32_216 : BitVec 32 := 0#32
  let c1_i32 : BitVec 32 := 1#32
  let arg17 : BitVec 32 := Scf.iv c0_i32_216 c1_i32 k1_t1
  let c5_i32_349 : BitVec 32 := 5#32
  let v1476 : BitVec 32 := Scalar.muli arg17 c5_i32_349
  let v1477 : BitVec 32 := Scalar.addi c0_i32_350 v1476
  let c2_i32_351 : BitVec 32 := 2#32
  let v1478 : BitVec 32 := Scalar.addi v1477 c2_i32_351
  let c16_i32_352 : BitVec 32 := 16#32
  let v1479 : BitVec 32 := Scalar.muli v1478 c16_i32_352
  let v1491 : BitVec 32 := Scalar.addi c10000_i32_356 v1479
  let v1492 : Index := Scalar.indexCast v1491
  ![v1492.toNat]

def k1_chk13 (v1495 : IVec S16 32) : Prop :=
  (∀ a x, ((![v1495] : Fin 1 → IVec S16 32) a x).toNat < S4112.size a)
theorem k1_idx13_inb : ∀ (v1495 : IVec S16 32) (k1_hw13 : k1_chk13 v1495), ∀ a x, ((![v1495] : Fin 1 → IVec S16 32) a x).toNat < S4112.size a := fun v1495 k1_hw13 => k1_hw13
def k1_off16 (k1_t1 : Fin k1_t1_loop.trips) : Fin 1 → Nat :=
  let c20000_i32_358 : BitVec 32 := 20000#32
  let c0_i32_350 : BitVec 32 := 0#32
  let c0_i32_216 : BitVec 32 := 0#32
  let c1_i32 : BitVec 32 := 1#32
  let arg17 : BitVec 32 := Scf.iv c0_i32_216 c1_i32 k1_t1
  let c5_i32_349 : BitVec 32 := 5#32
  let v1476 : BitVec 32 := Scalar.muli arg17 c5_i32_349
  let v1477 : BitVec 32 := Scalar.addi c0_i32_350 v1476
  let c2_i32_351 : BitVec 32 := 2#32
  let v1478 : BitVec 32 := Scalar.addi v1477 c2_i32_351
  let c16_i32_352 : BitVec 32 := 16#32
  let v1479 : BitVec 32 := Scalar.muli v1478 c16_i32_352
  let v1496 : BitVec 32 := Scalar.addi c20000_i32_358 v1479
  let v1497 : Index := Scalar.indexCast v1496
  ![v1497.toNat]

def k1_chk14 (v1500 : IVec S16 32) : Prop :=
  (∀ a x, ((![v1500] : Fin 1 → IVec S16 32) a x).toNat < S4112.size a)
theorem k1_idx14_inb : ∀ (v1500 : IVec S16 32) (k1_hw14 : k1_chk14 v1500), ∀ a x, ((![v1500] : Fin 1 → IVec S16 32) a x).toNat < S4112.size a := fun v1500 k1_hw14 => k1_hw14
def k1_off17 (k1_t1 : Fin k1_t1_loop.trips) : Fin 1 → Nat :=
  let c30000_i32_360 : BitVec 32 := 30000#32
  let c0_i32_350 : BitVec 32 := 0#32
  let c0_i32_216 : BitVec 32 := 0#32
  let c1_i32 : BitVec 32 := 1#32
  let arg17 : BitVec 32 := Scf.iv c0_i32_216 c1_i32 k1_t1
  let c5_i32_349 : BitVec 32 := 5#32
  let v1476 : BitVec 32 := Scalar.muli arg17 c5_i32_349
  let v1477 : BitVec 32 := Scalar.addi c0_i32_350 v1476
  let c2_i32_351 : BitVec 32 := 2#32
  let v1478 : BitVec 32 := Scalar.addi v1477 c2_i32_351
  let c16_i32_352 : BitVec 32 := 16#32
  let v1479 : BitVec 32 := Scalar.muli v1478 c16_i32_352
  let v1501 : BitVec 32 := Scalar.addi c30000_i32_360 v1479
  let v1502 : Index := Scalar.indexCast v1501
  ![v1502.toNat]

def k1_chk15 (v1505 : IVec S16 32) : Prop :=
  (∀ a x, ((![v1505] : Fin 1 → IVec S16 32) a x).toNat < S4112.size a)
theorem k1_idx15_inb : ∀ (v1505 : IVec S16 32) (k1_hw15 : k1_chk15 v1505), ∀ a x, ((![v1505] : Fin 1 → IVec S16 32) a x).toNat < S4112.size a := fun v1505 k1_hw15 => k1_hw15
def k1_off18 (k1_t1 : Fin k1_t1_loop.trips) : Fin 1 → Nat :=
  let c0_i32_363 : BitVec 32 := 0#32
  let c0_i32_216 : BitVec 32 := 0#32
  let c1_i32 : BitVec 32 := 1#32
  let arg17 : BitVec 32 := Scf.iv c0_i32_216 c1_i32 k1_t1
  let c5_i32_362 : BitVec 32 := 5#32
  let v1506 : BitVec 32 := Scalar.muli arg17 c5_i32_362
  let v1507 : BitVec 32 := Scalar.addi c0_i32_363 v1506
  let c3_i32_364 : BitVec 32 := 3#32
  let v1508 : BitVec 32 := Scalar.addi v1507 c3_i32_364
  let c16_i32_365 : BitVec 32 := 16#32
  let v1509 : BitVec 32 := Scalar.muli v1508 c16_i32_365
  let v1510 : Index := Scalar.indexCast v1509
  ![v1510.toNat]

def k1_chk16 (v1512 : IVec S16 32) : Prop :=
  (∀ a x, ((![v1512] : Fin 1 → IVec S16 32) a x).toNat < S2064.size a)
theorem k1_idx16_inb : ∀ (v1512 : IVec S16 32) (k1_hw16 : k1_chk16 v1512), ∀ a x, ((![v1512] : Fin 1 → IVec S16 32) a x).toNat < S2064.size a := fun v1512 k1_hw16 => k1_hw16
def k1_off19 (k1_t1 : Fin k1_t1_loop.trips) : Fin 1 → Nat :=
  let c0_i32_367 : BitVec 32 := 0#32
  let c0_i32_363 : BitVec 32 := 0#32
  let c0_i32_216 : BitVec 32 := 0#32
  let c1_i32 : BitVec 32 := 1#32
  let arg17 : BitVec 32 := Scf.iv c0_i32_216 c1_i32 k1_t1
  let c5_i32_362 : BitVec 32 := 5#32
  let v1506 : BitVec 32 := Scalar.muli arg17 c5_i32_362
  let v1507 : BitVec 32 := Scalar.addi c0_i32_363 v1506
  let c3_i32_364 : BitVec 32 := 3#32
  let v1508 : BitVec 32 := Scalar.addi v1507 c3_i32_364
  let c16_i32_365 : BitVec 32 := 16#32
  let v1509 : BitVec 32 := Scalar.muli v1508 c16_i32_365
  let v1516 : BitVec 32 := Scalar.addi c0_i32_367 v1509
  let v1517 : Index := Scalar.indexCast v1516
  ![v1517.toNat]

def k1_chk17 (v1520 : IVec S16 32) : Prop :=
  (∀ a x, ((![v1520] : Fin 1 → IVec S16 32) a x).toNat < S4112.size a)
theorem k1_idx17_inb : ∀ (v1520 : IVec S16 32) (k1_hw17 : k1_chk17 v1520), ∀ a x, ((![v1520] : Fin 1 → IVec S16 32) a x).toNat < S4112.size a := fun v1520 k1_hw17 => k1_hw17
def k1_off20 (k1_t1 : Fin k1_t1_loop.trips) : Fin 1 → Nat :=
  let c10000_i32_369 : BitVec 32 := 10000#32
  let c0_i32_363 : BitVec 32 := 0#32
  let c0_i32_216 : BitVec 32 := 0#32
  let c1_i32 : BitVec 32 := 1#32
  let arg17 : BitVec 32 := Scf.iv c0_i32_216 c1_i32 k1_t1
  let c5_i32_362 : BitVec 32 := 5#32
  let v1506 : BitVec 32 := Scalar.muli arg17 c5_i32_362
  let v1507 : BitVec 32 := Scalar.addi c0_i32_363 v1506
  let c3_i32_364 : BitVec 32 := 3#32
  let v1508 : BitVec 32 := Scalar.addi v1507 c3_i32_364
  let c16_i32_365 : BitVec 32 := 16#32
  let v1509 : BitVec 32 := Scalar.muli v1508 c16_i32_365
  let v1521 : BitVec 32 := Scalar.addi c10000_i32_369 v1509
  let v1522 : Index := Scalar.indexCast v1521
  ![v1522.toNat]

def k1_chk18 (v1525 : IVec S16 32) : Prop :=
  (∀ a x, ((![v1525] : Fin 1 → IVec S16 32) a x).toNat < S4112.size a)
theorem k1_idx18_inb : ∀ (v1525 : IVec S16 32) (k1_hw18 : k1_chk18 v1525), ∀ a x, ((![v1525] : Fin 1 → IVec S16 32) a x).toNat < S4112.size a := fun v1525 k1_hw18 => k1_hw18
def k1_off21 (k1_t1 : Fin k1_t1_loop.trips) : Fin 1 → Nat :=
  let c20000_i32_371 : BitVec 32 := 20000#32
  let c0_i32_363 : BitVec 32 := 0#32
  let c0_i32_216 : BitVec 32 := 0#32
  let c1_i32 : BitVec 32 := 1#32
  let arg17 : BitVec 32 := Scf.iv c0_i32_216 c1_i32 k1_t1
  let c5_i32_362 : BitVec 32 := 5#32
  let v1506 : BitVec 32 := Scalar.muli arg17 c5_i32_362
  let v1507 : BitVec 32 := Scalar.addi c0_i32_363 v1506
  let c3_i32_364 : BitVec 32 := 3#32
  let v1508 : BitVec 32 := Scalar.addi v1507 c3_i32_364
  let c16_i32_365 : BitVec 32 := 16#32
  let v1509 : BitVec 32 := Scalar.muli v1508 c16_i32_365
  let v1526 : BitVec 32 := Scalar.addi c20000_i32_371 v1509
  let v1527 : Index := Scalar.indexCast v1526
  ![v1527.toNat]

def k1_chk19 (v1530 : IVec S16 32) : Prop :=
  (∀ a x, ((![v1530] : Fin 1 → IVec S16 32) a x).toNat < S4112.size a)
theorem k1_idx19_inb : ∀ (v1530 : IVec S16 32) (k1_hw19 : k1_chk19 v1530), ∀ a x, ((![v1530] : Fin 1 → IVec S16 32) a x).toNat < S4112.size a := fun v1530 k1_hw19 => k1_hw19
def k1_off22 (k1_t1 : Fin k1_t1_loop.trips) : Fin 1 → Nat :=
  let c30000_i32_373 : BitVec 32 := 30000#32
  let c0_i32_363 : BitVec 32 := 0#32
  let c0_i32_216 : BitVec 32 := 0#32
  let c1_i32 : BitVec 32 := 1#32
  let arg17 : BitVec 32 := Scf.iv c0_i32_216 c1_i32 k1_t1
  let c5_i32_362 : BitVec 32 := 5#32
  let v1506 : BitVec 32 := Scalar.muli arg17 c5_i32_362
  let v1507 : BitVec 32 := Scalar.addi c0_i32_363 v1506
  let c3_i32_364 : BitVec 32 := 3#32
  let v1508 : BitVec 32 := Scalar.addi v1507 c3_i32_364
  let c16_i32_365 : BitVec 32 := 16#32
  let v1509 : BitVec 32 := Scalar.muli v1508 c16_i32_365
  let v1531 : BitVec 32 := Scalar.addi c30000_i32_373 v1509
  let v1532 : Index := Scalar.indexCast v1531
  ![v1532.toNat]

def k1_chk20 (v1535 : IVec S16 32) : Prop :=
  (∀ a x, ((![v1535] : Fin 1 → IVec S16 32) a x).toNat < S4112.size a)
theorem k1_idx20_inb : ∀ (v1535 : IVec S16 32) (k1_hw20 : k1_chk20 v1535), ∀ a x, ((![v1535] : Fin 1 → IVec S16 32) a x).toNat < S4112.size a := fun v1535 k1_hw20 => k1_hw20
def k1_off23 (k1_t1 : Fin k1_t1_loop.trips) : Fin 1 → Nat :=
  let c0_i32_376 : BitVec 32 := 0#32
  let c0_i32_216 : BitVec 32 := 0#32
  let c1_i32 : BitVec 32 := 1#32
  let arg17 : BitVec 32 := Scf.iv c0_i32_216 c1_i32 k1_t1
  let c5_i32_375 : BitVec 32 := 5#32
  let v1536 : BitVec 32 := Scalar.muli arg17 c5_i32_375
  let v1537 : BitVec 32 := Scalar.addi c0_i32_376 v1536
  let c4_i32 : BitVec 32 := 4#32
  let v1538 : BitVec 32 := Scalar.addi v1537 c4_i32
  let c16_i32_377 : BitVec 32 := 16#32
  let v1539 : BitVec 32 := Scalar.muli v1538 c16_i32_377
  let v1540 : Index := Scalar.indexCast v1539
  ![v1540.toNat]

def k1_chk21 (v1542 : IVec S16 32) : Prop :=
  (∀ a x, ((![v1542] : Fin 1 → IVec S16 32) a x).toNat < S2064.size a)
theorem k1_idx21_inb : ∀ (v1542 : IVec S16 32) (k1_hw21 : k1_chk21 v1542), ∀ a x, ((![v1542] : Fin 1 → IVec S16 32) a x).toNat < S2064.size a := fun v1542 k1_hw21 => k1_hw21
def k1_off24 (k1_t1 : Fin k1_t1_loop.trips) : Fin 1 → Nat :=
  let c0_i32_379 : BitVec 32 := 0#32
  let c0_i32_376 : BitVec 32 := 0#32
  let c0_i32_216 : BitVec 32 := 0#32
  let c1_i32 : BitVec 32 := 1#32
  let arg17 : BitVec 32 := Scf.iv c0_i32_216 c1_i32 k1_t1
  let c5_i32_375 : BitVec 32 := 5#32
  let v1536 : BitVec 32 := Scalar.muli arg17 c5_i32_375
  let v1537 : BitVec 32 := Scalar.addi c0_i32_376 v1536
  let c4_i32 : BitVec 32 := 4#32
  let v1538 : BitVec 32 := Scalar.addi v1537 c4_i32
  let c16_i32_377 : BitVec 32 := 16#32
  let v1539 : BitVec 32 := Scalar.muli v1538 c16_i32_377
  let v1546 : BitVec 32 := Scalar.addi c0_i32_379 v1539
  let v1547 : Index := Scalar.indexCast v1546
  ![v1547.toNat]

def k1_chk22 (v1550 : IVec S16 32) : Prop :=
  (∀ a x, ((![v1550] : Fin 1 → IVec S16 32) a x).toNat < S4112.size a)
theorem k1_idx22_inb : ∀ (v1550 : IVec S16 32) (k1_hw22 : k1_chk22 v1550), ∀ a x, ((![v1550] : Fin 1 → IVec S16 32) a x).toNat < S4112.size a := fun v1550 k1_hw22 => k1_hw22
def k1_off25 (k1_t1 : Fin k1_t1_loop.trips) : Fin 1 → Nat :=
  let c10000_i32_381 : BitVec 32 := 10000#32
  let c0_i32_376 : BitVec 32 := 0#32
  let c0_i32_216 : BitVec 32 := 0#32
  let c1_i32 : BitVec 32 := 1#32
  let arg17 : BitVec 32 := Scf.iv c0_i32_216 c1_i32 k1_t1
  let c5_i32_375 : BitVec 32 := 5#32
  let v1536 : BitVec 32 := Scalar.muli arg17 c5_i32_375
  let v1537 : BitVec 32 := Scalar.addi c0_i32_376 v1536
  let c4_i32 : BitVec 32 := 4#32
  let v1538 : BitVec 32 := Scalar.addi v1537 c4_i32
  let c16_i32_377 : BitVec 32 := 16#32
  let v1539 : BitVec 32 := Scalar.muli v1538 c16_i32_377
  let v1551 : BitVec 32 := Scalar.addi c10000_i32_381 v1539
  let v1552 : Index := Scalar.indexCast v1551
  ![v1552.toNat]

def k1_chk23 (v1555 : IVec S16 32) : Prop :=
  (∀ a x, ((![v1555] : Fin 1 → IVec S16 32) a x).toNat < S4112.size a)
theorem k1_idx23_inb : ∀ (v1555 : IVec S16 32) (k1_hw23 : k1_chk23 v1555), ∀ a x, ((![v1555] : Fin 1 → IVec S16 32) a x).toNat < S4112.size a := fun v1555 k1_hw23 => k1_hw23
def k1_off26 (k1_t1 : Fin k1_t1_loop.trips) : Fin 1 → Nat :=
  let c20000_i32_383 : BitVec 32 := 20000#32
  let c0_i32_376 : BitVec 32 := 0#32
  let c0_i32_216 : BitVec 32 := 0#32
  let c1_i32 : BitVec 32 := 1#32
  let arg17 : BitVec 32 := Scf.iv c0_i32_216 c1_i32 k1_t1
  let c5_i32_375 : BitVec 32 := 5#32
  let v1536 : BitVec 32 := Scalar.muli arg17 c5_i32_375
  let v1537 : BitVec 32 := Scalar.addi c0_i32_376 v1536
  let c4_i32 : BitVec 32 := 4#32
  let v1538 : BitVec 32 := Scalar.addi v1537 c4_i32
  let c16_i32_377 : BitVec 32 := 16#32
  let v1539 : BitVec 32 := Scalar.muli v1538 c16_i32_377
  let v1556 : BitVec 32 := Scalar.addi c20000_i32_383 v1539
  let v1557 : Index := Scalar.indexCast v1556
  ![v1557.toNat]

def k1_chk24 (v1560 : IVec S16 32) : Prop :=
  (∀ a x, ((![v1560] : Fin 1 → IVec S16 32) a x).toNat < S4112.size a)
theorem k1_idx24_inb : ∀ (v1560 : IVec S16 32) (k1_hw24 : k1_chk24 v1560), ∀ a x, ((![v1560] : Fin 1 → IVec S16 32) a x).toNat < S4112.size a := fun v1560 k1_hw24 => k1_hw24
def k1_off27 (k1_t1 : Fin k1_t1_loop.trips) : Fin 1 → Nat :=
  let c30000_i32_385 : BitVec 32 := 30000#32
  let c0_i32_376 : BitVec 32 := 0#32
  let c0_i32_216 : BitVec 32 := 0#32
  let c1_i32 : BitVec 32 := 1#32
  let arg17 : BitVec 32 := Scf.iv c0_i32_216 c1_i32 k1_t1
  let c5_i32_375 : BitVec 32 := 5#32
  let v1536 : BitVec 32 := Scalar.muli arg17 c5_i32_375
  let v1537 : BitVec 32 := Scalar.addi c0_i32_376 v1536
  let c4_i32 : BitVec 32 := 4#32
  let v1538 : BitVec 32 := Scalar.addi v1537 c4_i32
  let c16_i32_377 : BitVec 32 := 16#32
  let v1539 : BitVec 32 := Scalar.muli v1538 c16_i32_377
  let v1561 : BitVec 32 := Scalar.addi c30000_i32_385 v1539
  let v1562 : Index := Scalar.indexCast v1561
  ![v1562.toNat]

def k1_chk25 (v1565 : IVec S16 32) : Prop :=
  (∀ a x, ((![v1565] : Fin 1 → IVec S16 32) a x).toNat < S4112.size a)
theorem k1_idx25_inb : ∀ (v1565 : IVec S16 32) (k1_hw25 : k1_chk25 v1565), ∀ a x, ((![v1565] : Fin 1 → IVec S16 32) a x).toNat < S4112.size a := fun v1565 k1_hw25 => k1_hw25
@[reducible] def k1_t2_loop : Scf.Loop 32 :=
  let c0_i32_229 : BitVec 32 := 0#32
  let c25_i32_230 : BitVec 32 := 25#32
  let v584 : BitVec 32 := Scalar.addi c0_i32_229 c25_i32_230
  let c1_i32_231 : BitVec 32 := 1#32
  ⟨c0_i32_229, v584, c1_i32_231⟩
def k1_off28 (k1_t2 : Fin k1_t2_loop.trips) : Fin 1 → Nat :=
  let c125_i32 : BitVec 32 := 125#32
  let c0_i32_229 : BitVec 32 := 0#32
  let c1_i32_231 : BitVec 32 := 1#32
  let arg17 : BitVec 32 := Scf.iv c0_i32_229 c1_i32_231 k1_t2
  let c5_i32 : BitVec 32 := 5#32
  let v1416 : BitVec 32 := Scalar.muli arg17 c5_i32
  let v1417 : BitVec 32 := Scalar.addi c125_i32 v1416
  let c0_i32_326 : BitVec 32 := 0#32
  let v1418 : BitVec 32 := Scalar.addi v1417 c0_i32_326
  let c16_i32 : BitVec 32 := 16#32
  let v1419 : BitVec 32 := Scalar.muli v1418 c16_i32
  let v1420 : Index := Scalar.indexCast v1419
  ![v1420.toNat]

def k1_chk26 (v1422 : IVec S16 32) : Prop :=
  (∀ a x, ((![v1422] : Fin 1 → IVec S16 32) a x).toNat < S2064.size a)
theorem k1_idx26_inb : ∀ (v1422 : IVec S16 32) (k1_hw26 : k1_chk26 v1422), ∀ a x, ((![v1422] : Fin 1 → IVec S16 32) a x).toNat < S2064.size a := fun v1422 k1_hw26 => k1_hw26
def k1_off29 (k1_t2 : Fin k1_t2_loop.trips) : Fin 1 → Nat :=
  let c0_i32_328 : BitVec 32 := 0#32
  let c125_i32 : BitVec 32 := 125#32
  let c0_i32_229 : BitVec 32 := 0#32
  let c1_i32_231 : BitVec 32 := 1#32
  let arg17 : BitVec 32 := Scf.iv c0_i32_229 c1_i32_231 k1_t2
  let c5_i32 : BitVec 32 := 5#32
  let v1416 : BitVec 32 := Scalar.muli arg17 c5_i32
  let v1417 : BitVec 32 := Scalar.addi c125_i32 v1416
  let c0_i32_326 : BitVec 32 := 0#32
  let v1418 : BitVec 32 := Scalar.addi v1417 c0_i32_326
  let c16_i32 : BitVec 32 := 16#32
  let v1419 : BitVec 32 := Scalar.muli v1418 c16_i32
  let v1426 : BitVec 32 := Scalar.addi c0_i32_328 v1419
  let v1427 : Index := Scalar.indexCast v1426
  ![v1427.toNat]

def k1_chk27 (v1430 : IVec S16 32) : Prop :=
  (∀ a x, ((![v1430] : Fin 1 → IVec S16 32) a x).toNat < S4112.size a)
theorem k1_idx27_inb : ∀ (v1430 : IVec S16 32) (k1_hw27 : k1_chk27 v1430), ∀ a x, ((![v1430] : Fin 1 → IVec S16 32) a x).toNat < S4112.size a := fun v1430 k1_hw27 => k1_hw27
def k1_off30 (k1_t2 : Fin k1_t2_loop.trips) : Fin 1 → Nat :=
  let c10000_i32_330 : BitVec 32 := 10000#32
  let c125_i32 : BitVec 32 := 125#32
  let c0_i32_229 : BitVec 32 := 0#32
  let c1_i32_231 : BitVec 32 := 1#32
  let arg17 : BitVec 32 := Scf.iv c0_i32_229 c1_i32_231 k1_t2
  let c5_i32 : BitVec 32 := 5#32
  let v1416 : BitVec 32 := Scalar.muli arg17 c5_i32
  let v1417 : BitVec 32 := Scalar.addi c125_i32 v1416
  let c0_i32_326 : BitVec 32 := 0#32
  let v1418 : BitVec 32 := Scalar.addi v1417 c0_i32_326
  let c16_i32 : BitVec 32 := 16#32
  let v1419 : BitVec 32 := Scalar.muli v1418 c16_i32
  let v1431 : BitVec 32 := Scalar.addi c10000_i32_330 v1419
  let v1432 : Index := Scalar.indexCast v1431
  ![v1432.toNat]

def k1_chk28 (v1435 : IVec S16 32) : Prop :=
  (∀ a x, ((![v1435] : Fin 1 → IVec S16 32) a x).toNat < S4112.size a)
theorem k1_idx28_inb : ∀ (v1435 : IVec S16 32) (k1_hw28 : k1_chk28 v1435), ∀ a x, ((![v1435] : Fin 1 → IVec S16 32) a x).toNat < S4112.size a := fun v1435 k1_hw28 => k1_hw28
def k1_off31 (k1_t2 : Fin k1_t2_loop.trips) : Fin 1 → Nat :=
  let c20000_i32_332 : BitVec 32 := 20000#32
  let c125_i32 : BitVec 32 := 125#32
  let c0_i32_229 : BitVec 32 := 0#32
  let c1_i32_231 : BitVec 32 := 1#32
  let arg17 : BitVec 32 := Scf.iv c0_i32_229 c1_i32_231 k1_t2
  let c5_i32 : BitVec 32 := 5#32
  let v1416 : BitVec 32 := Scalar.muli arg17 c5_i32
  let v1417 : BitVec 32 := Scalar.addi c125_i32 v1416
  let c0_i32_326 : BitVec 32 := 0#32
  let v1418 : BitVec 32 := Scalar.addi v1417 c0_i32_326
  let c16_i32 : BitVec 32 := 16#32
  let v1419 : BitVec 32 := Scalar.muli v1418 c16_i32
  let v1436 : BitVec 32 := Scalar.addi c20000_i32_332 v1419
  let v1437 : Index := Scalar.indexCast v1436
  ![v1437.toNat]

def k1_chk29 (v1440 : IVec S16 32) : Prop :=
  (∀ a x, ((![v1440] : Fin 1 → IVec S16 32) a x).toNat < S4112.size a)
theorem k1_idx29_inb : ∀ (v1440 : IVec S16 32) (k1_hw29 : k1_chk29 v1440), ∀ a x, ((![v1440] : Fin 1 → IVec S16 32) a x).toNat < S4112.size a := fun v1440 k1_hw29 => k1_hw29
def k1_off32 (k1_t2 : Fin k1_t2_loop.trips) : Fin 1 → Nat :=
  let c30000_i32_334 : BitVec 32 := 30000#32
  let c125_i32 : BitVec 32 := 125#32
  let c0_i32_229 : BitVec 32 := 0#32
  let c1_i32_231 : BitVec 32 := 1#32
  let arg17 : BitVec 32 := Scf.iv c0_i32_229 c1_i32_231 k1_t2
  let c5_i32 : BitVec 32 := 5#32
  let v1416 : BitVec 32 := Scalar.muli arg17 c5_i32
  let v1417 : BitVec 32 := Scalar.addi c125_i32 v1416
  let c0_i32_326 : BitVec 32 := 0#32
  let v1418 : BitVec 32 := Scalar.addi v1417 c0_i32_326
  let c16_i32 : BitVec 32 := 16#32
  let v1419 : BitVec 32 := Scalar.muli v1418 c16_i32
  let v1441 : BitVec 32 := Scalar.addi c30000_i32_334 v1419
  let v1442 : Index := Scalar.indexCast v1441
  ![v1442.toNat]

def k1_chk30 (v1445 : IVec S16 32) : Prop :=
  (∀ a x, ((![v1445] : Fin 1 → IVec S16 32) a x).toNat < S4112.size a)
theorem k1_idx30_inb : ∀ (v1445 : IVec S16 32) (k1_hw30 : k1_chk30 v1445), ∀ a x, ((![v1445] : Fin 1 → IVec S16 32) a x).toNat < S4112.size a := fun v1445 k1_hw30 => k1_hw30
def k1_off33 (k1_t2 : Fin k1_t2_loop.trips) : Fin 1 → Nat :=
  let c125_i32_336 : BitVec 32 := 125#32
  let c0_i32_229 : BitVec 32 := 0#32
  let c1_i32_231 : BitVec 32 := 1#32
  let arg17 : BitVec 32 := Scf.iv c0_i32_229 c1_i32_231 k1_t2
  let c5_i32_335 : BitVec 32 := 5#32
  let v1446 : BitVec 32 := Scalar.muli arg17 c5_i32_335
  let v1447 : BitVec 32 := Scalar.addi c125_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1450 : Index := Scalar.indexCast v1449
  ![v1450.toNat]

def k1_chk31 (v1452 : IVec S16 32) : Prop :=
  (∀ a x, ((![v1452] : Fin 1 → IVec S16 32) a x).toNat < S2064.size a)
theorem k1_idx31_inb : ∀ (v1452 : IVec S16 32) (k1_hw31 : k1_chk31 v1452), ∀ a x, ((![v1452] : Fin 1 → IVec S16 32) a x).toNat < S2064.size a := fun v1452 k1_hw31 => k1_hw31
def k1_off34 (k1_t2 : Fin k1_t2_loop.trips) : Fin 1 → Nat :=
  let c0_i32_340 : BitVec 32 := 0#32
  let c125_i32_336 : BitVec 32 := 125#32
  let c0_i32_229 : BitVec 32 := 0#32
  let c1_i32_231 : BitVec 32 := 1#32
  let arg17 : BitVec 32 := Scf.iv c0_i32_229 c1_i32_231 k1_t2
  let c5_i32_335 : BitVec 32 := 5#32
  let v1446 : BitVec 32 := Scalar.muli arg17 c5_i32_335
  let v1447 : BitVec 32 := Scalar.addi c125_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1456 : BitVec 32 := Scalar.addi c0_i32_340 v1449
  let v1457 : Index := Scalar.indexCast v1456
  ![v1457.toNat]

def k1_chk32 (v1460 : IVec S16 32) : Prop :=
  (∀ a x, ((![v1460] : Fin 1 → IVec S16 32) a x).toNat < S4112.size a)
theorem k1_idx32_inb : ∀ (v1460 : IVec S16 32) (k1_hw32 : k1_chk32 v1460), ∀ a x, ((![v1460] : Fin 1 → IVec S16 32) a x).toNat < S4112.size a := fun v1460 k1_hw32 => k1_hw32
def k1_off35 (k1_t2 : Fin k1_t2_loop.trips) : Fin 1 → Nat :=
  let c10000_i32_342 : BitVec 32 := 10000#32
  let c125_i32_336 : BitVec 32 := 125#32
  let c0_i32_229 : BitVec 32 := 0#32
  let c1_i32_231 : BitVec 32 := 1#32
  let arg17 : BitVec 32 := Scf.iv c0_i32_229 c1_i32_231 k1_t2
  let c5_i32_335 : BitVec 32 := 5#32
  let v1446 : BitVec 32 := Scalar.muli arg17 c5_i32_335
  let v1447 : BitVec 32 := Scalar.addi c125_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1461 : BitVec 32 := Scalar.addi c10000_i32_342 v1449
  let v1462 : Index := Scalar.indexCast v1461
  ![v1462.toNat]

def k1_chk33 (v1465 : IVec S16 32) : Prop :=
  (∀ a x, ((![v1465] : Fin 1 → IVec S16 32) a x).toNat < S4112.size a)
theorem k1_idx33_inb : ∀ (v1465 : IVec S16 32) (k1_hw33 : k1_chk33 v1465), ∀ a x, ((![v1465] : Fin 1 → IVec S16 32) a x).toNat < S4112.size a := fun v1465 k1_hw33 => k1_hw33
def k1_off36 (k1_t2 : Fin k1_t2_loop.trips) : Fin 1 → Nat :=
  let c20000_i32_344 : BitVec 32 := 20000#32
  let c125_i32_336 : BitVec 32 := 125#32
  let c0_i32_229 : BitVec 32 := 0#32
  let c1_i32_231 : BitVec 32 := 1#32
  let arg17 : BitVec 32 := Scf.iv c0_i32_229 c1_i32_231 k1_t2
  let c5_i32_335 : BitVec 32 := 5#32
  let v1446 : BitVec 32 := Scalar.muli arg17 c5_i32_335
  let v1447 : BitVec 32 := Scalar.addi c125_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1466 : BitVec 32 := Scalar.addi c20000_i32_344 v1449
  let v1467 : Index := Scalar.indexCast v1466
  ![v1467.toNat]

def k1_chk34 (v1470 : IVec S16 32) : Prop :=
  (∀ a x, ((![v1470] : Fin 1 → IVec S16 32) a x).toNat < S4112.size a)
theorem k1_idx34_inb : ∀ (v1470 : IVec S16 32) (k1_hw34 : k1_chk34 v1470), ∀ a x, ((![v1470] : Fin 1 → IVec S16 32) a x).toNat < S4112.size a := fun v1470 k1_hw34 => k1_hw34
def k1_off37 (k1_t2 : Fin k1_t2_loop.trips) : Fin 1 → Nat :=
  let c30000_i32_346 : BitVec 32 := 30000#32
  let c125_i32_336 : BitVec 32 := 125#32
  let c0_i32_229 : BitVec 32 := 0#32
  let c1_i32_231 : BitVec 32 := 1#32
  let arg17 : BitVec 32 := Scf.iv c0_i32_229 c1_i32_231 k1_t2
  let c5_i32_335 : BitVec 32 := 5#32
  let v1446 : BitVec 32 := Scalar.muli arg17 c5_i32_335
  let v1447 : BitVec 32 := Scalar.addi c125_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1471 : BitVec 32 := Scalar.addi c30000_i32_346 v1449
  let v1472 : Index := Scalar.indexCast v1471
  ![v1472.toNat]

def k1_chk35 (v1475 : IVec S16 32) : Prop :=
  (∀ a x, ((![v1475] : Fin 1 → IVec S16 32) a x).toNat < S4112.size a)
theorem k1_idx35_inb : ∀ (v1475 : IVec S16 32) (k1_hw35 : k1_chk35 v1475), ∀ a x, ((![v1475] : Fin 1 → IVec S16 32) a x).toNat < S4112.size a := fun v1475 k1_hw35 => k1_hw35
def k1_off38 (k1_t2 : Fin k1_t2_loop.trips) : Fin 1 → Nat :=
  let c125_i32_349 : BitVec 32 := 125#32
  let c0_i32_229 : BitVec 32 := 0#32
  let c1_i32_231 : BitVec 32 := 1#32
  let arg17 : BitVec 32 := Scf.iv c0_i32_229 c1_i32_231 k1_t2
  let c5_i32_348 : BitVec 32 := 5#32
  let v1476 : BitVec 32 := Scalar.muli arg17 c5_i32_348
  let v1477 : BitVec 32 := Scalar.addi c125_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1480 : Index := Scalar.indexCast v1479
  ![v1480.toNat]

def k1_chk36 (v1482 : IVec S16 32) : Prop :=
  (∀ a x, ((![v1482] : Fin 1 → IVec S16 32) a x).toNat < S2064.size a)
theorem k1_idx36_inb : ∀ (v1482 : IVec S16 32) (k1_hw36 : k1_chk36 v1482), ∀ a x, ((![v1482] : Fin 1 → IVec S16 32) a x).toNat < S2064.size a := fun v1482 k1_hw36 => k1_hw36
def k1_off39 (k1_t2 : Fin k1_t2_loop.trips) : Fin 1 → Nat :=
  let c0_i32_353 : BitVec 32 := 0#32
  let c125_i32_349 : BitVec 32 := 125#32
  let c0_i32_229 : BitVec 32 := 0#32
  let c1_i32_231 : BitVec 32 := 1#32
  let arg17 : BitVec 32 := Scf.iv c0_i32_229 c1_i32_231 k1_t2
  let c5_i32_348 : BitVec 32 := 5#32
  let v1476 : BitVec 32 := Scalar.muli arg17 c5_i32_348
  let v1477 : BitVec 32 := Scalar.addi c125_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1486 : BitVec 32 := Scalar.addi c0_i32_353 v1479
  let v1487 : Index := Scalar.indexCast v1486
  ![v1487.toNat]

def k1_chk37 (v1490 : IVec S16 32) : Prop :=
  (∀ a x, ((![v1490] : Fin 1 → IVec S16 32) a x).toNat < S4112.size a)
theorem k1_idx37_inb : ∀ (v1490 : IVec S16 32) (k1_hw37 : k1_chk37 v1490), ∀ a x, ((![v1490] : Fin 1 → IVec S16 32) a x).toNat < S4112.size a := fun v1490 k1_hw37 => k1_hw37
def k1_off40 (k1_t2 : Fin k1_t2_loop.trips) : Fin 1 → Nat :=
  let c10000_i32_355 : BitVec 32 := 10000#32
  let c125_i32_349 : BitVec 32 := 125#32
  let c0_i32_229 : BitVec 32 := 0#32
  let c1_i32_231 : BitVec 32 := 1#32
  let arg17 : BitVec 32 := Scf.iv c0_i32_229 c1_i32_231 k1_t2
  let c5_i32_348 : BitVec 32 := 5#32
  let v1476 : BitVec 32 := Scalar.muli arg17 c5_i32_348
  let v1477 : BitVec 32 := Scalar.addi c125_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1491 : BitVec 32 := Scalar.addi c10000_i32_355 v1479
  let v1492 : Index := Scalar.indexCast v1491
  ![v1492.toNat]

def k1_chk38 (v1495 : IVec S16 32) : Prop :=
  (∀ a x, ((![v1495] : Fin 1 → IVec S16 32) a x).toNat < S4112.size a)
theorem k1_idx38_inb : ∀ (v1495 : IVec S16 32) (k1_hw38 : k1_chk38 v1495), ∀ a x, ((![v1495] : Fin 1 → IVec S16 32) a x).toNat < S4112.size a := fun v1495 k1_hw38 => k1_hw38
def k1_off41 (k1_t2 : Fin k1_t2_loop.trips) : Fin 1 → Nat :=
  let c20000_i32_357 : BitVec 32 := 20000#32
  let c125_i32_349 : BitVec 32 := 125#32
  let c0_i32_229 : BitVec 32 := 0#32
  let c1_i32_231 : BitVec 32 := 1#32
  let arg17 : BitVec 32 := Scf.iv c0_i32_229 c1_i32_231 k1_t2
  let c5_i32_348 : BitVec 32 := 5#32
  let v1476 : BitVec 32 := Scalar.muli arg17 c5_i32_348
  let v1477 : BitVec 32 := Scalar.addi c125_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1496 : BitVec 32 := Scalar.addi c20000_i32_357 v1479
  let v1497 : Index := Scalar.indexCast v1496
  ![v1497.toNat]

def k1_chk39 (v1500 : IVec S16 32) : Prop :=
  (∀ a x, ((![v1500] : Fin 1 → IVec S16 32) a x).toNat < S4112.size a)
theorem k1_idx39_inb : ∀ (v1500 : IVec S16 32) (k1_hw39 : k1_chk39 v1500), ∀ a x, ((![v1500] : Fin 1 → IVec S16 32) a x).toNat < S4112.size a := fun v1500 k1_hw39 => k1_hw39
def k1_off42 (k1_t2 : Fin k1_t2_loop.trips) : Fin 1 → Nat :=
  let c30000_i32_359 : BitVec 32 := 30000#32
  let c125_i32_349 : BitVec 32 := 125#32
  let c0_i32_229 : BitVec 32 := 0#32
  let c1_i32_231 : BitVec 32 := 1#32
  let arg17 : BitVec 32 := Scf.iv c0_i32_229 c1_i32_231 k1_t2
  let c5_i32_348 : BitVec 32 := 5#32
  let v1476 : BitVec 32 := Scalar.muli arg17 c5_i32_348
  let v1477 : BitVec 32 := Scalar.addi c125_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1501 : BitVec 32 := Scalar.addi c30000_i32_359 v1479
  let v1502 : Index := Scalar.indexCast v1501
  ![v1502.toNat]

def k1_chk40 (v1505 : IVec S16 32) : Prop :=
  (∀ a x, ((![v1505] : Fin 1 → IVec S16 32) a x).toNat < S4112.size a)
theorem k1_idx40_inb : ∀ (v1505 : IVec S16 32) (k1_hw40 : k1_chk40 v1505), ∀ a x, ((![v1505] : Fin 1 → IVec S16 32) a x).toNat < S4112.size a := fun v1505 k1_hw40 => k1_hw40
def k1_off43 (k1_t2 : Fin k1_t2_loop.trips) : Fin 1 → Nat :=
  let c125_i32_362 : BitVec 32 := 125#32
  let c0_i32_229 : BitVec 32 := 0#32
  let c1_i32_231 : BitVec 32 := 1#32
  let arg17 : BitVec 32 := Scf.iv c0_i32_229 c1_i32_231 k1_t2
  let c5_i32_361 : BitVec 32 := 5#32
  let v1506 : BitVec 32 := Scalar.muli arg17 c5_i32_361
  let v1507 : BitVec 32 := Scalar.addi c125_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1510 : Index := Scalar.indexCast v1509
  ![v1510.toNat]

def k1_chk41 (v1512 : IVec S16 32) : Prop :=
  (∀ a x, ((![v1512] : Fin 1 → IVec S16 32) a x).toNat < S2064.size a)
theorem k1_idx41_inb : ∀ (v1512 : IVec S16 32) (k1_hw41 : k1_chk41 v1512), ∀ a x, ((![v1512] : Fin 1 → IVec S16 32) a x).toNat < S2064.size a := fun v1512 k1_hw41 => k1_hw41
def k1_off44 (k1_t2 : Fin k1_t2_loop.trips) : Fin 1 → Nat :=
  let c0_i32_366 : BitVec 32 := 0#32
  let c125_i32_362 : BitVec 32 := 125#32
  let c0_i32_229 : BitVec 32 := 0#32
  let c1_i32_231 : BitVec 32 := 1#32
  let arg17 : BitVec 32 := Scf.iv c0_i32_229 c1_i32_231 k1_t2
  let c5_i32_361 : BitVec 32 := 5#32
  let v1506 : BitVec 32 := Scalar.muli arg17 c5_i32_361
  let v1507 : BitVec 32 := Scalar.addi c125_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1516 : BitVec 32 := Scalar.addi c0_i32_366 v1509
  let v1517 : Index := Scalar.indexCast v1516
  ![v1517.toNat]

def k1_chk42 (v1520 : IVec S16 32) : Prop :=
  (∀ a x, ((![v1520] : Fin 1 → IVec S16 32) a x).toNat < S4112.size a)
theorem k1_idx42_inb : ∀ (v1520 : IVec S16 32) (k1_hw42 : k1_chk42 v1520), ∀ a x, ((![v1520] : Fin 1 → IVec S16 32) a x).toNat < S4112.size a := fun v1520 k1_hw42 => k1_hw42
def k1_off45 (k1_t2 : Fin k1_t2_loop.trips) : Fin 1 → Nat :=
  let c10000_i32_368 : BitVec 32 := 10000#32
  let c125_i32_362 : BitVec 32 := 125#32
  let c0_i32_229 : BitVec 32 := 0#32
  let c1_i32_231 : BitVec 32 := 1#32
  let arg17 : BitVec 32 := Scf.iv c0_i32_229 c1_i32_231 k1_t2
  let c5_i32_361 : BitVec 32 := 5#32
  let v1506 : BitVec 32 := Scalar.muli arg17 c5_i32_361
  let v1507 : BitVec 32 := Scalar.addi c125_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1521 : BitVec 32 := Scalar.addi c10000_i32_368 v1509
  let v1522 : Index := Scalar.indexCast v1521
  ![v1522.toNat]

def k1_chk43 (v1525 : IVec S16 32) : Prop :=
  (∀ a x, ((![v1525] : Fin 1 → IVec S16 32) a x).toNat < S4112.size a)
theorem k1_idx43_inb : ∀ (v1525 : IVec S16 32) (k1_hw43 : k1_chk43 v1525), ∀ a x, ((![v1525] : Fin 1 → IVec S16 32) a x).toNat < S4112.size a := fun v1525 k1_hw43 => k1_hw43
def k1_off46 (k1_t2 : Fin k1_t2_loop.trips) : Fin 1 → Nat :=
  let c20000_i32_370 : BitVec 32 := 20000#32
  let c125_i32_362 : BitVec 32 := 125#32
  let c0_i32_229 : BitVec 32 := 0#32
  let c1_i32_231 : BitVec 32 := 1#32
  let arg17 : BitVec 32 := Scf.iv c0_i32_229 c1_i32_231 k1_t2
  let c5_i32_361 : BitVec 32 := 5#32
  let v1506 : BitVec 32 := Scalar.muli arg17 c5_i32_361
  let v1507 : BitVec 32 := Scalar.addi c125_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1526 : BitVec 32 := Scalar.addi c20000_i32_370 v1509
  let v1527 : Index := Scalar.indexCast v1526
  ![v1527.toNat]

def k1_chk44 (v1530 : IVec S16 32) : Prop :=
  (∀ a x, ((![v1530] : Fin 1 → IVec S16 32) a x).toNat < S4112.size a)
theorem k1_idx44_inb : ∀ (v1530 : IVec S16 32) (k1_hw44 : k1_chk44 v1530), ∀ a x, ((![v1530] : Fin 1 → IVec S16 32) a x).toNat < S4112.size a := fun v1530 k1_hw44 => k1_hw44
def k1_off47 (k1_t2 : Fin k1_t2_loop.trips) : Fin 1 → Nat :=
  let c30000_i32_372 : BitVec 32 := 30000#32
  let c125_i32_362 : BitVec 32 := 125#32
  let c0_i32_229 : BitVec 32 := 0#32
  let c1_i32_231 : BitVec 32 := 1#32
  let arg17 : BitVec 32 := Scf.iv c0_i32_229 c1_i32_231 k1_t2
  let c5_i32_361 : BitVec 32 := 5#32
  let v1506 : BitVec 32 := Scalar.muli arg17 c5_i32_361
  let v1507 : BitVec 32 := Scalar.addi c125_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1531 : BitVec 32 := Scalar.addi c30000_i32_372 v1509
  let v1532 : Index := Scalar.indexCast v1531
  ![v1532.toNat]

def k1_chk45 (v1535 : IVec S16 32) : Prop :=
  (∀ a x, ((![v1535] : Fin 1 → IVec S16 32) a x).toNat < S4112.size a)
theorem k1_idx45_inb : ∀ (v1535 : IVec S16 32) (k1_hw45 : k1_chk45 v1535), ∀ a x, ((![v1535] : Fin 1 → IVec S16 32) a x).toNat < S4112.size a := fun v1535 k1_hw45 => k1_hw45
def k1_off48 (k1_t2 : Fin k1_t2_loop.trips) : Fin 1 → Nat :=
  let c125_i32_375 : BitVec 32 := 125#32
  let c0_i32_229 : BitVec 32 := 0#32
  let c1_i32_231 : BitVec 32 := 1#32
  let arg17 : BitVec 32 := Scf.iv c0_i32_229 c1_i32_231 k1_t2
  let c5_i32_374 : BitVec 32 := 5#32
  let v1536 : BitVec 32 := Scalar.muli arg17 c5_i32_374
  let v1537 : BitVec 32 := Scalar.addi c125_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1540 : Index := Scalar.indexCast v1539
  ![v1540.toNat]

def k1_chk46 (v1542 : IVec S16 32) : Prop :=
  (∀ a x, ((![v1542] : Fin 1 → IVec S16 32) a x).toNat < S2064.size a)
theorem k1_idx46_inb : ∀ (v1542 : IVec S16 32) (k1_hw46 : k1_chk46 v1542), ∀ a x, ((![v1542] : Fin 1 → IVec S16 32) a x).toNat < S2064.size a := fun v1542 k1_hw46 => k1_hw46
def k1_off49 (k1_t2 : Fin k1_t2_loop.trips) : Fin 1 → Nat :=
  let c0_i32_378 : BitVec 32 := 0#32
  let c125_i32_375 : BitVec 32 := 125#32
  let c0_i32_229 : BitVec 32 := 0#32
  let c1_i32_231 : BitVec 32 := 1#32
  let arg17 : BitVec 32 := Scf.iv c0_i32_229 c1_i32_231 k1_t2
  let c5_i32_374 : BitVec 32 := 5#32
  let v1536 : BitVec 32 := Scalar.muli arg17 c5_i32_374
  let v1537 : BitVec 32 := Scalar.addi c125_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1546 : BitVec 32 := Scalar.addi c0_i32_378 v1539
  let v1547 : Index := Scalar.indexCast v1546
  ![v1547.toNat]

def k1_chk47 (v1550 : IVec S16 32) : Prop :=
  (∀ a x, ((![v1550] : Fin 1 → IVec S16 32) a x).toNat < S4112.size a)
theorem k1_idx47_inb : ∀ (v1550 : IVec S16 32) (k1_hw47 : k1_chk47 v1550), ∀ a x, ((![v1550] : Fin 1 → IVec S16 32) a x).toNat < S4112.size a := fun v1550 k1_hw47 => k1_hw47
def k1_off50 (k1_t2 : Fin k1_t2_loop.trips) : Fin 1 → Nat :=
  let c10000_i32_380 : BitVec 32 := 10000#32
  let c125_i32_375 : BitVec 32 := 125#32
  let c0_i32_229 : BitVec 32 := 0#32
  let c1_i32_231 : BitVec 32 := 1#32
  let arg17 : BitVec 32 := Scf.iv c0_i32_229 c1_i32_231 k1_t2
  let c5_i32_374 : BitVec 32 := 5#32
  let v1536 : BitVec 32 := Scalar.muli arg17 c5_i32_374
  let v1537 : BitVec 32 := Scalar.addi c125_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1551 : BitVec 32 := Scalar.addi c10000_i32_380 v1539
  let v1552 : Index := Scalar.indexCast v1551
  ![v1552.toNat]

def k1_chk48 (v1555 : IVec S16 32) : Prop :=
  (∀ a x, ((![v1555] : Fin 1 → IVec S16 32) a x).toNat < S4112.size a)
theorem k1_idx48_inb : ∀ (v1555 : IVec S16 32) (k1_hw48 : k1_chk48 v1555), ∀ a x, ((![v1555] : Fin 1 → IVec S16 32) a x).toNat < S4112.size a := fun v1555 k1_hw48 => k1_hw48
def k1_off51 (k1_t2 : Fin k1_t2_loop.trips) : Fin 1 → Nat :=
  let c20000_i32_382 : BitVec 32 := 20000#32
  let c125_i32_375 : BitVec 32 := 125#32
  let c0_i32_229 : BitVec 32 := 0#32
  let c1_i32_231 : BitVec 32 := 1#32
  let arg17 : BitVec 32 := Scf.iv c0_i32_229 c1_i32_231 k1_t2
  let c5_i32_374 : BitVec 32 := 5#32
  let v1536 : BitVec 32 := Scalar.muli arg17 c5_i32_374
  let v1537 : BitVec 32 := Scalar.addi c125_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1556 : BitVec 32 := Scalar.addi c20000_i32_382 v1539
  let v1557 : Index := Scalar.indexCast v1556
  ![v1557.toNat]

def k1_chk49 (v1560 : IVec S16 32) : Prop :=
  (∀ a x, ((![v1560] : Fin 1 → IVec S16 32) a x).toNat < S4112.size a)
theorem k1_idx49_inb : ∀ (v1560 : IVec S16 32) (k1_hw49 : k1_chk49 v1560), ∀ a x, ((![v1560] : Fin 1 → IVec S16 32) a x).toNat < S4112.size a := fun v1560 k1_hw49 => k1_hw49
def k1_off52 (k1_t2 : Fin k1_t2_loop.trips) : Fin 1 → Nat :=
  let c30000_i32_384 : BitVec 32 := 30000#32
  let c125_i32_375 : BitVec 32 := 125#32
  let c0_i32_229 : BitVec 32 := 0#32
  let c1_i32_231 : BitVec 32 := 1#32
  let arg17 : BitVec 32 := Scf.iv c0_i32_229 c1_i32_231 k1_t2
  let c5_i32_374 : BitVec 32 := 5#32
  let v1536 : BitVec 32 := Scalar.muli arg17 c5_i32_374
  let v1537 : BitVec 32 := Scalar.addi c125_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1561 : BitVec 32 := Scalar.addi c30000_i32_384 v1539
  let v1562 : Index := Scalar.indexCast v1561
  ![v1562.toNat]

def k1_chk50 (v1565 : IVec S16 32) : Prop :=
  (∀ a x, ((![v1565] : Fin 1 → IVec S16 32) a x).toNat < S4112.size a)
theorem k1_idx50_inb : ∀ (v1565 : IVec S16 32) (k1_hw50 : k1_chk50 v1565), ∀ a x, ((![v1565] : Fin 1 → IVec S16 32) a x).toNat < S4112.size a := fun v1565 k1_hw50 => k1_hw50
@[reducible] def k1_t3_loop : Scf.Loop 32 :=
  let c0_i32_244 : BitVec 32 := 0#32
  let c25_i32_245 : BitVec 32 := 25#32
  let v605 : BitVec 32 := Scalar.addi c0_i32_244 c25_i32_245
  let c1_i32_246 : BitVec 32 := 1#32
  ⟨c0_i32_244, v605, c1_i32_246⟩
def k1_off53 (k1_t3 : Fin k1_t3_loop.trips) : Fin 1 → Nat :=
  let c250_i32 : BitVec 32 := 250#32
  let c0_i32_244 : BitVec 32 := 0#32
  let c1_i32_246 : BitVec 32 := 1#32
  let arg17 : BitVec 32 := Scf.iv c0_i32_244 c1_i32_246 k1_t3
  let c5_i32 : BitVec 32 := 5#32
  let v1416 : BitVec 32 := Scalar.muli arg17 c5_i32
  let v1417 : BitVec 32 := Scalar.addi c250_i32 v1416
  let c0_i32_326 : BitVec 32 := 0#32
  let v1418 : BitVec 32 := Scalar.addi v1417 c0_i32_326
  let c16_i32 : BitVec 32 := 16#32
  let v1419 : BitVec 32 := Scalar.muli v1418 c16_i32
  let v1420 : Index := Scalar.indexCast v1419
  ![v1420.toNat]

def k1_chk51 (v1422 : IVec S16 32) : Prop :=
  (∀ a x, ((![v1422] : Fin 1 → IVec S16 32) a x).toNat < S2064.size a)
theorem k1_idx51_inb : ∀ (v1422 : IVec S16 32) (k1_hw51 : k1_chk51 v1422), ∀ a x, ((![v1422] : Fin 1 → IVec S16 32) a x).toNat < S2064.size a := fun v1422 k1_hw51 => k1_hw51
def k1_off54 (k1_t3 : Fin k1_t3_loop.trips) : Fin 1 → Nat :=
  let c0_i32_328 : BitVec 32 := 0#32
  let c250_i32 : BitVec 32 := 250#32
  let c0_i32_244 : BitVec 32 := 0#32
  let c1_i32_246 : BitVec 32 := 1#32
  let arg17 : BitVec 32 := Scf.iv c0_i32_244 c1_i32_246 k1_t3
  let c5_i32 : BitVec 32 := 5#32
  let v1416 : BitVec 32 := Scalar.muli arg17 c5_i32
  let v1417 : BitVec 32 := Scalar.addi c250_i32 v1416
  let c0_i32_326 : BitVec 32 := 0#32
  let v1418 : BitVec 32 := Scalar.addi v1417 c0_i32_326
  let c16_i32 : BitVec 32 := 16#32
  let v1419 : BitVec 32 := Scalar.muli v1418 c16_i32
  let v1426 : BitVec 32 := Scalar.addi c0_i32_328 v1419
  let v1427 : Index := Scalar.indexCast v1426
  ![v1427.toNat]

def k1_chk52 (v1430 : IVec S16 32) : Prop :=
  (∀ a x, ((![v1430] : Fin 1 → IVec S16 32) a x).toNat < S4112.size a)
theorem k1_idx52_inb : ∀ (v1430 : IVec S16 32) (k1_hw52 : k1_chk52 v1430), ∀ a x, ((![v1430] : Fin 1 → IVec S16 32) a x).toNat < S4112.size a := fun v1430 k1_hw52 => k1_hw52
def k1_off55 (k1_t3 : Fin k1_t3_loop.trips) : Fin 1 → Nat :=
  let c10000_i32_330 : BitVec 32 := 10000#32
  let c250_i32 : BitVec 32 := 250#32
  let c0_i32_244 : BitVec 32 := 0#32
  let c1_i32_246 : BitVec 32 := 1#32
  let arg17 : BitVec 32 := Scf.iv c0_i32_244 c1_i32_246 k1_t3
  let c5_i32 : BitVec 32 := 5#32
  let v1416 : BitVec 32 := Scalar.muli arg17 c5_i32
  let v1417 : BitVec 32 := Scalar.addi c250_i32 v1416
  let c0_i32_326 : BitVec 32 := 0#32
  let v1418 : BitVec 32 := Scalar.addi v1417 c0_i32_326
  let c16_i32 : BitVec 32 := 16#32
  let v1419 : BitVec 32 := Scalar.muli v1418 c16_i32
  let v1431 : BitVec 32 := Scalar.addi c10000_i32_330 v1419
  let v1432 : Index := Scalar.indexCast v1431
  ![v1432.toNat]

def k1_chk53 (v1435 : IVec S16 32) : Prop :=
  (∀ a x, ((![v1435] : Fin 1 → IVec S16 32) a x).toNat < S4112.size a)
theorem k1_idx53_inb : ∀ (v1435 : IVec S16 32) (k1_hw53 : k1_chk53 v1435), ∀ a x, ((![v1435] : Fin 1 → IVec S16 32) a x).toNat < S4112.size a := fun v1435 k1_hw53 => k1_hw53
def k1_off56 (k1_t3 : Fin k1_t3_loop.trips) : Fin 1 → Nat :=
  let c20000_i32_332 : BitVec 32 := 20000#32
  let c250_i32 : BitVec 32 := 250#32
  let c0_i32_244 : BitVec 32 := 0#32
  let c1_i32_246 : BitVec 32 := 1#32
  let arg17 : BitVec 32 := Scf.iv c0_i32_244 c1_i32_246 k1_t3
  let c5_i32 : BitVec 32 := 5#32
  let v1416 : BitVec 32 := Scalar.muli arg17 c5_i32
  let v1417 : BitVec 32 := Scalar.addi c250_i32 v1416
  let c0_i32_326 : BitVec 32 := 0#32
  let v1418 : BitVec 32 := Scalar.addi v1417 c0_i32_326
  let c16_i32 : BitVec 32 := 16#32
  let v1419 : BitVec 32 := Scalar.muli v1418 c16_i32
  let v1436 : BitVec 32 := Scalar.addi c20000_i32_332 v1419
  let v1437 : Index := Scalar.indexCast v1436
  ![v1437.toNat]

def k1_chk54 (v1440 : IVec S16 32) : Prop :=
  (∀ a x, ((![v1440] : Fin 1 → IVec S16 32) a x).toNat < S4112.size a)
theorem k1_idx54_inb : ∀ (v1440 : IVec S16 32) (k1_hw54 : k1_chk54 v1440), ∀ a x, ((![v1440] : Fin 1 → IVec S16 32) a x).toNat < S4112.size a := fun v1440 k1_hw54 => k1_hw54
def k1_off57 (k1_t3 : Fin k1_t3_loop.trips) : Fin 1 → Nat :=
  let c30000_i32_334 : BitVec 32 := 30000#32
  let c250_i32 : BitVec 32 := 250#32
  let c0_i32_244 : BitVec 32 := 0#32
  let c1_i32_246 : BitVec 32 := 1#32
  let arg17 : BitVec 32 := Scf.iv c0_i32_244 c1_i32_246 k1_t3
  let c5_i32 : BitVec 32 := 5#32
  let v1416 : BitVec 32 := Scalar.muli arg17 c5_i32
  let v1417 : BitVec 32 := Scalar.addi c250_i32 v1416
  let c0_i32_326 : BitVec 32 := 0#32
  let v1418 : BitVec 32 := Scalar.addi v1417 c0_i32_326
  let c16_i32 : BitVec 32 := 16#32
  let v1419 : BitVec 32 := Scalar.muli v1418 c16_i32
  let v1441 : BitVec 32 := Scalar.addi c30000_i32_334 v1419
  let v1442 : Index := Scalar.indexCast v1441
  ![v1442.toNat]

def k1_chk55 (v1445 : IVec S16 32) : Prop :=
  (∀ a x, ((![v1445] : Fin 1 → IVec S16 32) a x).toNat < S4112.size a)
theorem k1_idx55_inb : ∀ (v1445 : IVec S16 32) (k1_hw55 : k1_chk55 v1445), ∀ a x, ((![v1445] : Fin 1 → IVec S16 32) a x).toNat < S4112.size a := fun v1445 k1_hw55 => k1_hw55
def k1_off58 (k1_t3 : Fin k1_t3_loop.trips) : Fin 1 → Nat :=
  let c250_i32_336 : BitVec 32 := 250#32
  let c0_i32_244 : BitVec 32 := 0#32
  let c1_i32_246 : BitVec 32 := 1#32
  let arg17 : BitVec 32 := Scf.iv c0_i32_244 c1_i32_246 k1_t3
  let c5_i32_335 : BitVec 32 := 5#32
  let v1446 : BitVec 32 := Scalar.muli arg17 c5_i32_335
  let v1447 : BitVec 32 := Scalar.addi c250_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1450 : Index := Scalar.indexCast v1449
  ![v1450.toNat]

def k1_chk56 (v1452 : IVec S16 32) : Prop :=
  (∀ a x, ((![v1452] : Fin 1 → IVec S16 32) a x).toNat < S2064.size a)
theorem k1_idx56_inb : ∀ (v1452 : IVec S16 32) (k1_hw56 : k1_chk56 v1452), ∀ a x, ((![v1452] : Fin 1 → IVec S16 32) a x).toNat < S2064.size a := fun v1452 k1_hw56 => k1_hw56
def k1_off59 (k1_t3 : Fin k1_t3_loop.trips) : Fin 1 → Nat :=
  let c0_i32_340 : BitVec 32 := 0#32
  let c250_i32_336 : BitVec 32 := 250#32
  let c0_i32_244 : BitVec 32 := 0#32
  let c1_i32_246 : BitVec 32 := 1#32
  let arg17 : BitVec 32 := Scf.iv c0_i32_244 c1_i32_246 k1_t3
  let c5_i32_335 : BitVec 32 := 5#32
  let v1446 : BitVec 32 := Scalar.muli arg17 c5_i32_335
  let v1447 : BitVec 32 := Scalar.addi c250_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1456 : BitVec 32 := Scalar.addi c0_i32_340 v1449
  let v1457 : Index := Scalar.indexCast v1456
  ![v1457.toNat]

def k1_chk57 (v1460 : IVec S16 32) : Prop :=
  (∀ a x, ((![v1460] : Fin 1 → IVec S16 32) a x).toNat < S4112.size a)
theorem k1_idx57_inb : ∀ (v1460 : IVec S16 32) (k1_hw57 : k1_chk57 v1460), ∀ a x, ((![v1460] : Fin 1 → IVec S16 32) a x).toNat < S4112.size a := fun v1460 k1_hw57 => k1_hw57
def k1_off60 (k1_t3 : Fin k1_t3_loop.trips) : Fin 1 → Nat :=
  let c10000_i32_342 : BitVec 32 := 10000#32
  let c250_i32_336 : BitVec 32 := 250#32
  let c0_i32_244 : BitVec 32 := 0#32
  let c1_i32_246 : BitVec 32 := 1#32
  let arg17 : BitVec 32 := Scf.iv c0_i32_244 c1_i32_246 k1_t3
  let c5_i32_335 : BitVec 32 := 5#32
  let v1446 : BitVec 32 := Scalar.muli arg17 c5_i32_335
  let v1447 : BitVec 32 := Scalar.addi c250_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1461 : BitVec 32 := Scalar.addi c10000_i32_342 v1449
  let v1462 : Index := Scalar.indexCast v1461
  ![v1462.toNat]

def k1_chk58 (v1465 : IVec S16 32) : Prop :=
  (∀ a x, ((![v1465] : Fin 1 → IVec S16 32) a x).toNat < S4112.size a)
theorem k1_idx58_inb : ∀ (v1465 : IVec S16 32) (k1_hw58 : k1_chk58 v1465), ∀ a x, ((![v1465] : Fin 1 → IVec S16 32) a x).toNat < S4112.size a := fun v1465 k1_hw58 => k1_hw58
def k1_off61 (k1_t3 : Fin k1_t3_loop.trips) : Fin 1 → Nat :=
  let c20000_i32_344 : BitVec 32 := 20000#32
  let c250_i32_336 : BitVec 32 := 250#32
  let c0_i32_244 : BitVec 32 := 0#32
  let c1_i32_246 : BitVec 32 := 1#32
  let arg17 : BitVec 32 := Scf.iv c0_i32_244 c1_i32_246 k1_t3
  let c5_i32_335 : BitVec 32 := 5#32
  let v1446 : BitVec 32 := Scalar.muli arg17 c5_i32_335
  let v1447 : BitVec 32 := Scalar.addi c250_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1466 : BitVec 32 := Scalar.addi c20000_i32_344 v1449
  let v1467 : Index := Scalar.indexCast v1466
  ![v1467.toNat]

def k1_chk59 (v1470 : IVec S16 32) : Prop :=
  (∀ a x, ((![v1470] : Fin 1 → IVec S16 32) a x).toNat < S4112.size a)
theorem k1_idx59_inb : ∀ (v1470 : IVec S16 32) (k1_hw59 : k1_chk59 v1470), ∀ a x, ((![v1470] : Fin 1 → IVec S16 32) a x).toNat < S4112.size a := fun v1470 k1_hw59 => k1_hw59
def k1_off62 (k1_t3 : Fin k1_t3_loop.trips) : Fin 1 → Nat :=
  let c30000_i32_346 : BitVec 32 := 30000#32
  let c250_i32_336 : BitVec 32 := 250#32
  let c0_i32_244 : BitVec 32 := 0#32
  let c1_i32_246 : BitVec 32 := 1#32
  let arg17 : BitVec 32 := Scf.iv c0_i32_244 c1_i32_246 k1_t3
  let c5_i32_335 : BitVec 32 := 5#32
  let v1446 : BitVec 32 := Scalar.muli arg17 c5_i32_335
  let v1447 : BitVec 32 := Scalar.addi c250_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1471 : BitVec 32 := Scalar.addi c30000_i32_346 v1449
  let v1472 : Index := Scalar.indexCast v1471
  ![v1472.toNat]

def k1_chk60 (v1475 : IVec S16 32) : Prop :=
  (∀ a x, ((![v1475] : Fin 1 → IVec S16 32) a x).toNat < S4112.size a)
theorem k1_idx60_inb : ∀ (v1475 : IVec S16 32) (k1_hw60 : k1_chk60 v1475), ∀ a x, ((![v1475] : Fin 1 → IVec S16 32) a x).toNat < S4112.size a := fun v1475 k1_hw60 => k1_hw60
def k1_off63 (k1_t3 : Fin k1_t3_loop.trips) : Fin 1 → Nat :=
  let c250_i32_349 : BitVec 32 := 250#32
  let c0_i32_244 : BitVec 32 := 0#32
  let c1_i32_246 : BitVec 32 := 1#32
  let arg17 : BitVec 32 := Scf.iv c0_i32_244 c1_i32_246 k1_t3
  let c5_i32_348 : BitVec 32 := 5#32
  let v1476 : BitVec 32 := Scalar.muli arg17 c5_i32_348
  let v1477 : BitVec 32 := Scalar.addi c250_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1480 : Index := Scalar.indexCast v1479
  ![v1480.toNat]

def k1_chk61 (v1482 : IVec S16 32) : Prop :=
  (∀ a x, ((![v1482] : Fin 1 → IVec S16 32) a x).toNat < S2064.size a)
theorem k1_idx61_inb : ∀ (v1482 : IVec S16 32) (k1_hw61 : k1_chk61 v1482), ∀ a x, ((![v1482] : Fin 1 → IVec S16 32) a x).toNat < S2064.size a := fun v1482 k1_hw61 => k1_hw61
def k1_off64 (k1_t3 : Fin k1_t3_loop.trips) : Fin 1 → Nat :=
  let c0_i32_353 : BitVec 32 := 0#32
  let c250_i32_349 : BitVec 32 := 250#32
  let c0_i32_244 : BitVec 32 := 0#32
  let c1_i32_246 : BitVec 32 := 1#32
  let arg17 : BitVec 32 := Scf.iv c0_i32_244 c1_i32_246 k1_t3
  let c5_i32_348 : BitVec 32 := 5#32
  let v1476 : BitVec 32 := Scalar.muli arg17 c5_i32_348
  let v1477 : BitVec 32 := Scalar.addi c250_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1486 : BitVec 32 := Scalar.addi c0_i32_353 v1479
  let v1487 : Index := Scalar.indexCast v1486
  ![v1487.toNat]

def k1_chk62 (v1490 : IVec S16 32) : Prop :=
  (∀ a x, ((![v1490] : Fin 1 → IVec S16 32) a x).toNat < S4112.size a)
theorem k1_idx62_inb : ∀ (v1490 : IVec S16 32) (k1_hw62 : k1_chk62 v1490), ∀ a x, ((![v1490] : Fin 1 → IVec S16 32) a x).toNat < S4112.size a := fun v1490 k1_hw62 => k1_hw62
def k1_off65 (k1_t3 : Fin k1_t3_loop.trips) : Fin 1 → Nat :=
  let c10000_i32_355 : BitVec 32 := 10000#32
  let c250_i32_349 : BitVec 32 := 250#32
  let c0_i32_244 : BitVec 32 := 0#32
  let c1_i32_246 : BitVec 32 := 1#32
  let arg17 : BitVec 32 := Scf.iv c0_i32_244 c1_i32_246 k1_t3
  let c5_i32_348 : BitVec 32 := 5#32
  let v1476 : BitVec 32 := Scalar.muli arg17 c5_i32_348
  let v1477 : BitVec 32 := Scalar.addi c250_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1491 : BitVec 32 := Scalar.addi c10000_i32_355 v1479
  let v1492 : Index := Scalar.indexCast v1491
  ![v1492.toNat]

def k1_chk63 (v1495 : IVec S16 32) : Prop :=
  (∀ a x, ((![v1495] : Fin 1 → IVec S16 32) a x).toNat < S4112.size a)
theorem k1_idx63_inb : ∀ (v1495 : IVec S16 32) (k1_hw63 : k1_chk63 v1495), ∀ a x, ((![v1495] : Fin 1 → IVec S16 32) a x).toNat < S4112.size a := fun v1495 k1_hw63 => k1_hw63
def k1_off66 (k1_t3 : Fin k1_t3_loop.trips) : Fin 1 → Nat :=
  let c20000_i32_357 : BitVec 32 := 20000#32
  let c250_i32_349 : BitVec 32 := 250#32
  let c0_i32_244 : BitVec 32 := 0#32
  let c1_i32_246 : BitVec 32 := 1#32
  let arg17 : BitVec 32 := Scf.iv c0_i32_244 c1_i32_246 k1_t3
  let c5_i32_348 : BitVec 32 := 5#32
  let v1476 : BitVec 32 := Scalar.muli arg17 c5_i32_348
  let v1477 : BitVec 32 := Scalar.addi c250_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1496 : BitVec 32 := Scalar.addi c20000_i32_357 v1479
  let v1497 : Index := Scalar.indexCast v1496
  ![v1497.toNat]

def k1_chk64 (v1500 : IVec S16 32) : Prop :=
  (∀ a x, ((![v1500] : Fin 1 → IVec S16 32) a x).toNat < S4112.size a)
theorem k1_idx64_inb : ∀ (v1500 : IVec S16 32) (k1_hw64 : k1_chk64 v1500), ∀ a x, ((![v1500] : Fin 1 → IVec S16 32) a x).toNat < S4112.size a := fun v1500 k1_hw64 => k1_hw64
def k1_off67 (k1_t3 : Fin k1_t3_loop.trips) : Fin 1 → Nat :=
  let c30000_i32_359 : BitVec 32 := 30000#32
  let c250_i32_349 : BitVec 32 := 250#32
  let c0_i32_244 : BitVec 32 := 0#32
  let c1_i32_246 : BitVec 32 := 1#32
  let arg17 : BitVec 32 := Scf.iv c0_i32_244 c1_i32_246 k1_t3
  let c5_i32_348 : BitVec 32 := 5#32
  let v1476 : BitVec 32 := Scalar.muli arg17 c5_i32_348
  let v1477 : BitVec 32 := Scalar.addi c250_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1501 : BitVec 32 := Scalar.addi c30000_i32_359 v1479
  let v1502 : Index := Scalar.indexCast v1501
  ![v1502.toNat]

def k1_chk65 (v1505 : IVec S16 32) : Prop :=
  (∀ a x, ((![v1505] : Fin 1 → IVec S16 32) a x).toNat < S4112.size a)
theorem k1_idx65_inb : ∀ (v1505 : IVec S16 32) (k1_hw65 : k1_chk65 v1505), ∀ a x, ((![v1505] : Fin 1 → IVec S16 32) a x).toNat < S4112.size a := fun v1505 k1_hw65 => k1_hw65
def k1_off68 (k1_t3 : Fin k1_t3_loop.trips) : Fin 1 → Nat :=
  let c250_i32_362 : BitVec 32 := 250#32
  let c0_i32_244 : BitVec 32 := 0#32
  let c1_i32_246 : BitVec 32 := 1#32
  let arg17 : BitVec 32 := Scf.iv c0_i32_244 c1_i32_246 k1_t3
  let c5_i32_361 : BitVec 32 := 5#32
  let v1506 : BitVec 32 := Scalar.muli arg17 c5_i32_361
  let v1507 : BitVec 32 := Scalar.addi c250_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1510 : Index := Scalar.indexCast v1509
  ![v1510.toNat]

def k1_chk66 (v1512 : IVec S16 32) : Prop :=
  (∀ a x, ((![v1512] : Fin 1 → IVec S16 32) a x).toNat < S2064.size a)
theorem k1_idx66_inb : ∀ (v1512 : IVec S16 32) (k1_hw66 : k1_chk66 v1512), ∀ a x, ((![v1512] : Fin 1 → IVec S16 32) a x).toNat < S2064.size a := fun v1512 k1_hw66 => k1_hw66
def k1_off69 (k1_t3 : Fin k1_t3_loop.trips) : Fin 1 → Nat :=
  let c0_i32_366 : BitVec 32 := 0#32
  let c250_i32_362 : BitVec 32 := 250#32
  let c0_i32_244 : BitVec 32 := 0#32
  let c1_i32_246 : BitVec 32 := 1#32
  let arg17 : BitVec 32 := Scf.iv c0_i32_244 c1_i32_246 k1_t3
  let c5_i32_361 : BitVec 32 := 5#32
  let v1506 : BitVec 32 := Scalar.muli arg17 c5_i32_361
  let v1507 : BitVec 32 := Scalar.addi c250_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1516 : BitVec 32 := Scalar.addi c0_i32_366 v1509
  let v1517 : Index := Scalar.indexCast v1516
  ![v1517.toNat]

def k1_chk67 (v1520 : IVec S16 32) : Prop :=
  (∀ a x, ((![v1520] : Fin 1 → IVec S16 32) a x).toNat < S4112.size a)
theorem k1_idx67_inb : ∀ (v1520 : IVec S16 32) (k1_hw67 : k1_chk67 v1520), ∀ a x, ((![v1520] : Fin 1 → IVec S16 32) a x).toNat < S4112.size a := fun v1520 k1_hw67 => k1_hw67
def k1_off70 (k1_t3 : Fin k1_t3_loop.trips) : Fin 1 → Nat :=
  let c10000_i32_368 : BitVec 32 := 10000#32
  let c250_i32_362 : BitVec 32 := 250#32
  let c0_i32_244 : BitVec 32 := 0#32
  let c1_i32_246 : BitVec 32 := 1#32
  let arg17 : BitVec 32 := Scf.iv c0_i32_244 c1_i32_246 k1_t3
  let c5_i32_361 : BitVec 32 := 5#32
  let v1506 : BitVec 32 := Scalar.muli arg17 c5_i32_361
  let v1507 : BitVec 32 := Scalar.addi c250_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1521 : BitVec 32 := Scalar.addi c10000_i32_368 v1509
  let v1522 : Index := Scalar.indexCast v1521
  ![v1522.toNat]

def k1_chk68 (v1525 : IVec S16 32) : Prop :=
  (∀ a x, ((![v1525] : Fin 1 → IVec S16 32) a x).toNat < S4112.size a)
theorem k1_idx68_inb : ∀ (v1525 : IVec S16 32) (k1_hw68 : k1_chk68 v1525), ∀ a x, ((![v1525] : Fin 1 → IVec S16 32) a x).toNat < S4112.size a := fun v1525 k1_hw68 => k1_hw68
def k1_off71 (k1_t3 : Fin k1_t3_loop.trips) : Fin 1 → Nat :=
  let c20000_i32_370 : BitVec 32 := 20000#32
  let c250_i32_362 : BitVec 32 := 250#32
  let c0_i32_244 : BitVec 32 := 0#32
  let c1_i32_246 : BitVec 32 := 1#32
  let arg17 : BitVec 32 := Scf.iv c0_i32_244 c1_i32_246 k1_t3
  let c5_i32_361 : BitVec 32 := 5#32
  let v1506 : BitVec 32 := Scalar.muli arg17 c5_i32_361
  let v1507 : BitVec 32 := Scalar.addi c250_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1526 : BitVec 32 := Scalar.addi c20000_i32_370 v1509
  let v1527 : Index := Scalar.indexCast v1526
  ![v1527.toNat]

def k1_chk69 (v1530 : IVec S16 32) : Prop :=
  (∀ a x, ((![v1530] : Fin 1 → IVec S16 32) a x).toNat < S4112.size a)
theorem k1_idx69_inb : ∀ (v1530 : IVec S16 32) (k1_hw69 : k1_chk69 v1530), ∀ a x, ((![v1530] : Fin 1 → IVec S16 32) a x).toNat < S4112.size a := fun v1530 k1_hw69 => k1_hw69
def k1_off72 (k1_t3 : Fin k1_t3_loop.trips) : Fin 1 → Nat :=
  let c30000_i32_372 : BitVec 32 := 30000#32
  let c250_i32_362 : BitVec 32 := 250#32
  let c0_i32_244 : BitVec 32 := 0#32
  let c1_i32_246 : BitVec 32 := 1#32
  let arg17 : BitVec 32 := Scf.iv c0_i32_244 c1_i32_246 k1_t3
  let c5_i32_361 : BitVec 32 := 5#32
  let v1506 : BitVec 32 := Scalar.muli arg17 c5_i32_361
  let v1507 : BitVec 32 := Scalar.addi c250_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1531 : BitVec 32 := Scalar.addi c30000_i32_372 v1509
  let v1532 : Index := Scalar.indexCast v1531
  ![v1532.toNat]

def k1_chk70 (v1535 : IVec S16 32) : Prop :=
  (∀ a x, ((![v1535] : Fin 1 → IVec S16 32) a x).toNat < S4112.size a)
theorem k1_idx70_inb : ∀ (v1535 : IVec S16 32) (k1_hw70 : k1_chk70 v1535), ∀ a x, ((![v1535] : Fin 1 → IVec S16 32) a x).toNat < S4112.size a := fun v1535 k1_hw70 => k1_hw70
def k1_off73 (k1_t3 : Fin k1_t3_loop.trips) : Fin 1 → Nat :=
  let c250_i32_375 : BitVec 32 := 250#32
  let c0_i32_244 : BitVec 32 := 0#32
  let c1_i32_246 : BitVec 32 := 1#32
  let arg17 : BitVec 32 := Scf.iv c0_i32_244 c1_i32_246 k1_t3
  let c5_i32_374 : BitVec 32 := 5#32
  let v1536 : BitVec 32 := Scalar.muli arg17 c5_i32_374
  let v1537 : BitVec 32 := Scalar.addi c250_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1540 : Index := Scalar.indexCast v1539
  ![v1540.toNat]

def k1_chk71 (v1542 : IVec S16 32) : Prop :=
  (∀ a x, ((![v1542] : Fin 1 → IVec S16 32) a x).toNat < S2064.size a)
theorem k1_idx71_inb : ∀ (v1542 : IVec S16 32) (k1_hw71 : k1_chk71 v1542), ∀ a x, ((![v1542] : Fin 1 → IVec S16 32) a x).toNat < S2064.size a := fun v1542 k1_hw71 => k1_hw71
def k1_off74 (k1_t3 : Fin k1_t3_loop.trips) : Fin 1 → Nat :=
  let c0_i32_378 : BitVec 32 := 0#32
  let c250_i32_375 : BitVec 32 := 250#32
  let c0_i32_244 : BitVec 32 := 0#32
  let c1_i32_246 : BitVec 32 := 1#32
  let arg17 : BitVec 32 := Scf.iv c0_i32_244 c1_i32_246 k1_t3
  let c5_i32_374 : BitVec 32 := 5#32
  let v1536 : BitVec 32 := Scalar.muli arg17 c5_i32_374
  let v1537 : BitVec 32 := Scalar.addi c250_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1546 : BitVec 32 := Scalar.addi c0_i32_378 v1539
  let v1547 : Index := Scalar.indexCast v1546
  ![v1547.toNat]

def k1_chk72 (v1550 : IVec S16 32) : Prop :=
  (∀ a x, ((![v1550] : Fin 1 → IVec S16 32) a x).toNat < S4112.size a)
theorem k1_idx72_inb : ∀ (v1550 : IVec S16 32) (k1_hw72 : k1_chk72 v1550), ∀ a x, ((![v1550] : Fin 1 → IVec S16 32) a x).toNat < S4112.size a := fun v1550 k1_hw72 => k1_hw72
def k1_off75 (k1_t3 : Fin k1_t3_loop.trips) : Fin 1 → Nat :=
  let c10000_i32_380 : BitVec 32 := 10000#32
  let c250_i32_375 : BitVec 32 := 250#32
  let c0_i32_244 : BitVec 32 := 0#32
  let c1_i32_246 : BitVec 32 := 1#32
  let arg17 : BitVec 32 := Scf.iv c0_i32_244 c1_i32_246 k1_t3
  let c5_i32_374 : BitVec 32 := 5#32
  let v1536 : BitVec 32 := Scalar.muli arg17 c5_i32_374
  let v1537 : BitVec 32 := Scalar.addi c250_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1551 : BitVec 32 := Scalar.addi c10000_i32_380 v1539
  let v1552 : Index := Scalar.indexCast v1551
  ![v1552.toNat]

def k1_chk73 (v1555 : IVec S16 32) : Prop :=
  (∀ a x, ((![v1555] : Fin 1 → IVec S16 32) a x).toNat < S4112.size a)
theorem k1_idx73_inb : ∀ (v1555 : IVec S16 32) (k1_hw73 : k1_chk73 v1555), ∀ a x, ((![v1555] : Fin 1 → IVec S16 32) a x).toNat < S4112.size a := fun v1555 k1_hw73 => k1_hw73
def k1_off76 (k1_t3 : Fin k1_t3_loop.trips) : Fin 1 → Nat :=
  let c20000_i32_382 : BitVec 32 := 20000#32
  let c250_i32_375 : BitVec 32 := 250#32
  let c0_i32_244 : BitVec 32 := 0#32
  let c1_i32_246 : BitVec 32 := 1#32
  let arg17 : BitVec 32 := Scf.iv c0_i32_244 c1_i32_246 k1_t3
  let c5_i32_374 : BitVec 32 := 5#32
  let v1536 : BitVec 32 := Scalar.muli arg17 c5_i32_374
  let v1537 : BitVec 32 := Scalar.addi c250_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1556 : BitVec 32 := Scalar.addi c20000_i32_382 v1539
  let v1557 : Index := Scalar.indexCast v1556
  ![v1557.toNat]

def k1_chk74 (v1560 : IVec S16 32) : Prop :=
  (∀ a x, ((![v1560] : Fin 1 → IVec S16 32) a x).toNat < S4112.size a)
theorem k1_idx74_inb : ∀ (v1560 : IVec S16 32) (k1_hw74 : k1_chk74 v1560), ∀ a x, ((![v1560] : Fin 1 → IVec S16 32) a x).toNat < S4112.size a := fun v1560 k1_hw74 => k1_hw74
def k1_off77 (k1_t3 : Fin k1_t3_loop.trips) : Fin 1 → Nat :=
  let c30000_i32_384 : BitVec 32 := 30000#32
  let c250_i32_375 : BitVec 32 := 250#32
  let c0_i32_244 : BitVec 32 := 0#32
  let c1_i32_246 : BitVec 32 := 1#32
  let arg17 : BitVec 32 := Scf.iv c0_i32_244 c1_i32_246 k1_t3
  let c5_i32_374 : BitVec 32 := 5#32
  let v1536 : BitVec 32 := Scalar.muli arg17 c5_i32_374
  let v1537 : BitVec 32 := Scalar.addi c250_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1561 : BitVec 32 := Scalar.addi c30000_i32_384 v1539
  let v1562 : Index := Scalar.indexCast v1561
  ![v1562.toNat]

def k1_chk75 (v1565 : IVec S16 32) : Prop :=
  (∀ a x, ((![v1565] : Fin 1 → IVec S16 32) a x).toNat < S4112.size a)
theorem k1_idx75_inb : ∀ (v1565 : IVec S16 32) (k1_hw75 : k1_chk75 v1565), ∀ a x, ((![v1565] : Fin 1 → IVec S16 32) a x).toNat < S4112.size a := fun v1565 k1_hw75 => k1_hw75
@[reducible] def k1_t4_loop : Scf.Loop 32 :=
  let c0_i32_259 : BitVec 32 := 0#32
  let c25_i32_260 : BitVec 32 := 25#32
  let v626 : BitVec 32 := Scalar.addi c0_i32_259 c25_i32_260
  let c1_i32_261 : BitVec 32 := 1#32
  ⟨c0_i32_259, v626, c1_i32_261⟩
def k1_off78 (k1_t4 : Fin k1_t4_loop.trips) : Fin 1 → Nat :=
  let c375_i32 : BitVec 32 := 375#32
  let c0_i32_259 : BitVec 32 := 0#32
  let c1_i32_261 : BitVec 32 := 1#32
  let arg17 : BitVec 32 := Scf.iv c0_i32_259 c1_i32_261 k1_t4
  let c5_i32 : BitVec 32 := 5#32
  let v1416 : BitVec 32 := Scalar.muli arg17 c5_i32
  let v1417 : BitVec 32 := Scalar.addi c375_i32 v1416
  let c0_i32_326 : BitVec 32 := 0#32
  let v1418 : BitVec 32 := Scalar.addi v1417 c0_i32_326
  let c16_i32 : BitVec 32 := 16#32
  let v1419 : BitVec 32 := Scalar.muli v1418 c16_i32
  let v1420 : Index := Scalar.indexCast v1419
  ![v1420.toNat]

def k1_chk76 (v1422 : IVec S16 32) : Prop :=
  (∀ a x, ((![v1422] : Fin 1 → IVec S16 32) a x).toNat < S2064.size a)
theorem k1_idx76_inb : ∀ (v1422 : IVec S16 32) (k1_hw76 : k1_chk76 v1422), ∀ a x, ((![v1422] : Fin 1 → IVec S16 32) a x).toNat < S2064.size a := fun v1422 k1_hw76 => k1_hw76
def k1_off79 (k1_t4 : Fin k1_t4_loop.trips) : Fin 1 → Nat :=
  let c0_i32_328 : BitVec 32 := 0#32
  let c375_i32 : BitVec 32 := 375#32
  let c0_i32_259 : BitVec 32 := 0#32
  let c1_i32_261 : BitVec 32 := 1#32
  let arg17 : BitVec 32 := Scf.iv c0_i32_259 c1_i32_261 k1_t4
  let c5_i32 : BitVec 32 := 5#32
  let v1416 : BitVec 32 := Scalar.muli arg17 c5_i32
  let v1417 : BitVec 32 := Scalar.addi c375_i32 v1416
  let c0_i32_326 : BitVec 32 := 0#32
  let v1418 : BitVec 32 := Scalar.addi v1417 c0_i32_326
  let c16_i32 : BitVec 32 := 16#32
  let v1419 : BitVec 32 := Scalar.muli v1418 c16_i32
  let v1426 : BitVec 32 := Scalar.addi c0_i32_328 v1419
  let v1427 : Index := Scalar.indexCast v1426
  ![v1427.toNat]

def k1_chk77 (v1430 : IVec S16 32) : Prop :=
  (∀ a x, ((![v1430] : Fin 1 → IVec S16 32) a x).toNat < S4112.size a)
theorem k1_idx77_inb : ∀ (v1430 : IVec S16 32) (k1_hw77 : k1_chk77 v1430), ∀ a x, ((![v1430] : Fin 1 → IVec S16 32) a x).toNat < S4112.size a := fun v1430 k1_hw77 => k1_hw77
def k1_off80 (k1_t4 : Fin k1_t4_loop.trips) : Fin 1 → Nat :=
  let c10000_i32_330 : BitVec 32 := 10000#32
  let c375_i32 : BitVec 32 := 375#32
  let c0_i32_259 : BitVec 32 := 0#32
  let c1_i32_261 : BitVec 32 := 1#32
  let arg17 : BitVec 32 := Scf.iv c0_i32_259 c1_i32_261 k1_t4
  let c5_i32 : BitVec 32 := 5#32
  let v1416 : BitVec 32 := Scalar.muli arg17 c5_i32
  let v1417 : BitVec 32 := Scalar.addi c375_i32 v1416
  let c0_i32_326 : BitVec 32 := 0#32
  let v1418 : BitVec 32 := Scalar.addi v1417 c0_i32_326
  let c16_i32 : BitVec 32 := 16#32
  let v1419 : BitVec 32 := Scalar.muli v1418 c16_i32
  let v1431 : BitVec 32 := Scalar.addi c10000_i32_330 v1419
  let v1432 : Index := Scalar.indexCast v1431
  ![v1432.toNat]

def k1_chk78 (v1435 : IVec S16 32) : Prop :=
  (∀ a x, ((![v1435] : Fin 1 → IVec S16 32) a x).toNat < S4112.size a)
theorem k1_idx78_inb : ∀ (v1435 : IVec S16 32) (k1_hw78 : k1_chk78 v1435), ∀ a x, ((![v1435] : Fin 1 → IVec S16 32) a x).toNat < S4112.size a := fun v1435 k1_hw78 => k1_hw78
def k1_off81 (k1_t4 : Fin k1_t4_loop.trips) : Fin 1 → Nat :=
  let c20000_i32_332 : BitVec 32 := 20000#32
  let c375_i32 : BitVec 32 := 375#32
  let c0_i32_259 : BitVec 32 := 0#32
  let c1_i32_261 : BitVec 32 := 1#32
  let arg17 : BitVec 32 := Scf.iv c0_i32_259 c1_i32_261 k1_t4
  let c5_i32 : BitVec 32 := 5#32
  let v1416 : BitVec 32 := Scalar.muli arg17 c5_i32
  let v1417 : BitVec 32 := Scalar.addi c375_i32 v1416
  let c0_i32_326 : BitVec 32 := 0#32
  let v1418 : BitVec 32 := Scalar.addi v1417 c0_i32_326
  let c16_i32 : BitVec 32 := 16#32
  let v1419 : BitVec 32 := Scalar.muli v1418 c16_i32
  let v1436 : BitVec 32 := Scalar.addi c20000_i32_332 v1419
  let v1437 : Index := Scalar.indexCast v1436
  ![v1437.toNat]

def k1_chk79 (v1440 : IVec S16 32) : Prop :=
  (∀ a x, ((![v1440] : Fin 1 → IVec S16 32) a x).toNat < S4112.size a)
theorem k1_idx79_inb : ∀ (v1440 : IVec S16 32) (k1_hw79 : k1_chk79 v1440), ∀ a x, ((![v1440] : Fin 1 → IVec S16 32) a x).toNat < S4112.size a := fun v1440 k1_hw79 => k1_hw79
def k1_off82 (k1_t4 : Fin k1_t4_loop.trips) : Fin 1 → Nat :=
  let c30000_i32_334 : BitVec 32 := 30000#32
  let c375_i32 : BitVec 32 := 375#32
  let c0_i32_259 : BitVec 32 := 0#32
  let c1_i32_261 : BitVec 32 := 1#32
  let arg17 : BitVec 32 := Scf.iv c0_i32_259 c1_i32_261 k1_t4
  let c5_i32 : BitVec 32 := 5#32
  let v1416 : BitVec 32 := Scalar.muli arg17 c5_i32
  let v1417 : BitVec 32 := Scalar.addi c375_i32 v1416
  let c0_i32_326 : BitVec 32 := 0#32
  let v1418 : BitVec 32 := Scalar.addi v1417 c0_i32_326
  let c16_i32 : BitVec 32 := 16#32
  let v1419 : BitVec 32 := Scalar.muli v1418 c16_i32
  let v1441 : BitVec 32 := Scalar.addi c30000_i32_334 v1419
  let v1442 : Index := Scalar.indexCast v1441
  ![v1442.toNat]

def k1_chk80 (v1445 : IVec S16 32) : Prop :=
  (∀ a x, ((![v1445] : Fin 1 → IVec S16 32) a x).toNat < S4112.size a)
theorem k1_idx80_inb : ∀ (v1445 : IVec S16 32) (k1_hw80 : k1_chk80 v1445), ∀ a x, ((![v1445] : Fin 1 → IVec S16 32) a x).toNat < S4112.size a := fun v1445 k1_hw80 => k1_hw80
def k1_off83 (k1_t4 : Fin k1_t4_loop.trips) : Fin 1 → Nat :=
  let c375_i32_336 : BitVec 32 := 375#32
  let c0_i32_259 : BitVec 32 := 0#32
  let c1_i32_261 : BitVec 32 := 1#32
  let arg17 : BitVec 32 := Scf.iv c0_i32_259 c1_i32_261 k1_t4
  let c5_i32_335 : BitVec 32 := 5#32
  let v1446 : BitVec 32 := Scalar.muli arg17 c5_i32_335
  let v1447 : BitVec 32 := Scalar.addi c375_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1450 : Index := Scalar.indexCast v1449
  ![v1450.toNat]

def k1_chk81 (v1452 : IVec S16 32) : Prop :=
  (∀ a x, ((![v1452] : Fin 1 → IVec S16 32) a x).toNat < S2064.size a)
theorem k1_idx81_inb : ∀ (v1452 : IVec S16 32) (k1_hw81 : k1_chk81 v1452), ∀ a x, ((![v1452] : Fin 1 → IVec S16 32) a x).toNat < S2064.size a := fun v1452 k1_hw81 => k1_hw81
def k1_off84 (k1_t4 : Fin k1_t4_loop.trips) : Fin 1 → Nat :=
  let c0_i32_340 : BitVec 32 := 0#32
  let c375_i32_336 : BitVec 32 := 375#32
  let c0_i32_259 : BitVec 32 := 0#32
  let c1_i32_261 : BitVec 32 := 1#32
  let arg17 : BitVec 32 := Scf.iv c0_i32_259 c1_i32_261 k1_t4
  let c5_i32_335 : BitVec 32 := 5#32
  let v1446 : BitVec 32 := Scalar.muli arg17 c5_i32_335
  let v1447 : BitVec 32 := Scalar.addi c375_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1456 : BitVec 32 := Scalar.addi c0_i32_340 v1449
  let v1457 : Index := Scalar.indexCast v1456
  ![v1457.toNat]

def k1_chk82 (v1460 : IVec S16 32) : Prop :=
  (∀ a x, ((![v1460] : Fin 1 → IVec S16 32) a x).toNat < S4112.size a)
theorem k1_idx82_inb : ∀ (v1460 : IVec S16 32) (k1_hw82 : k1_chk82 v1460), ∀ a x, ((![v1460] : Fin 1 → IVec S16 32) a x).toNat < S4112.size a := fun v1460 k1_hw82 => k1_hw82
def k1_off85 (k1_t4 : Fin k1_t4_loop.trips) : Fin 1 → Nat :=
  let c10000_i32_342 : BitVec 32 := 10000#32
  let c375_i32_336 : BitVec 32 := 375#32
  let c0_i32_259 : BitVec 32 := 0#32
  let c1_i32_261 : BitVec 32 := 1#32
  let arg17 : BitVec 32 := Scf.iv c0_i32_259 c1_i32_261 k1_t4
  let c5_i32_335 : BitVec 32 := 5#32
  let v1446 : BitVec 32 := Scalar.muli arg17 c5_i32_335
  let v1447 : BitVec 32 := Scalar.addi c375_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1461 : BitVec 32 := Scalar.addi c10000_i32_342 v1449
  let v1462 : Index := Scalar.indexCast v1461
  ![v1462.toNat]

def k1_chk83 (v1465 : IVec S16 32) : Prop :=
  (∀ a x, ((![v1465] : Fin 1 → IVec S16 32) a x).toNat < S4112.size a)
theorem k1_idx83_inb : ∀ (v1465 : IVec S16 32) (k1_hw83 : k1_chk83 v1465), ∀ a x, ((![v1465] : Fin 1 → IVec S16 32) a x).toNat < S4112.size a := fun v1465 k1_hw83 => k1_hw83
def k1_off86 (k1_t4 : Fin k1_t4_loop.trips) : Fin 1 → Nat :=
  let c20000_i32_344 : BitVec 32 := 20000#32
  let c375_i32_336 : BitVec 32 := 375#32
  let c0_i32_259 : BitVec 32 := 0#32
  let c1_i32_261 : BitVec 32 := 1#32
  let arg17 : BitVec 32 := Scf.iv c0_i32_259 c1_i32_261 k1_t4
  let c5_i32_335 : BitVec 32 := 5#32
  let v1446 : BitVec 32 := Scalar.muli arg17 c5_i32_335
  let v1447 : BitVec 32 := Scalar.addi c375_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1466 : BitVec 32 := Scalar.addi c20000_i32_344 v1449
  let v1467 : Index := Scalar.indexCast v1466
  ![v1467.toNat]

def k1_chk84 (v1470 : IVec S16 32) : Prop :=
  (∀ a x, ((![v1470] : Fin 1 → IVec S16 32) a x).toNat < S4112.size a)
theorem k1_idx84_inb : ∀ (v1470 : IVec S16 32) (k1_hw84 : k1_chk84 v1470), ∀ a x, ((![v1470] : Fin 1 → IVec S16 32) a x).toNat < S4112.size a := fun v1470 k1_hw84 => k1_hw84
def k1_off87 (k1_t4 : Fin k1_t4_loop.trips) : Fin 1 → Nat :=
  let c30000_i32_346 : BitVec 32 := 30000#32
  let c375_i32_336 : BitVec 32 := 375#32
  let c0_i32_259 : BitVec 32 := 0#32
  let c1_i32_261 : BitVec 32 := 1#32
  let arg17 : BitVec 32 := Scf.iv c0_i32_259 c1_i32_261 k1_t4
  let c5_i32_335 : BitVec 32 := 5#32
  let v1446 : BitVec 32 := Scalar.muli arg17 c5_i32_335
  let v1447 : BitVec 32 := Scalar.addi c375_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1471 : BitVec 32 := Scalar.addi c30000_i32_346 v1449
  let v1472 : Index := Scalar.indexCast v1471
  ![v1472.toNat]

def k1_chk85 (v1475 : IVec S16 32) : Prop :=
  (∀ a x, ((![v1475] : Fin 1 → IVec S16 32) a x).toNat < S4112.size a)
theorem k1_idx85_inb : ∀ (v1475 : IVec S16 32) (k1_hw85 : k1_chk85 v1475), ∀ a x, ((![v1475] : Fin 1 → IVec S16 32) a x).toNat < S4112.size a := fun v1475 k1_hw85 => k1_hw85
def k1_off88 (k1_t4 : Fin k1_t4_loop.trips) : Fin 1 → Nat :=
  let c375_i32_349 : BitVec 32 := 375#32
  let c0_i32_259 : BitVec 32 := 0#32
  let c1_i32_261 : BitVec 32 := 1#32
  let arg17 : BitVec 32 := Scf.iv c0_i32_259 c1_i32_261 k1_t4
  let c5_i32_348 : BitVec 32 := 5#32
  let v1476 : BitVec 32 := Scalar.muli arg17 c5_i32_348
  let v1477 : BitVec 32 := Scalar.addi c375_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1480 : Index := Scalar.indexCast v1479
  ![v1480.toNat]

def k1_chk86 (v1482 : IVec S16 32) : Prop :=
  (∀ a x, ((![v1482] : Fin 1 → IVec S16 32) a x).toNat < S2064.size a)
theorem k1_idx86_inb : ∀ (v1482 : IVec S16 32) (k1_hw86 : k1_chk86 v1482), ∀ a x, ((![v1482] : Fin 1 → IVec S16 32) a x).toNat < S2064.size a := fun v1482 k1_hw86 => k1_hw86
def k1_off89 (k1_t4 : Fin k1_t4_loop.trips) : Fin 1 → Nat :=
  let c0_i32_353 : BitVec 32 := 0#32
  let c375_i32_349 : BitVec 32 := 375#32
  let c0_i32_259 : BitVec 32 := 0#32
  let c1_i32_261 : BitVec 32 := 1#32
  let arg17 : BitVec 32 := Scf.iv c0_i32_259 c1_i32_261 k1_t4
  let c5_i32_348 : BitVec 32 := 5#32
  let v1476 : BitVec 32 := Scalar.muli arg17 c5_i32_348
  let v1477 : BitVec 32 := Scalar.addi c375_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1486 : BitVec 32 := Scalar.addi c0_i32_353 v1479
  let v1487 : Index := Scalar.indexCast v1486
  ![v1487.toNat]

def k1_chk87 (v1490 : IVec S16 32) : Prop :=
  (∀ a x, ((![v1490] : Fin 1 → IVec S16 32) a x).toNat < S4112.size a)
theorem k1_idx87_inb : ∀ (v1490 : IVec S16 32) (k1_hw87 : k1_chk87 v1490), ∀ a x, ((![v1490] : Fin 1 → IVec S16 32) a x).toNat < S4112.size a := fun v1490 k1_hw87 => k1_hw87
def k1_off90 (k1_t4 : Fin k1_t4_loop.trips) : Fin 1 → Nat :=
  let c10000_i32_355 : BitVec 32 := 10000#32
  let c375_i32_349 : BitVec 32 := 375#32
  let c0_i32_259 : BitVec 32 := 0#32
  let c1_i32_261 : BitVec 32 := 1#32
  let arg17 : BitVec 32 := Scf.iv c0_i32_259 c1_i32_261 k1_t4
  let c5_i32_348 : BitVec 32 := 5#32
  let v1476 : BitVec 32 := Scalar.muli arg17 c5_i32_348
  let v1477 : BitVec 32 := Scalar.addi c375_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1491 : BitVec 32 := Scalar.addi c10000_i32_355 v1479
  let v1492 : Index := Scalar.indexCast v1491
  ![v1492.toNat]

def k1_chk88 (v1495 : IVec S16 32) : Prop :=
  (∀ a x, ((![v1495] : Fin 1 → IVec S16 32) a x).toNat < S4112.size a)
theorem k1_idx88_inb : ∀ (v1495 : IVec S16 32) (k1_hw88 : k1_chk88 v1495), ∀ a x, ((![v1495] : Fin 1 → IVec S16 32) a x).toNat < S4112.size a := fun v1495 k1_hw88 => k1_hw88
def k1_off91 (k1_t4 : Fin k1_t4_loop.trips) : Fin 1 → Nat :=
  let c20000_i32_357 : BitVec 32 := 20000#32
  let c375_i32_349 : BitVec 32 := 375#32
  let c0_i32_259 : BitVec 32 := 0#32
  let c1_i32_261 : BitVec 32 := 1#32
  let arg17 : BitVec 32 := Scf.iv c0_i32_259 c1_i32_261 k1_t4
  let c5_i32_348 : BitVec 32 := 5#32
  let v1476 : BitVec 32 := Scalar.muli arg17 c5_i32_348
  let v1477 : BitVec 32 := Scalar.addi c375_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1496 : BitVec 32 := Scalar.addi c20000_i32_357 v1479
  let v1497 : Index := Scalar.indexCast v1496
  ![v1497.toNat]

def k1_chk89 (v1500 : IVec S16 32) : Prop :=
  (∀ a x, ((![v1500] : Fin 1 → IVec S16 32) a x).toNat < S4112.size a)
theorem k1_idx89_inb : ∀ (v1500 : IVec S16 32) (k1_hw89 : k1_chk89 v1500), ∀ a x, ((![v1500] : Fin 1 → IVec S16 32) a x).toNat < S4112.size a := fun v1500 k1_hw89 => k1_hw89
def k1_off92 (k1_t4 : Fin k1_t4_loop.trips) : Fin 1 → Nat :=
  let c30000_i32_359 : BitVec 32 := 30000#32
  let c375_i32_349 : BitVec 32 := 375#32
  let c0_i32_259 : BitVec 32 := 0#32
  let c1_i32_261 : BitVec 32 := 1#32
  let arg17 : BitVec 32 := Scf.iv c0_i32_259 c1_i32_261 k1_t4
  let c5_i32_348 : BitVec 32 := 5#32
  let v1476 : BitVec 32 := Scalar.muli arg17 c5_i32_348
  let v1477 : BitVec 32 := Scalar.addi c375_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1501 : BitVec 32 := Scalar.addi c30000_i32_359 v1479
  let v1502 : Index := Scalar.indexCast v1501
  ![v1502.toNat]

def k1_chk90 (v1505 : IVec S16 32) : Prop :=
  (∀ a x, ((![v1505] : Fin 1 → IVec S16 32) a x).toNat < S4112.size a)
theorem k1_idx90_inb : ∀ (v1505 : IVec S16 32) (k1_hw90 : k1_chk90 v1505), ∀ a x, ((![v1505] : Fin 1 → IVec S16 32) a x).toNat < S4112.size a := fun v1505 k1_hw90 => k1_hw90
def k1_off93 (k1_t4 : Fin k1_t4_loop.trips) : Fin 1 → Nat :=
  let c375_i32_362 : BitVec 32 := 375#32
  let c0_i32_259 : BitVec 32 := 0#32
  let c1_i32_261 : BitVec 32 := 1#32
  let arg17 : BitVec 32 := Scf.iv c0_i32_259 c1_i32_261 k1_t4
  let c5_i32_361 : BitVec 32 := 5#32
  let v1506 : BitVec 32 := Scalar.muli arg17 c5_i32_361
  let v1507 : BitVec 32 := Scalar.addi c375_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1510 : Index := Scalar.indexCast v1509
  ![v1510.toNat]

def k1_chk91 (v1512 : IVec S16 32) : Prop :=
  (∀ a x, ((![v1512] : Fin 1 → IVec S16 32) a x).toNat < S2064.size a)
theorem k1_idx91_inb : ∀ (v1512 : IVec S16 32) (k1_hw91 : k1_chk91 v1512), ∀ a x, ((![v1512] : Fin 1 → IVec S16 32) a x).toNat < S2064.size a := fun v1512 k1_hw91 => k1_hw91
def k1_off94 (k1_t4 : Fin k1_t4_loop.trips) : Fin 1 → Nat :=
  let c0_i32_366 : BitVec 32 := 0#32
  let c375_i32_362 : BitVec 32 := 375#32
  let c0_i32_259 : BitVec 32 := 0#32
  let c1_i32_261 : BitVec 32 := 1#32
  let arg17 : BitVec 32 := Scf.iv c0_i32_259 c1_i32_261 k1_t4
  let c5_i32_361 : BitVec 32 := 5#32
  let v1506 : BitVec 32 := Scalar.muli arg17 c5_i32_361
  let v1507 : BitVec 32 := Scalar.addi c375_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1516 : BitVec 32 := Scalar.addi c0_i32_366 v1509
  let v1517 : Index := Scalar.indexCast v1516
  ![v1517.toNat]

def k1_chk92 (v1520 : IVec S16 32) : Prop :=
  (∀ a x, ((![v1520] : Fin 1 → IVec S16 32) a x).toNat < S4112.size a)
theorem k1_idx92_inb : ∀ (v1520 : IVec S16 32) (k1_hw92 : k1_chk92 v1520), ∀ a x, ((![v1520] : Fin 1 → IVec S16 32) a x).toNat < S4112.size a := fun v1520 k1_hw92 => k1_hw92
def k1_off95 (k1_t4 : Fin k1_t4_loop.trips) : Fin 1 → Nat :=
  let c10000_i32_368 : BitVec 32 := 10000#32
  let c375_i32_362 : BitVec 32 := 375#32
  let c0_i32_259 : BitVec 32 := 0#32
  let c1_i32_261 : BitVec 32 := 1#32
  let arg17 : BitVec 32 := Scf.iv c0_i32_259 c1_i32_261 k1_t4
  let c5_i32_361 : BitVec 32 := 5#32
  let v1506 : BitVec 32 := Scalar.muli arg17 c5_i32_361
  let v1507 : BitVec 32 := Scalar.addi c375_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1521 : BitVec 32 := Scalar.addi c10000_i32_368 v1509
  let v1522 : Index := Scalar.indexCast v1521
  ![v1522.toNat]

def k1_chk93 (v1525 : IVec S16 32) : Prop :=
  (∀ a x, ((![v1525] : Fin 1 → IVec S16 32) a x).toNat < S4112.size a)
theorem k1_idx93_inb : ∀ (v1525 : IVec S16 32) (k1_hw93 : k1_chk93 v1525), ∀ a x, ((![v1525] : Fin 1 → IVec S16 32) a x).toNat < S4112.size a := fun v1525 k1_hw93 => k1_hw93
def k1_off96 (k1_t4 : Fin k1_t4_loop.trips) : Fin 1 → Nat :=
  let c20000_i32_370 : BitVec 32 := 20000#32
  let c375_i32_362 : BitVec 32 := 375#32
  let c0_i32_259 : BitVec 32 := 0#32
  let c1_i32_261 : BitVec 32 := 1#32
  let arg17 : BitVec 32 := Scf.iv c0_i32_259 c1_i32_261 k1_t4
  let c5_i32_361 : BitVec 32 := 5#32
  let v1506 : BitVec 32 := Scalar.muli arg17 c5_i32_361
  let v1507 : BitVec 32 := Scalar.addi c375_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1526 : BitVec 32 := Scalar.addi c20000_i32_370 v1509
  let v1527 : Index := Scalar.indexCast v1526
  ![v1527.toNat]

def k1_chk94 (v1530 : IVec S16 32) : Prop :=
  (∀ a x, ((![v1530] : Fin 1 → IVec S16 32) a x).toNat < S4112.size a)
theorem k1_idx94_inb : ∀ (v1530 : IVec S16 32) (k1_hw94 : k1_chk94 v1530), ∀ a x, ((![v1530] : Fin 1 → IVec S16 32) a x).toNat < S4112.size a := fun v1530 k1_hw94 => k1_hw94
def k1_off97 (k1_t4 : Fin k1_t4_loop.trips) : Fin 1 → Nat :=
  let c30000_i32_372 : BitVec 32 := 30000#32
  let c375_i32_362 : BitVec 32 := 375#32
  let c0_i32_259 : BitVec 32 := 0#32
  let c1_i32_261 : BitVec 32 := 1#32
  let arg17 : BitVec 32 := Scf.iv c0_i32_259 c1_i32_261 k1_t4
  let c5_i32_361 : BitVec 32 := 5#32
  let v1506 : BitVec 32 := Scalar.muli arg17 c5_i32_361
  let v1507 : BitVec 32 := Scalar.addi c375_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1531 : BitVec 32 := Scalar.addi c30000_i32_372 v1509
  let v1532 : Index := Scalar.indexCast v1531
  ![v1532.toNat]

def k1_chk95 (v1535 : IVec S16 32) : Prop :=
  (∀ a x, ((![v1535] : Fin 1 → IVec S16 32) a x).toNat < S4112.size a)
theorem k1_idx95_inb : ∀ (v1535 : IVec S16 32) (k1_hw95 : k1_chk95 v1535), ∀ a x, ((![v1535] : Fin 1 → IVec S16 32) a x).toNat < S4112.size a := fun v1535 k1_hw95 => k1_hw95
def k1_off98 (k1_t4 : Fin k1_t4_loop.trips) : Fin 1 → Nat :=
  let c375_i32_375 : BitVec 32 := 375#32
  let c0_i32_259 : BitVec 32 := 0#32
  let c1_i32_261 : BitVec 32 := 1#32
  let arg17 : BitVec 32 := Scf.iv c0_i32_259 c1_i32_261 k1_t4
  let c5_i32_374 : BitVec 32 := 5#32
  let v1536 : BitVec 32 := Scalar.muli arg17 c5_i32_374
  let v1537 : BitVec 32 := Scalar.addi c375_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1540 : Index := Scalar.indexCast v1539
  ![v1540.toNat]

def k1_chk96 (v1542 : IVec S16 32) : Prop :=
  (∀ a x, ((![v1542] : Fin 1 → IVec S16 32) a x).toNat < S2064.size a)
theorem k1_idx96_inb : ∀ (v1542 : IVec S16 32) (k1_hw96 : k1_chk96 v1542), ∀ a x, ((![v1542] : Fin 1 → IVec S16 32) a x).toNat < S2064.size a := fun v1542 k1_hw96 => k1_hw96
def k1_off99 (k1_t4 : Fin k1_t4_loop.trips) : Fin 1 → Nat :=
  let c0_i32_378 : BitVec 32 := 0#32
  let c375_i32_375 : BitVec 32 := 375#32
  let c0_i32_259 : BitVec 32 := 0#32
  let c1_i32_261 : BitVec 32 := 1#32
  let arg17 : BitVec 32 := Scf.iv c0_i32_259 c1_i32_261 k1_t4
  let c5_i32_374 : BitVec 32 := 5#32
  let v1536 : BitVec 32 := Scalar.muli arg17 c5_i32_374
  let v1537 : BitVec 32 := Scalar.addi c375_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1546 : BitVec 32 := Scalar.addi c0_i32_378 v1539
  let v1547 : Index := Scalar.indexCast v1546
  ![v1547.toNat]

def k1_chk97 (v1550 : IVec S16 32) : Prop :=
  (∀ a x, ((![v1550] : Fin 1 → IVec S16 32) a x).toNat < S4112.size a)
theorem k1_idx97_inb : ∀ (v1550 : IVec S16 32) (k1_hw97 : k1_chk97 v1550), ∀ a x, ((![v1550] : Fin 1 → IVec S16 32) a x).toNat < S4112.size a := fun v1550 k1_hw97 => k1_hw97
def k1_off100 (k1_t4 : Fin k1_t4_loop.trips) : Fin 1 → Nat :=
  let c10000_i32_380 : BitVec 32 := 10000#32
  let c375_i32_375 : BitVec 32 := 375#32
  let c0_i32_259 : BitVec 32 := 0#32
  let c1_i32_261 : BitVec 32 := 1#32
  let arg17 : BitVec 32 := Scf.iv c0_i32_259 c1_i32_261 k1_t4
  let c5_i32_374 : BitVec 32 := 5#32
  let v1536 : BitVec 32 := Scalar.muli arg17 c5_i32_374
  let v1537 : BitVec 32 := Scalar.addi c375_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1551 : BitVec 32 := Scalar.addi c10000_i32_380 v1539
  let v1552 : Index := Scalar.indexCast v1551
  ![v1552.toNat]

def k1_chk98 (v1555 : IVec S16 32) : Prop :=
  (∀ a x, ((![v1555] : Fin 1 → IVec S16 32) a x).toNat < S4112.size a)
theorem k1_idx98_inb : ∀ (v1555 : IVec S16 32) (k1_hw98 : k1_chk98 v1555), ∀ a x, ((![v1555] : Fin 1 → IVec S16 32) a x).toNat < S4112.size a := fun v1555 k1_hw98 => k1_hw98
def k1_off101 (k1_t4 : Fin k1_t4_loop.trips) : Fin 1 → Nat :=
  let c20000_i32_382 : BitVec 32 := 20000#32
  let c375_i32_375 : BitVec 32 := 375#32
  let c0_i32_259 : BitVec 32 := 0#32
  let c1_i32_261 : BitVec 32 := 1#32
  let arg17 : BitVec 32 := Scf.iv c0_i32_259 c1_i32_261 k1_t4
  let c5_i32_374 : BitVec 32 := 5#32
  let v1536 : BitVec 32 := Scalar.muli arg17 c5_i32_374
  let v1537 : BitVec 32 := Scalar.addi c375_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1556 : BitVec 32 := Scalar.addi c20000_i32_382 v1539
  let v1557 : Index := Scalar.indexCast v1556
  ![v1557.toNat]

def k1_chk99 (v1560 : IVec S16 32) : Prop :=
  (∀ a x, ((![v1560] : Fin 1 → IVec S16 32) a x).toNat < S4112.size a)
theorem k1_idx99_inb : ∀ (v1560 : IVec S16 32) (k1_hw99 : k1_chk99 v1560), ∀ a x, ((![v1560] : Fin 1 → IVec S16 32) a x).toNat < S4112.size a := fun v1560 k1_hw99 => k1_hw99
def k1_off102 (k1_t4 : Fin k1_t4_loop.trips) : Fin 1 → Nat :=
  let c30000_i32_384 : BitVec 32 := 30000#32
  let c375_i32_375 : BitVec 32 := 375#32
  let c0_i32_259 : BitVec 32 := 0#32
  let c1_i32_261 : BitVec 32 := 1#32
  let arg17 : BitVec 32 := Scf.iv c0_i32_259 c1_i32_261 k1_t4
  let c5_i32_374 : BitVec 32 := 5#32
  let v1536 : BitVec 32 := Scalar.muli arg17 c5_i32_374
  let v1537 : BitVec 32 := Scalar.addi c375_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1561 : BitVec 32 := Scalar.addi c30000_i32_384 v1539
  let v1562 : Index := Scalar.indexCast v1561
  ![v1562.toNat]

def k1_chk100 (v1565 : IVec S16 32) : Prop :=
  (∀ a x, ((![v1565] : Fin 1 → IVec S16 32) a x).toNat < S4112.size a)
theorem k1_idx100_inb : ∀ (v1565 : IVec S16 32) (k1_hw100 : k1_chk100 v1565), ∀ a x, ((![v1565] : Fin 1 → IVec S16 32) a x).toNat < S4112.size a := fun v1565 k1_hw100 => k1_hw100
@[reducible] def k1_t5_loop : Scf.Loop 32 :=
  let c0_i32_274 : BitVec 32 := 0#32
  let c25_i32_275 : BitVec 32 := 25#32
  let v647 : BitVec 32 := Scalar.addi c0_i32_274 c25_i32_275
  let c1_i32_276 : BitVec 32 := 1#32
  ⟨c0_i32_274, v647, c1_i32_276⟩
def k1_off103 (k1_t5 : Fin k1_t5_loop.trips) : Fin 1 → Nat :=
  let c500_i32 : BitVec 32 := 500#32
  let c0_i32_274 : BitVec 32 := 0#32
  let c1_i32_276 : BitVec 32 := 1#32
  let arg17 : BitVec 32 := Scf.iv c0_i32_274 c1_i32_276 k1_t5
  let c5_i32 : BitVec 32 := 5#32
  let v1416 : BitVec 32 := Scalar.muli arg17 c5_i32
  let v1417 : BitVec 32 := Scalar.addi c500_i32 v1416
  let c0_i32_326 : BitVec 32 := 0#32
  let v1418 : BitVec 32 := Scalar.addi v1417 c0_i32_326
  let c16_i32 : BitVec 32 := 16#32
  let v1419 : BitVec 32 := Scalar.muli v1418 c16_i32
  let v1420 : Index := Scalar.indexCast v1419
  ![v1420.toNat]

def k1_chk101 (v1422 : IVec S16 32) : Prop :=
  (∀ a x, ((![v1422] : Fin 1 → IVec S16 32) a x).toNat < S2064.size a)
theorem k1_idx101_inb : ∀ (v1422 : IVec S16 32) (k1_hw101 : k1_chk101 v1422), ∀ a x, ((![v1422] : Fin 1 → IVec S16 32) a x).toNat < S2064.size a := fun v1422 k1_hw101 => k1_hw101
def k1_off104 (k1_t5 : Fin k1_t5_loop.trips) : Fin 1 → Nat :=
  let c0_i32_328 : BitVec 32 := 0#32
  let c500_i32 : BitVec 32 := 500#32
  let c0_i32_274 : BitVec 32 := 0#32
  let c1_i32_276 : BitVec 32 := 1#32
  let arg17 : BitVec 32 := Scf.iv c0_i32_274 c1_i32_276 k1_t5
  let c5_i32 : BitVec 32 := 5#32
  let v1416 : BitVec 32 := Scalar.muli arg17 c5_i32
  let v1417 : BitVec 32 := Scalar.addi c500_i32 v1416
  let c0_i32_326 : BitVec 32 := 0#32
  let v1418 : BitVec 32 := Scalar.addi v1417 c0_i32_326
  let c16_i32 : BitVec 32 := 16#32
  let v1419 : BitVec 32 := Scalar.muli v1418 c16_i32
  let v1426 : BitVec 32 := Scalar.addi c0_i32_328 v1419
  let v1427 : Index := Scalar.indexCast v1426
  ![v1427.toNat]

def k1_chk102 (v1430 : IVec S16 32) : Prop :=
  (∀ a x, ((![v1430] : Fin 1 → IVec S16 32) a x).toNat < S4112.size a)
theorem k1_idx102_inb : ∀ (v1430 : IVec S16 32) (k1_hw102 : k1_chk102 v1430), ∀ a x, ((![v1430] : Fin 1 → IVec S16 32) a x).toNat < S4112.size a := fun v1430 k1_hw102 => k1_hw102
def k1_off105 (k1_t5 : Fin k1_t5_loop.trips) : Fin 1 → Nat :=
  let c10000_i32_330 : BitVec 32 := 10000#32
  let c500_i32 : BitVec 32 := 500#32
  let c0_i32_274 : BitVec 32 := 0#32
  let c1_i32_276 : BitVec 32 := 1#32
  let arg17 : BitVec 32 := Scf.iv c0_i32_274 c1_i32_276 k1_t5
  let c5_i32 : BitVec 32 := 5#32
  let v1416 : BitVec 32 := Scalar.muli arg17 c5_i32
  let v1417 : BitVec 32 := Scalar.addi c500_i32 v1416
  let c0_i32_326 : BitVec 32 := 0#32
  let v1418 : BitVec 32 := Scalar.addi v1417 c0_i32_326
  let c16_i32 : BitVec 32 := 16#32
  let v1419 : BitVec 32 := Scalar.muli v1418 c16_i32
  let v1431 : BitVec 32 := Scalar.addi c10000_i32_330 v1419
  let v1432 : Index := Scalar.indexCast v1431
  ![v1432.toNat]

def k1_chk103 (v1435 : IVec S16 32) : Prop :=
  (∀ a x, ((![v1435] : Fin 1 → IVec S16 32) a x).toNat < S4112.size a)
theorem k1_idx103_inb : ∀ (v1435 : IVec S16 32) (k1_hw103 : k1_chk103 v1435), ∀ a x, ((![v1435] : Fin 1 → IVec S16 32) a x).toNat < S4112.size a := fun v1435 k1_hw103 => k1_hw103
def k1_off106 (k1_t5 : Fin k1_t5_loop.trips) : Fin 1 → Nat :=
  let c20000_i32_332 : BitVec 32 := 20000#32
  let c500_i32 : BitVec 32 := 500#32
  let c0_i32_274 : BitVec 32 := 0#32
  let c1_i32_276 : BitVec 32 := 1#32
  let arg17 : BitVec 32 := Scf.iv c0_i32_274 c1_i32_276 k1_t5
  let c5_i32 : BitVec 32 := 5#32
  let v1416 : BitVec 32 := Scalar.muli arg17 c5_i32
  let v1417 : BitVec 32 := Scalar.addi c500_i32 v1416
  let c0_i32_326 : BitVec 32 := 0#32
  let v1418 : BitVec 32 := Scalar.addi v1417 c0_i32_326
  let c16_i32 : BitVec 32 := 16#32
  let v1419 : BitVec 32 := Scalar.muli v1418 c16_i32
  let v1436 : BitVec 32 := Scalar.addi c20000_i32_332 v1419
  let v1437 : Index := Scalar.indexCast v1436
  ![v1437.toNat]

def k1_chk104 (v1440 : IVec S16 32) : Prop :=
  (∀ a x, ((![v1440] : Fin 1 → IVec S16 32) a x).toNat < S4112.size a)
theorem k1_idx104_inb : ∀ (v1440 : IVec S16 32) (k1_hw104 : k1_chk104 v1440), ∀ a x, ((![v1440] : Fin 1 → IVec S16 32) a x).toNat < S4112.size a := fun v1440 k1_hw104 => k1_hw104
def k1_off107 (k1_t5 : Fin k1_t5_loop.trips) : Fin 1 → Nat :=
  let c30000_i32_334 : BitVec 32 := 30000#32
  let c500_i32 : BitVec 32 := 500#32
  let c0_i32_274 : BitVec 32 := 0#32
  let c1_i32_276 : BitVec 32 := 1#32
  let arg17 : BitVec 32 := Scf.iv c0_i32_274 c1_i32_276 k1_t5
  let c5_i32 : BitVec 32 := 5#32
  let v1416 : BitVec 32 := Scalar.muli arg17 c5_i32
  let v1417 : BitVec 32 := Scalar.addi c500_i32 v1416
  let c0_i32_326 : BitVec 32 := 0#32
  let v1418 : BitVec 32 := Scalar.addi v1417 c0_i32_326
  let c16_i32 : BitVec 32 := 16#32
  let v1419 : BitVec 32 := Scalar.muli v1418 c16_i32
  let v1441 : BitVec 32 := Scalar.addi c30000_i32_334 v1419
  let v1442 : Index := Scalar.indexCast v1441
  ![v1442.toNat]

def k1_chk105 (v1445 : IVec S16 32) : Prop :=
  (∀ a x, ((![v1445] : Fin 1 → IVec S16 32) a x).toNat < S4112.size a)
theorem k1_idx105_inb : ∀ (v1445 : IVec S16 32) (k1_hw105 : k1_chk105 v1445), ∀ a x, ((![v1445] : Fin 1 → IVec S16 32) a x).toNat < S4112.size a := fun v1445 k1_hw105 => k1_hw105
def k1_off108 (k1_t5 : Fin k1_t5_loop.trips) : Fin 1 → Nat :=
  let c500_i32_336 : BitVec 32 := 500#32
  let c0_i32_274 : BitVec 32 := 0#32
  let c1_i32_276 : BitVec 32 := 1#32
  let arg17 : BitVec 32 := Scf.iv c0_i32_274 c1_i32_276 k1_t5
  let c5_i32_335 : BitVec 32 := 5#32
  let v1446 : BitVec 32 := Scalar.muli arg17 c5_i32_335
  let v1447 : BitVec 32 := Scalar.addi c500_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1450 : Index := Scalar.indexCast v1449
  ![v1450.toNat]

def k1_chk106 (v1452 : IVec S16 32) : Prop :=
  (∀ a x, ((![v1452] : Fin 1 → IVec S16 32) a x).toNat < S2064.size a)
theorem k1_idx106_inb : ∀ (v1452 : IVec S16 32) (k1_hw106 : k1_chk106 v1452), ∀ a x, ((![v1452] : Fin 1 → IVec S16 32) a x).toNat < S2064.size a := fun v1452 k1_hw106 => k1_hw106
def k1_off109 (k1_t5 : Fin k1_t5_loop.trips) : Fin 1 → Nat :=
  let c0_i32_340 : BitVec 32 := 0#32
  let c500_i32_336 : BitVec 32 := 500#32
  let c0_i32_274 : BitVec 32 := 0#32
  let c1_i32_276 : BitVec 32 := 1#32
  let arg17 : BitVec 32 := Scf.iv c0_i32_274 c1_i32_276 k1_t5
  let c5_i32_335 : BitVec 32 := 5#32
  let v1446 : BitVec 32 := Scalar.muli arg17 c5_i32_335
  let v1447 : BitVec 32 := Scalar.addi c500_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1456 : BitVec 32 := Scalar.addi c0_i32_340 v1449
  let v1457 : Index := Scalar.indexCast v1456
  ![v1457.toNat]

def k1_chk107 (v1460 : IVec S16 32) : Prop :=
  (∀ a x, ((![v1460] : Fin 1 → IVec S16 32) a x).toNat < S4112.size a)
theorem k1_idx107_inb : ∀ (v1460 : IVec S16 32) (k1_hw107 : k1_chk107 v1460), ∀ a x, ((![v1460] : Fin 1 → IVec S16 32) a x).toNat < S4112.size a := fun v1460 k1_hw107 => k1_hw107
def k1_off110 (k1_t5 : Fin k1_t5_loop.trips) : Fin 1 → Nat :=
  let c10000_i32_342 : BitVec 32 := 10000#32
  let c500_i32_336 : BitVec 32 := 500#32
  let c0_i32_274 : BitVec 32 := 0#32
  let c1_i32_276 : BitVec 32 := 1#32
  let arg17 : BitVec 32 := Scf.iv c0_i32_274 c1_i32_276 k1_t5
  let c5_i32_335 : BitVec 32 := 5#32
  let v1446 : BitVec 32 := Scalar.muli arg17 c5_i32_335
  let v1447 : BitVec 32 := Scalar.addi c500_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1461 : BitVec 32 := Scalar.addi c10000_i32_342 v1449
  let v1462 : Index := Scalar.indexCast v1461
  ![v1462.toNat]

def k1_chk108 (v1465 : IVec S16 32) : Prop :=
  (∀ a x, ((![v1465] : Fin 1 → IVec S16 32) a x).toNat < S4112.size a)
theorem k1_idx108_inb : ∀ (v1465 : IVec S16 32) (k1_hw108 : k1_chk108 v1465), ∀ a x, ((![v1465] : Fin 1 → IVec S16 32) a x).toNat < S4112.size a := fun v1465 k1_hw108 => k1_hw108
def k1_off111 (k1_t5 : Fin k1_t5_loop.trips) : Fin 1 → Nat :=
  let c20000_i32_344 : BitVec 32 := 20000#32
  let c500_i32_336 : BitVec 32 := 500#32
  let c0_i32_274 : BitVec 32 := 0#32
  let c1_i32_276 : BitVec 32 := 1#32
  let arg17 : BitVec 32 := Scf.iv c0_i32_274 c1_i32_276 k1_t5
  let c5_i32_335 : BitVec 32 := 5#32
  let v1446 : BitVec 32 := Scalar.muli arg17 c5_i32_335
  let v1447 : BitVec 32 := Scalar.addi c500_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1466 : BitVec 32 := Scalar.addi c20000_i32_344 v1449
  let v1467 : Index := Scalar.indexCast v1466
  ![v1467.toNat]

def k1_chk109 (v1470 : IVec S16 32) : Prop :=
  (∀ a x, ((![v1470] : Fin 1 → IVec S16 32) a x).toNat < S4112.size a)
theorem k1_idx109_inb : ∀ (v1470 : IVec S16 32) (k1_hw109 : k1_chk109 v1470), ∀ a x, ((![v1470] : Fin 1 → IVec S16 32) a x).toNat < S4112.size a := fun v1470 k1_hw109 => k1_hw109
def k1_off112 (k1_t5 : Fin k1_t5_loop.trips) : Fin 1 → Nat :=
  let c30000_i32_346 : BitVec 32 := 30000#32
  let c500_i32_336 : BitVec 32 := 500#32
  let c0_i32_274 : BitVec 32 := 0#32
  let c1_i32_276 : BitVec 32 := 1#32
  let arg17 : BitVec 32 := Scf.iv c0_i32_274 c1_i32_276 k1_t5
  let c5_i32_335 : BitVec 32 := 5#32
  let v1446 : BitVec 32 := Scalar.muli arg17 c5_i32_335
  let v1447 : BitVec 32 := Scalar.addi c500_i32_336 v1446
  let c1_i32_337 : BitVec 32 := 1#32
  let v1448 : BitVec 32 := Scalar.addi v1447 c1_i32_337
  let c16_i32_338 : BitVec 32 := 16#32
  let v1449 : BitVec 32 := Scalar.muli v1448 c16_i32_338
  let v1471 : BitVec 32 := Scalar.addi c30000_i32_346 v1449
  let v1472 : Index := Scalar.indexCast v1471
  ![v1472.toNat]

def k1_chk110 (v1475 : IVec S16 32) : Prop :=
  (∀ a x, ((![v1475] : Fin 1 → IVec S16 32) a x).toNat < S4112.size a)
theorem k1_idx110_inb : ∀ (v1475 : IVec S16 32) (k1_hw110 : k1_chk110 v1475), ∀ a x, ((![v1475] : Fin 1 → IVec S16 32) a x).toNat < S4112.size a := fun v1475 k1_hw110 => k1_hw110
def k1_off113 (k1_t5 : Fin k1_t5_loop.trips) : Fin 1 → Nat :=
  let c500_i32_349 : BitVec 32 := 500#32
  let c0_i32_274 : BitVec 32 := 0#32
  let c1_i32_276 : BitVec 32 := 1#32
  let arg17 : BitVec 32 := Scf.iv c0_i32_274 c1_i32_276 k1_t5
  let c5_i32_348 : BitVec 32 := 5#32
  let v1476 : BitVec 32 := Scalar.muli arg17 c5_i32_348
  let v1477 : BitVec 32 := Scalar.addi c500_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1480 : Index := Scalar.indexCast v1479
  ![v1480.toNat]

def k1_chk111 (v1482 : IVec S16 32) : Prop :=
  (∀ a x, ((![v1482] : Fin 1 → IVec S16 32) a x).toNat < S2064.size a)
theorem k1_idx111_inb : ∀ (v1482 : IVec S16 32) (k1_hw111 : k1_chk111 v1482), ∀ a x, ((![v1482] : Fin 1 → IVec S16 32) a x).toNat < S2064.size a := fun v1482 k1_hw111 => k1_hw111
def k1_off114 (k1_t5 : Fin k1_t5_loop.trips) : Fin 1 → Nat :=
  let c0_i32_353 : BitVec 32 := 0#32
  let c500_i32_349 : BitVec 32 := 500#32
  let c0_i32_274 : BitVec 32 := 0#32
  let c1_i32_276 : BitVec 32 := 1#32
  let arg17 : BitVec 32 := Scf.iv c0_i32_274 c1_i32_276 k1_t5
  let c5_i32_348 : BitVec 32 := 5#32
  let v1476 : BitVec 32 := Scalar.muli arg17 c5_i32_348
  let v1477 : BitVec 32 := Scalar.addi c500_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1486 : BitVec 32 := Scalar.addi c0_i32_353 v1479
  let v1487 : Index := Scalar.indexCast v1486
  ![v1487.toNat]

def k1_chk112 (v1490 : IVec S16 32) : Prop :=
  (∀ a x, ((![v1490] : Fin 1 → IVec S16 32) a x).toNat < S4112.size a)
theorem k1_idx112_inb : ∀ (v1490 : IVec S16 32) (k1_hw112 : k1_chk112 v1490), ∀ a x, ((![v1490] : Fin 1 → IVec S16 32) a x).toNat < S4112.size a := fun v1490 k1_hw112 => k1_hw112
def k1_off115 (k1_t5 : Fin k1_t5_loop.trips) : Fin 1 → Nat :=
  let c10000_i32_355 : BitVec 32 := 10000#32
  let c500_i32_349 : BitVec 32 := 500#32
  let c0_i32_274 : BitVec 32 := 0#32
  let c1_i32_276 : BitVec 32 := 1#32
  let arg17 : BitVec 32 := Scf.iv c0_i32_274 c1_i32_276 k1_t5
  let c5_i32_348 : BitVec 32 := 5#32
  let v1476 : BitVec 32 := Scalar.muli arg17 c5_i32_348
  let v1477 : BitVec 32 := Scalar.addi c500_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1491 : BitVec 32 := Scalar.addi c10000_i32_355 v1479
  let v1492 : Index := Scalar.indexCast v1491
  ![v1492.toNat]

def k1_chk113 (v1495 : IVec S16 32) : Prop :=
  (∀ a x, ((![v1495] : Fin 1 → IVec S16 32) a x).toNat < S4112.size a)
theorem k1_idx113_inb : ∀ (v1495 : IVec S16 32) (k1_hw113 : k1_chk113 v1495), ∀ a x, ((![v1495] : Fin 1 → IVec S16 32) a x).toNat < S4112.size a := fun v1495 k1_hw113 => k1_hw113
def k1_off116 (k1_t5 : Fin k1_t5_loop.trips) : Fin 1 → Nat :=
  let c20000_i32_357 : BitVec 32 := 20000#32
  let c500_i32_349 : BitVec 32 := 500#32
  let c0_i32_274 : BitVec 32 := 0#32
  let c1_i32_276 : BitVec 32 := 1#32
  let arg17 : BitVec 32 := Scf.iv c0_i32_274 c1_i32_276 k1_t5
  let c5_i32_348 : BitVec 32 := 5#32
  let v1476 : BitVec 32 := Scalar.muli arg17 c5_i32_348
  let v1477 : BitVec 32 := Scalar.addi c500_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1496 : BitVec 32 := Scalar.addi c20000_i32_357 v1479
  let v1497 : Index := Scalar.indexCast v1496
  ![v1497.toNat]

def k1_chk114 (v1500 : IVec S16 32) : Prop :=
  (∀ a x, ((![v1500] : Fin 1 → IVec S16 32) a x).toNat < S4112.size a)
theorem k1_idx114_inb : ∀ (v1500 : IVec S16 32) (k1_hw114 : k1_chk114 v1500), ∀ a x, ((![v1500] : Fin 1 → IVec S16 32) a x).toNat < S4112.size a := fun v1500 k1_hw114 => k1_hw114
def k1_off117 (k1_t5 : Fin k1_t5_loop.trips) : Fin 1 → Nat :=
  let c30000_i32_359 : BitVec 32 := 30000#32
  let c500_i32_349 : BitVec 32 := 500#32
  let c0_i32_274 : BitVec 32 := 0#32
  let c1_i32_276 : BitVec 32 := 1#32
  let arg17 : BitVec 32 := Scf.iv c0_i32_274 c1_i32_276 k1_t5
  let c5_i32_348 : BitVec 32 := 5#32
  let v1476 : BitVec 32 := Scalar.muli arg17 c5_i32_348
  let v1477 : BitVec 32 := Scalar.addi c500_i32_349 v1476
  let c2_i32_350 : BitVec 32 := 2#32
  let v1478 : BitVec 32 := Scalar.addi v1477 c2_i32_350
  let c16_i32_351 : BitVec 32 := 16#32
  let v1479 : BitVec 32 := Scalar.muli v1478 c16_i32_351
  let v1501 : BitVec 32 := Scalar.addi c30000_i32_359 v1479
  let v1502 : Index := Scalar.indexCast v1501
  ![v1502.toNat]

def k1_chk115 (v1505 : IVec S16 32) : Prop :=
  (∀ a x, ((![v1505] : Fin 1 → IVec S16 32) a x).toNat < S4112.size a)
theorem k1_idx115_inb : ∀ (v1505 : IVec S16 32) (k1_hw115 : k1_chk115 v1505), ∀ a x, ((![v1505] : Fin 1 → IVec S16 32) a x).toNat < S4112.size a := fun v1505 k1_hw115 => k1_hw115
def k1_off118 (k1_t5 : Fin k1_t5_loop.trips) : Fin 1 → Nat :=
  let c500_i32_362 : BitVec 32 := 500#32
  let c0_i32_274 : BitVec 32 := 0#32
  let c1_i32_276 : BitVec 32 := 1#32
  let arg17 : BitVec 32 := Scf.iv c0_i32_274 c1_i32_276 k1_t5
  let c5_i32_361 : BitVec 32 := 5#32
  let v1506 : BitVec 32 := Scalar.muli arg17 c5_i32_361
  let v1507 : BitVec 32 := Scalar.addi c500_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1510 : Index := Scalar.indexCast v1509
  ![v1510.toNat]

def k1_chk116 (v1512 : IVec S16 32) : Prop :=
  (∀ a x, ((![v1512] : Fin 1 → IVec S16 32) a x).toNat < S2064.size a)
theorem k1_idx116_inb : ∀ (v1512 : IVec S16 32) (k1_hw116 : k1_chk116 v1512), ∀ a x, ((![v1512] : Fin 1 → IVec S16 32) a x).toNat < S2064.size a := fun v1512 k1_hw116 => k1_hw116
def k1_off119 (k1_t5 : Fin k1_t5_loop.trips) : Fin 1 → Nat :=
  let c0_i32_366 : BitVec 32 := 0#32
  let c500_i32_362 : BitVec 32 := 500#32
  let c0_i32_274 : BitVec 32 := 0#32
  let c1_i32_276 : BitVec 32 := 1#32
  let arg17 : BitVec 32 := Scf.iv c0_i32_274 c1_i32_276 k1_t5
  let c5_i32_361 : BitVec 32 := 5#32
  let v1506 : BitVec 32 := Scalar.muli arg17 c5_i32_361
  let v1507 : BitVec 32 := Scalar.addi c500_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1516 : BitVec 32 := Scalar.addi c0_i32_366 v1509
  let v1517 : Index := Scalar.indexCast v1516
  ![v1517.toNat]

def k1_chk117 (v1520 : IVec S16 32) : Prop :=
  (∀ a x, ((![v1520] : Fin 1 → IVec S16 32) a x).toNat < S4112.size a)
theorem k1_idx117_inb : ∀ (v1520 : IVec S16 32) (k1_hw117 : k1_chk117 v1520), ∀ a x, ((![v1520] : Fin 1 → IVec S16 32) a x).toNat < S4112.size a := fun v1520 k1_hw117 => k1_hw117
def k1_off120 (k1_t5 : Fin k1_t5_loop.trips) : Fin 1 → Nat :=
  let c10000_i32_368 : BitVec 32 := 10000#32
  let c500_i32_362 : BitVec 32 := 500#32
  let c0_i32_274 : BitVec 32 := 0#32
  let c1_i32_276 : BitVec 32 := 1#32
  let arg17 : BitVec 32 := Scf.iv c0_i32_274 c1_i32_276 k1_t5
  let c5_i32_361 : BitVec 32 := 5#32
  let v1506 : BitVec 32 := Scalar.muli arg17 c5_i32_361
  let v1507 : BitVec 32 := Scalar.addi c500_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1521 : BitVec 32 := Scalar.addi c10000_i32_368 v1509
  let v1522 : Index := Scalar.indexCast v1521
  ![v1522.toNat]

def k1_chk118 (v1525 : IVec S16 32) : Prop :=
  (∀ a x, ((![v1525] : Fin 1 → IVec S16 32) a x).toNat < S4112.size a)
theorem k1_idx118_inb : ∀ (v1525 : IVec S16 32) (k1_hw118 : k1_chk118 v1525), ∀ a x, ((![v1525] : Fin 1 → IVec S16 32) a x).toNat < S4112.size a := fun v1525 k1_hw118 => k1_hw118
def k1_off121 (k1_t5 : Fin k1_t5_loop.trips) : Fin 1 → Nat :=
  let c20000_i32_370 : BitVec 32 := 20000#32
  let c500_i32_362 : BitVec 32 := 500#32
  let c0_i32_274 : BitVec 32 := 0#32
  let c1_i32_276 : BitVec 32 := 1#32
  let arg17 : BitVec 32 := Scf.iv c0_i32_274 c1_i32_276 k1_t5
  let c5_i32_361 : BitVec 32 := 5#32
  let v1506 : BitVec 32 := Scalar.muli arg17 c5_i32_361
  let v1507 : BitVec 32 := Scalar.addi c500_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1526 : BitVec 32 := Scalar.addi c20000_i32_370 v1509
  let v1527 : Index := Scalar.indexCast v1526
  ![v1527.toNat]

def k1_chk119 (v1530 : IVec S16 32) : Prop :=
  (∀ a x, ((![v1530] : Fin 1 → IVec S16 32) a x).toNat < S4112.size a)
theorem k1_idx119_inb : ∀ (v1530 : IVec S16 32) (k1_hw119 : k1_chk119 v1530), ∀ a x, ((![v1530] : Fin 1 → IVec S16 32) a x).toNat < S4112.size a := fun v1530 k1_hw119 => k1_hw119
def k1_off122 (k1_t5 : Fin k1_t5_loop.trips) : Fin 1 → Nat :=
  let c30000_i32_372 : BitVec 32 := 30000#32
  let c500_i32_362 : BitVec 32 := 500#32
  let c0_i32_274 : BitVec 32 := 0#32
  let c1_i32_276 : BitVec 32 := 1#32
  let arg17 : BitVec 32 := Scf.iv c0_i32_274 c1_i32_276 k1_t5
  let c5_i32_361 : BitVec 32 := 5#32
  let v1506 : BitVec 32 := Scalar.muli arg17 c5_i32_361
  let v1507 : BitVec 32 := Scalar.addi c500_i32_362 v1506
  let c3_i32_363 : BitVec 32 := 3#32
  let v1508 : BitVec 32 := Scalar.addi v1507 c3_i32_363
  let c16_i32_364 : BitVec 32 := 16#32
  let v1509 : BitVec 32 := Scalar.muli v1508 c16_i32_364
  let v1531 : BitVec 32 := Scalar.addi c30000_i32_372 v1509
  let v1532 : Index := Scalar.indexCast v1531
  ![v1532.toNat]

def k1_chk120 (v1535 : IVec S16 32) : Prop :=
  (∀ a x, ((![v1535] : Fin 1 → IVec S16 32) a x).toNat < S4112.size a)
theorem k1_idx120_inb : ∀ (v1535 : IVec S16 32) (k1_hw120 : k1_chk120 v1535), ∀ a x, ((![v1535] : Fin 1 → IVec S16 32) a x).toNat < S4112.size a := fun v1535 k1_hw120 => k1_hw120
def k1_off123 (k1_t5 : Fin k1_t5_loop.trips) : Fin 1 → Nat :=
  let c500_i32_375 : BitVec 32 := 500#32
  let c0_i32_274 : BitVec 32 := 0#32
  let c1_i32_276 : BitVec 32 := 1#32
  let arg17 : BitVec 32 := Scf.iv c0_i32_274 c1_i32_276 k1_t5
  let c5_i32_374 : BitVec 32 := 5#32
  let v1536 : BitVec 32 := Scalar.muli arg17 c5_i32_374
  let v1537 : BitVec 32 := Scalar.addi c500_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1540 : Index := Scalar.indexCast v1539
  ![v1540.toNat]

def k1_chk121 (v1542 : IVec S16 32) : Prop :=
  (∀ a x, ((![v1542] : Fin 1 → IVec S16 32) a x).toNat < S2064.size a)
theorem k1_idx121_inb : ∀ (v1542 : IVec S16 32) (k1_hw121 : k1_chk121 v1542), ∀ a x, ((![v1542] : Fin 1 → IVec S16 32) a x).toNat < S2064.size a := fun v1542 k1_hw121 => k1_hw121
def k1_off124 (k1_t5 : Fin k1_t5_loop.trips) : Fin 1 → Nat :=
  let c0_i32_378 : BitVec 32 := 0#32
  let c500_i32_375 : BitVec 32 := 500#32
  let c0_i32_274 : BitVec 32 := 0#32
  let c1_i32_276 : BitVec 32 := 1#32
  let arg17 : BitVec 32 := Scf.iv c0_i32_274 c1_i32_276 k1_t5
  let c5_i32_374 : BitVec 32 := 5#32
  let v1536 : BitVec 32 := Scalar.muli arg17 c5_i32_374
  let v1537 : BitVec 32 := Scalar.addi c500_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1546 : BitVec 32 := Scalar.addi c0_i32_378 v1539
  let v1547 : Index := Scalar.indexCast v1546
  ![v1547.toNat]

def k1_chk122 (v1550 : IVec S16 32) : Prop :=
  (∀ a x, ((![v1550] : Fin 1 → IVec S16 32) a x).toNat < S4112.size a)
theorem k1_idx122_inb : ∀ (v1550 : IVec S16 32) (k1_hw122 : k1_chk122 v1550), ∀ a x, ((![v1550] : Fin 1 → IVec S16 32) a x).toNat < S4112.size a := fun v1550 k1_hw122 => k1_hw122
def k1_off125 (k1_t5 : Fin k1_t5_loop.trips) : Fin 1 → Nat :=
  let c10000_i32_380 : BitVec 32 := 10000#32
  let c500_i32_375 : BitVec 32 := 500#32
  let c0_i32_274 : BitVec 32 := 0#32
  let c1_i32_276 : BitVec 32 := 1#32
  let arg17 : BitVec 32 := Scf.iv c0_i32_274 c1_i32_276 k1_t5
  let c5_i32_374 : BitVec 32 := 5#32
  let v1536 : BitVec 32 := Scalar.muli arg17 c5_i32_374
  let v1537 : BitVec 32 := Scalar.addi c500_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1551 : BitVec 32 := Scalar.addi c10000_i32_380 v1539
  let v1552 : Index := Scalar.indexCast v1551
  ![v1552.toNat]

def k1_chk123 (v1555 : IVec S16 32) : Prop :=
  (∀ a x, ((![v1555] : Fin 1 → IVec S16 32) a x).toNat < S4112.size a)
theorem k1_idx123_inb : ∀ (v1555 : IVec S16 32) (k1_hw123 : k1_chk123 v1555), ∀ a x, ((![v1555] : Fin 1 → IVec S16 32) a x).toNat < S4112.size a := fun v1555 k1_hw123 => k1_hw123
def k1_off126 (k1_t5 : Fin k1_t5_loop.trips) : Fin 1 → Nat :=
  let c20000_i32_382 : BitVec 32 := 20000#32
  let c500_i32_375 : BitVec 32 := 500#32
  let c0_i32_274 : BitVec 32 := 0#32
  let c1_i32_276 : BitVec 32 := 1#32
  let arg17 : BitVec 32 := Scf.iv c0_i32_274 c1_i32_276 k1_t5
  let c5_i32_374 : BitVec 32 := 5#32
  let v1536 : BitVec 32 := Scalar.muli arg17 c5_i32_374
  let v1537 : BitVec 32 := Scalar.addi c500_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1556 : BitVec 32 := Scalar.addi c20000_i32_382 v1539
  let v1557 : Index := Scalar.indexCast v1556
  ![v1557.toNat]

def k1_chk124 (v1560 : IVec S16 32) : Prop :=
  (∀ a x, ((![v1560] : Fin 1 → IVec S16 32) a x).toNat < S4112.size a)
theorem k1_idx124_inb : ∀ (v1560 : IVec S16 32) (k1_hw124 : k1_chk124 v1560), ∀ a x, ((![v1560] : Fin 1 → IVec S16 32) a x).toNat < S4112.size a := fun v1560 k1_hw124 => k1_hw124
def k1_off127 (k1_t5 : Fin k1_t5_loop.trips) : Fin 1 → Nat :=
  let c30000_i32_384 : BitVec 32 := 30000#32
  let c500_i32_375 : BitVec 32 := 500#32
  let c0_i32_274 : BitVec 32 := 0#32
  let c1_i32_276 : BitVec 32 := 1#32
  let arg17 : BitVec 32 := Scf.iv c0_i32_274 c1_i32_276 k1_t5
  let c5_i32_374 : BitVec 32 := 5#32
  let v1536 : BitVec 32 := Scalar.muli arg17 c5_i32_374
  let v1537 : BitVec 32 := Scalar.addi c500_i32_375 v1536
  let c4_i32 : BitVec 32 := 4#32
  let v1538 : BitVec 32 := Scalar.addi v1537 c4_i32
  let c16_i32_376 : BitVec 32 := 16#32
  let v1539 : BitVec 32 := Scalar.muli v1538 c16_i32_376
  let v1561 : BitVec 32 := Scalar.addi c30000_i32_384 v1539
  let v1562 : Index := Scalar.indexCast v1561
  ![v1562.toNat]

def k1_chk125 (v1565 : IVec S16 32) : Prop :=
  (∀ a x, ((![v1565] : Fin 1 → IVec S16 32) a x).toNat < S4112.size a)
theorem k1_idx125_inb : ∀ (v1565 : IVec S16 32) (k1_hw125 : k1_chk125 v1565), ∀ a x, ((![v1565] : Fin 1 → IVec S16 32) a x).toNat < S4112.size a := fun v1565 k1_hw125 => k1_hw125
def k1_off128 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_326_r0 : BitVec 32 := 0#32
  ![v1.toNat, 0]
def k1_off129 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_326_r1 : BitVec 32 := 0#32
  ![v1.toNat, 0]
abbrev grid2 : Pipeline.Grid := .none

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000 : Shape := ⟨1, ![10000]⟩
abbrev S320000x4 : Shape := ⟨2, ![320000, 4]⟩
abbrev S2x320000 : Shape := ⟨2, ![2, 320000]⟩
abbrev S320000 : Shape := ⟨1, ![320000]⟩
abbrev S1x128 : Shape := ⟨2, ![1, 128]⟩
abbrev S1x4 : Shape := ⟨2, ![1, 4]⟩
abbrev S_ : Shape := ⟨0, ![]⟩
abbrev S64x128 : Shape := ⟨2, ![64, 128]⟩
abbrev S10000x1 : Shape := ⟨2, ![10000, 1]⟩
abbrev S64 : Shape := ⟨1, ![64]⟩
abbrev S64x1 : Shape := ⟨2, ![64, 1]⟩
abbrev S64x4 : Shape := ⟨2, ![64, 4]⟩
abbrev S320000x1 : Shape := ⟨2, ![320000, 1]⟩
abbrev S1x320000 : Shape := ⟨2, ![1, 320000]⟩

abbrev nBuf : Space → Nat
  | .hbm => 83
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .i32⟩
  | .hbm, ⟨2, _⟩ => ⟨S320000x4, .f32⟩
  | .hbm, ⟨3, _⟩ => ⟨S2x320000, .i32⟩
  | .hbm, ⟨4, _⟩ => ⟨S320000, .i32⟩
  | .hbm, ⟨5, _⟩ => ⟨S1x128, .f32⟩
  | .hbm, ⟨6, _⟩ => ⟨S1x4, .f32⟩
  | .hbm, ⟨7, _⟩ => ⟨S_, .f32⟩
  | .hbm, ⟨8, _⟩ => ⟨S64x128, .f32⟩
  | .hbm, ⟨9, _⟩ => ⟨S10000x1, .i32⟩
  | .hbm, ⟨10, _⟩ => ⟨S64x128, .f32⟩
  | .hbm, ⟨11, _⟩ => ⟨S_, .f32⟩
  | .hbm, ⟨12, _⟩ => ⟨S10000, .f32⟩
  | .hbm, ⟨13, _⟩ => ⟨S_, .f32⟩
  | .hbm, ⟨14, _⟩ => ⟨S64, .f32⟩
  | .hbm, ⟨15, _⟩ => ⟨S10000x1, .i32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64x4, .f32⟩
  | .hbm, ⟨33, _⟩ => ⟨S320000x1, .i32⟩
  | .hbm, ⟨34, _⟩ => ⟨S64x4, .f32⟩
  | .hbm, ⟨35, _⟩ => ⟨S_, .f32⟩
  | .hbm, ⟨36, _⟩ => ⟨S320000, .f32⟩
  | .hbm, ⟨37, _⟩ => ⟨S_, .f32⟩
  | .hbm, ⟨38, _⟩ => ⟨S64, .f32⟩
  | .hbm, ⟨39, _⟩ => ⟨S320000x1, .i32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64x1, .f32⟩
  | .hbm, ⟨45, _⟩ => ⟨S64x4, .f32⟩
  | .hbm, ⟨46, _⟩ => ⟨S64x4, .f32⟩
  | .hbm, ⟨47, _⟩ => ⟨S64x4, .f32⟩
  | .hbm, ⟨48, _⟩ => ⟨S64x4, .f32⟩
  | .hbm, ⟨49, _⟩ => ⟨S64x4, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x320000, .i32⟩
  | .hbm, ⟨56, _⟩ => ⟨S320000, .i32⟩
  | .hbm, ⟨57, _⟩ => ⟨S_, .i32⟩
  | .hbm, ⟨58, _⟩ => ⟨S320000, .i32⟩
  | .hbm, ⟨59, _⟩ => ⟨S320000, .i1⟩
  | .hbm, ⟨60, _⟩ => ⟨S320000, .f32⟩
  | .hbm, ⟨61, _⟩ => ⟨S_, .f32⟩
  | .hbm, ⟨62, _⟩ => ⟨S64, .f32⟩
  | .hbm, ⟨63, _⟩ => ⟨S320000x1, .i32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S64, .f32⟩
  | .hbm, ⟨71, _⟩ => ⟨S64, .i1⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v46 : Ref sig .tc := ⟨.hbm, 75, rfl⟩
abbrev main_v47 : Ref sig .tc := ⟨.hbm, 76, rfl⟩
abbrev main_cst_14 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Proof.TileProg.lean ====
/- The tile's program of the edge pooling, restated with its repetitions as recursions.

   The printed body of `cc1_k` is 2500 statements long because the source unrolls its loops: 25 copies, 776 loads and
   stores that zero the two accumulators, five loops whose bodies repeat one group of eleven operations, and the fold of
   sixteen lane stripes. Here each of these is one recursive program over its index, and the printed parts are shown to be
   segments of it. -/
module

public import proofs.«01_k».proof.Proof.Gen.KernelIdeal.Launch
public import proofs.«01_k».proof.Proof.Gen.KernelIdeal.Skeleton
public import proofs.«01_k».proof.Proof.Gen.KernelIdeal.Points

@[expose] public section

set_option maxRecDepth 16384

noncomputable section

namespace Cert.KernelIdeal.Edge

open Idealize.ShloMosaic Idealize.SL.Sem
open Cert.KernelIdeal Cert.KernelIdeal.Gen

variable {F : FTy → Type} [FloatOps F]

/-- A program of the tile at grid coordinates `i`. -/
abbrev TP (F : FTy → Type) [FloatOps F] (i : grid1.Coords) (α : Type) : Type 1 :=
  Prog (TpuEff nD τ sig (Elt F) Λ₀ (.scVector ((i 0).castLE hcore1) ((i 1).castLE hsub1))) α

/-- The flat edge attributes, in HBM. -/
abbrev mAttr : Memref sig .scVector .hbm S1280000 .f32 := Memref.whole main_v3_scv
/-- The edges' graph numbers, in HBM. -/
abbrev mSeg : Memref sig .scVector .hbm S320000 .i32 := Memref.whole main_arg4_scv
/-- The per-tile attribute sums, in HBM. -/
abbrev mAccOut : Memref sig .scVector .hbm S32x256 .f32 := Memref.whole main_v4_0_scv
/-- The per-tile edge counts, in HBM. -/
abbrev mCntOut : Memref sig .scVector .hbm S32x128 .f32 := Memref.whole main_v4_1_scv
/-- The tile's copy of its edges' attributes. -/
abbrev mAv : Memref sig .scVector .vmem S40000 .f32 := Memref.whole cc1_scratch0
/-- The tile's copy of its edges' graph numbers. -/
abbrev mSv : Memref sig .scVector .vmem S10000 .i32 := Memref.whole cc1_scratch1
/-- The sixteen lane stripes of the attribute sums. -/
abbrev mLa : Memref sig .scVector .vmem S4112 .f32 := Memref.whole cc1_scratch2
/-- The sixteen lane stripes of the counts. -/
abbrev mLc : Memref sig .scVector .vmem S2064 .f32 := Memref.whole cc1_scratch3
/-- The folded attribute sums. -/
abbrev mAcc : Memref sig .scVector .vmem S256 .f32 := Memref.whole cc1_scratch4
/-- The folded counts. -/
abbrev mCnt : Memref sig .scVector .vmem S128 .f32 := Memref.whole cc1_scratch5

/-- A function of the kernel's operands at the operands the launch passes. -/
abbrev runAt {β : Type 1} (f : (arg2 : Memref sig .scVector .hbm S1280000 .f32) → (harg2 : arg2.IsWhole) →
    (arg3 : Memref sig .scVector .hbm S320000 .i32) → (harg3 : arg3.IsWhole) →
    (arg4 : Memref sig .scVector .hbm S32x256 .f32) → (harg4 : arg4.IsWhole) →
    (arg5 : Memref sig .scVector .hbm S32x128 .f32) → (harg5 : arg5.IsWhole) →
    (arg6 : Memref sig .scVector .vmem S40000 .f32) → (harg6 : arg6.IsWhole) →
    (arg7 : Memref sig .scVector .vmem S10000 .i32) → (harg7 : arg7.IsWhole) →
    (arg8 : Memref sig .scVector .vmem S4112 .f32) → (harg8 : arg8.IsWhole) →
    (arg9 : Memref sig .scVector .vmem S2064 .f32) → (harg9 : arg9.IsWhole) →
    (arg10 : Memref sig .scVector .vmem S256 .f32) → (harg10 : arg10.IsWhole) →
    (arg11 : Memref sig .scVector .vmem S128 .f32) → (harg11 : arg11.IsWhole) →
    DmaSems sig S_ → DmaSems sig S_ → DmaSems sig S_ → DmaSems sig S_ → DmaSems sig S_ → DmaSems sig S_ → DmaSems sig S_ → β) : β :=
  f mAttr (Memref.isWhole_whole _) mSeg (Memref.isWhole_whole _) mAccOut (Memref.isWhole_whole _) mCntOut (Memref.isWhole_whole _)
    mAv (Memref.isWhole_whole _) mSv (Memref.isWhole_whole _) mLa (Memref.isWhole_whole _) mLc (Memref.isWhole_whole _)
    mAcc (Memref.isWhole_whole _) mCnt (Memref.isWhole_whole _)
    cc1_scratch6 cc1_scratch7 cc1_scratch8 cc1_scratch9 cc1_scratch10 cc1_scoped0 cc1_scoped1

/-! ## Zeroing the accumulators -/

/-- Where the `j`-th of the zeroing stores of the attribute stripes begins: the blocks in order, and the last one again. -/
def zOffA (j : ℕ) : ℕ := min (16 * j) 4096
/-- The same of the count stripes. -/
def zOffC (j : ℕ) : ℕ := min (16 * j) 2048

theorem zOffA_inb (j : ℕ) : ∀ a, (![zOffA j] : Fin 1 → ℕ) a + S16.size a ≤ S4112.size a := by
  intro a; fin_cases a; show min (16 * j) 4096 + 16 ≤ 4112; omega
theorem zOffC_inb (j : ℕ) : ∀ a, (![zOffC j] : Fin 1 → ℕ) a + S16.size a ≤ S2064.size a := by
  intro a; fin_cases a; show min (16 * j) 2048 + 16 ≤ 2064; omega

/-- The `k`-th operation of the zeroing: for each block a load nothing reads, and the store of zeros; 258 blocks of the
    attribute stripes, then those of the count stripes. -/
def zop (i : grid1.Coords) (z : FVec F S16 .f32) (k : ℕ) : TP F i PUnit :=
  bif k.blt 516 then
    bif (k % 2).beq 0 then
      Prog.lift (.load mLa (Rect.unit (s := S4112) ![zOffA (k / 2)] S16.size (zOffA_inb _)).toLoadRect (View.loadsAt_vmem h_S16)) >>= fun _ => pure ⟨⟩
    else
      Prog.lift (.store mLa (Rect.unit (s := S4112) ![zOffA (k / 2)] S16.size (zOffA_inb _)) z Finset.univ (View.stores_vmem_bits_univ h_S16 rfl) (.inl rfl))
  else
    bif (k % 2).beq 0 then
      Prog.lift (.load mLc (Rect.unit (s := S2064) ![zOffC ((k - 516) / 2)] S16.size (zOffC_inb _)).toLoadRect (View.loadsAt_vmem h_S16)) >>= fun _ => pure ⟨⟩
    else
      Prog.lift (.store mLc (Rect.unit (s := S2064) ![zOffC ((k - 516) / 2)] S16.size (zOffC_inb _)) z Finset.univ (View.stores_vmem_bits_univ h_S16 rfl) (.inl rfl))

/-- `n` operations of the zeroing from the `k`-th on. -/
def zrun (i : grid1.Coords) (z : FVec F S16 .f32) : (k n : ℕ) → TP F i PUnit
  | _, 0 => pure ⟨⟩
  | k, n + 1 => zop i z k >>= fun _ => zrun i z (k + 1) n

theorem zrun_add (i : grid1.Coords) (z : FVec F S16 .f32) (k a b : ℕ) {α : Type} (K : PUnit → TP F i α) :
    (zrun i z k a >>= fun _ => (zrun i z (k + a) b >>= K)) = (zrun i z k (a + b) >>= K) := by
  induction a generalizing k with
  | zero => rw [Nat.zero_add]; rfl
  | succ a ih =>
    have e : k + (a + 1) = (k + 1) + a := by omega
    have e' : a + 1 + b = (a + b) + 1 := by omega
    rw [e, e']
    show ((zop i z k >>= fun _ => zrun i z (k + 1) a) >>= _) = ((zop i z k >>= fun _ => zrun i z (k + 1) (a + b)) >>= _)
    rw [bind_assoc, bind_assoc]
    exact bind_congr fun _ => ih (k + 1)

theorem part26_eq (i : grid1.Coords) (z : FVec F S16 .f32) : runAt (k1_part26 (F := F) i) z = zrun i z 17 40 := rfl
theorem part27_eq (i : grid1.Coords) (z : FVec F S16 .f32) : runAt (k1_part27 (F := F) i) z = zrun i z 57 40 := rfl
theorem part28_eq (i : grid1.Coords) (z : FVec F S16 .f32) : runAt (k1_part28 (F := F) i) z = zrun i z 97 40 := rfl
theorem part29_eq (i : grid1.Coords) (z : FVec F S16 .f32) : runAt (k1_part29 (F := F) i) z = zrun i z 137 40 := rfl
theorem part30_eq (i : grid1.Coords) (z : FVec F S16 .f32) : runAt (k1_part30 (F := F) i) z = zrun i z 177 40 := rfl
theorem part31_eq (i : grid1.Coords) (z : FVec F S16 .f32) : runAt (k1_part31 (F := F) i) z = zrun i z 217 40 := rfl
theorem part32_eq (i : grid1.Coords) (z : FVec F S16 .f32) : runAt (k1_part32 (F := F) i) z = zrun i z 257 40 := rfl
theorem part33_eq (i : grid1.Coords) (z : FVec F S16 .f32) : runAt (k1_part33 (F := F) i) z = zrun i z 297 40 := rfl
theorem part34_eq (i : grid1.Coords) (z : FVec F S16 .f32) : runAt (k1_part34 (F := F) i) z = zrun i z 337 40 := rfl
theorem part35_eq (i : grid1.Coords) (z : FVec F S16 .f32) : runAt (k1_part35 (F := F) i) z = zrun i z 377 40 := rfl
theorem part36_eq (i : grid1.Coords) (z : FVec F S16 .f32) : runAt (k1_part36 (F := F) i) z = zrun i z 417 40 := rfl
theorem part37_eq (i : grid1.Coords) (z : FVec F S16 .f32) : runAt (k1_part37 (F := F) i) z = zrun i z 457 40 := rfl
theorem part38_eq (i : grid1.Coords) (z : FVec F S16 .f32) : runAt (k1_part38 (F := F) i) z = zrun i z 497 40 := rfl
theorem part39_eq (i : grid1.Coords) (z : FVec F S16 .f32) : runAt (k1_part39 (F := F) i) z = zrun i z 537 40 := rfl
theorem part40_eq (i : grid1.Coords) (z : FVec F S16 .f32) : runAt (k1_part40 (F := F) i) z = zrun i z 577 40 := rfl
theorem part41_eq (i : grid1.Coords) (z : FVec F S16 .f32) : runAt (k1_part41 (F := F) i) z = zrun i z 617 40 := rfl
theorem part42_eq (i : grid1.Coords) (z : FVec F S16 .f32) : runAt (k1_part42 (F := F) i) z = zrun i z 657 40 := rfl
theorem part43_eq (i : grid1.Coords) (z : FVec F S16 .f32) : runAt (k1_part43 (F := F) i) z = zrun i z 697 40 := rfl
/-- The last zeroing part returns the lanes' numbers and the attribute stripe's length. -/
theorem part44_eq (i : grid1.Coords) (z : FVec F S16 .f32) : runAt (k1_part44 (F := F) i) z
    = zrun i z 737 39 >>= fun _ => pure ⟨iota .scVector S16 32 [0] iota_S16_d0_w32_scVector, 257#32⟩ := rfl

/-! ## The copies in -/

/-- The semaphore of chunk `c`'s copies. -/
def csem (c : Fin 5) : DmaSems sig S_ :=
  match c with
  | 0 => cc1_scratch6 | 1 => cc1_scratch7 | 2 => cc1_scratch8 | 3 => cc1_scratch9 | 4 => cc1_scratch10

theorem dstA_inb (c : Fin 5) (f : Fin 4) : ∀ a, (![10000 * f.val + 2000 * c.val] : Fin 1 → ℕ) a + S2000.size a ≤ S40000.size a := by
  intro a; fin_cases a; show 10000 * f.val + 2000 * c.val + 2000 ≤ 40000; omega
theorem dstS_inb (c : Fin 5) : ∀ a, (![2000 * c.val] : Fin 1 → ℕ) a + S2000.size a ≤ S10000.size a := by
  intro a; fin_cases a; show 2000 * c.val + 2000 ≤ 10000; omega

/-- Attribute `f` of chunk `c` of the tile's edges, in HBM. -/
abbrev srcA (i : grid1.Coords) (c : Fin 5) (f : Fin 4) : Memref sig .scVector .hbm S2000 .f32 :=
  mAttr.slice (Rect.unit (s := S1280000) (k1_off1 i (BitVec.ofNat 32 (320000 * f.val)) (BitVec.ofNat 32 (2000 * c.val))) S2000.size (k1_off1_inb i f c)) (fun _ => rfl)
/-- Where it lands. -/
abbrev dstA (c : Fin 5) (f : Fin 4) : Memref sig .scVector .vmem S2000 .f32 :=
  mAv.slice (Rect.unit (s := S40000) ![10000 * f.val + 2000 * c.val] S2000.size (dstA_inb c f)) (fun _ => rfl)
/-- The graph numbers of chunk `c` of the tile's edges, in HBM. -/
abbrev srcS (i : grid1.Coords) (c : Fin 5) : Memref sig .scVector .hbm S2000 .i32 :=
  mSeg.slice (Rect.unit (s := S320000) (k1_off2 i (BitVec.ofNat 32 (2000 * c.val))) S2000.size (k1_off2_inb i c)) (fun _ => rfl)
/-- Where they land. -/
abbrev dstS (c : Fin 5) : Memref sig .scVector .vmem S2000 .i32 :=
  mSv.slice (Rect.unit (s := S10000) ![2000 * c.val] S2000.size (dstS_inb c)) (fun _ => rfl)

/-- The start of one attribute copy. -/
def issueA (i : grid1.Coords) (c : Fin 5) (f : Fin 4) : TP F i PUnit :=
  Prog.lift (.enqueueDma (srcA i c f) (.here (dstA c f)) (.dma (csem c).sem) (View.wordExact_bits rfl) (View.wordExact_bits rfl) ⟨Or.inl rfl, trivial⟩)
/-- The start of one copy of graph numbers. -/
def issueS (i : grid1.Coords) (c : Fin 5) : TP F i PUnit :=
  Prog.lift (.enqueueDma (srcS i c) (.here (dstS c)) (.dma (csem c).sem) (View.wordExact_bits rfl) (View.wordExact_bits rfl) ⟨Or.inl rfl, trivial⟩)
/-- The wait for one attribute copy. -/
def waitA (i : grid1.Coords) (c : Fin 5) (f : Fin 4) : TP F i PUnit :=
  Prog.lift (.waitDma2 (csem c).sem (srcA i c f) (dstA c f) (View.wordExact_bits rfl) (View.wordExact_bits rfl))
/-- The wait for one copy of graph numbers. -/
def waitS (i : grid1.Coords) (c : Fin 5) : TP F i PUnit :=
  Prog.lift (.waitDma2 (csem c).sem (srcS i c) (dstS c) (View.wordExact_bits rfl) (View.wordExact_bits rfl))

/-- The five copies of a chunk are started. -/
def issueC (i : grid1.Coords) (c : Fin 5) : TP F i PUnit :=
  issueA i c 0 >>= fun _ => issueA i c 1 >>= fun _ => issueA i c 2 >>= fun _ => issueA i c 3 >>= fun _ => issueS i c
/-- The five copies of a chunk are awaited. -/
def waitC (i : grid1.Coords) (c : Fin 5) : TP F i PUnit :=
  waitA i c 0 >>= fun _ => waitA i c 1 >>= fun _ => waitA i c 2 >>= fun _ => waitA i c 3 >>= fun _ => waitS i c

/-- The first five parts: every copy started, and the zeroing begun. -/
theorem parts21_25_eq (i : grid1.Coords) {α : Type} (K : FVec F S16 .f32 → TP F i α) :
    (runAt (k1_part21 (F := F) i) >>= fun v2 => runAt (k1_part22 (F := F) i) v2 >>= fun _ => runAt (k1_part23 (F := F) i) v2 >>= fun p =>
      runAt (k1_part24 (F := F) i) v2 p.1 p.2 >>= fun _ => runAt (k1_part25 (F := F) i) v2 >>= K)
    = (issueC i 0 >>= fun _ => issueC i 1 >>= fun _ => issueC i 2 >>= fun _ => issueC i 3 >>= fun _ => issueC i 4 >>= fun _ =>
      zrun i (k1_pay111 (F := F)) 0 17 >>= fun _ => K (k1_pay111 (F := F))) := rfl

/-! ## The loops -/

/-- The offsets of the loads of a trip: five groups of one load of graph numbers and four of attributes, for each chunk. -/
def offs (c : Fin 5) : Fin 25 → Fin 25 → Fin 1 → ℕ :=
  match c with
  | 0 => ![k1_off3, k1_off4, k1_off5, k1_off6, k1_off7, k1_off8, k1_off9, k1_off10, k1_off11, k1_off12, k1_off13, k1_off14, k1_off15, k1_off16, k1_off17, k1_off18, k1_off19, k1_off20, k1_off21, k1_off22, k1_off23, k1_off24, k1_off25, k1_off26, k1_off27]
  | 1 => ![k1_off28, k1_off29, k1_off30, k1_off31, k1_off32, k1_off33, k1_off34, k1_off35, k1_off36, k1_off37, k1_off38, k1_off39, k1_off40, k1_off41, k1_off42, k1_off43, k1_off44, k1_off45, k1_off46, k1_off47, k1_off48, k1_off49, k1_off50, k1_off51, k1_off52]
  | 2 => ![k1_off53, k1_off54, k1_off55, k1_off56, k1_off57, k1_off58, k1_off59, k1_off60, k1_off61, k1_off62, k1_off63, k1_off64, k1_off65, k1_off66, k1_off67, k1_off68, k1_off69, k1_off70, k1_off71, k1_off72, k1_off73, k1_off74, k1_off75, k1_off76, k1_off77]
  | 3 => ![k1_off78, k1_off79, k1_off80, k1_off81, k1_off82, k1_off83, k1_off84, k1_off85, k1_off86, k1_off87, k1_off88, k1_off89, k1_off90, k1_off91, k1_off92, k1_off93, k1_off94, k1_off95, k1_off96, k1_off97, k1_off98, k1_off99, k1_off100, k1_off101, k1_off102]
  | 4 => ![k1_off103, k1_off104, k1_off105, k1_off106, k1_off107, k1_off108, k1_off109, k1_off110, k1_off111, k1_off112, k1_off113, k1_off114, k1_off115, k1_off116, k1_off117, k1_off118, k1_off119, k1_off120, k1_off121, k1_off122, k1_off123, k1_off124, k1_off125, k1_off126, k1_off127]

/-- The same in closed form. -/
def coff (c : Fin 5) (q t : Fin 25) : ℕ := 2000 * c.val + 80 * t.val + 16 * (q.val / 5) + 10000 * (q.val % 5 - 1)

theorem offs_eq : ∀ (c : Fin 5) (q t : Fin 25), offs c q t = ![coff c q t] := by decide +kernel

/-- The first load of a group, `u` of 5. -/
abbrev qS (u : Fin 5) : Fin 25 := ⟨5 * u.val, by omega⟩
/-- Its load of attribute `f`. -/
abbrev qA (u : Fin 5) (f : Fin 4) : Fin 25 := ⟨5 * u.val + 1 + f.val, by omega⟩

theorem offS_inb (c u : Fin 5) (t : Fin 25) : ∀ a, (offs c (qS u) t) a + S16.size a ≤ S10000.size a := by
  intro a; rw [offs_eq]; fin_cases a; show coff c (qS u) t + 16 ≤ 10000; simp only [coff]; omega
theorem offA_inb (c u : Fin 5) (f : Fin 4) (t : Fin 25) : ∀ a, (offs c (qA u f) t) a + S16.size a ≤ S40000.size a := by
  intro a; rw [offs_eq]; fin_cases a; show coff c (qA u f) t + 16 ≤ 40000; simp only [coff]; omega

/-- Attribute `f` of a group: sixteen values are loaded and added into the lanes' stripes. -/
def accP (i : grid1.Coords) (va : IVec S16 32) (seg : Vec F S16 .i32) (f : Fin 4) (o : Fin 1 → ℕ) (ho : ∀ a, o a + S16.size a ≤ S40000.size a) : TP F i PUnit :=
  Prog.lift (.load mAv (Rect.unit (s := S40000) o S16.size ho).toLoadRect (View.loadsAt_vmem h_S16)) >>= fun (v : Vec F S16 .f32) =>
  Prog.lift (TpuEff.assume (k1_chk2 (addi (k1_pay1 va seg) (broadcast S16 (BitVec.ofNat 32 f.val)))) (k1_chk2.dec _)) >>= fun hw =>
  SparseCore.vectorStoreIdx mLa ![addi (k1_pay1 va seg) (broadcast S16 (BitVec.ofNat 32 f.val))] v (fun _ => 1#1) true (k1_idx2_inb _ hw.down) (View.stores_vmem_bits_univ h_S4112 rfl)

/-- One group of sixteen edges: each edge's graph is counted in its lane's stripe, and its four attributes are added into the
    lane's stripe of the sums. -/
def grpP (i : grid1.Coords) (va vc : IVec S16 32) (ones : FVec F S16 .f32) (c u : Fin 5) (t : Fin 25) : TP F i PUnit :=
  Prog.lift (.load mSv (Rect.unit (s := S10000) (offs c (qS u) t) S16.size (offS_inb c u t)).toLoadRect (View.loadsAt_vmem h_S16)) >>= fun (seg : Vec F S16 .i32) =>
  Prog.lift (TpuEff.assume (k1_chk1 (addi vc seg)) (k1_chk1.dec _)) >>= fun hw =>
  SparseCore.vectorStoreIdx mLc ![addi vc seg] ones (fun _ => 1#1) true (k1_idx1_inb _ hw.down) (View.stores_vmem_bits_univ h_S2064 rfl) >>= fun _ =>
  accP i va seg 0 (offs c (qA u 0) t) (offA_inb c u 0 t) >>= fun _ =>
  accP i va seg 1 (offs c (qA u 1) t) (offA_inb c u 1 t) >>= fun _ =>
  accP i va seg 2 (offs c (qA u 2) t) (offA_inb c u 2 t) >>= fun _ =>
  accP i va seg 3 (offs c (qA u 3) t) (offA_inb c u 3 t)

/-- One trip of chunk `c`'s loop: five groups. -/
def bodyP (i : grid1.Coords) (va vc : IVec S16 32) (ones : FVec F S16 .f32) (c : Fin 5) (t : Fin 25) : TP F i Unit :=
  grpP i va vc ones c 0 t >>= fun _ => grpP i va vc ones c 1 t >>= fun _ => grpP i va vc ones c 2 t >>= fun _ =>
  grpP i va vc ones c 3 t >>= fun _ => grpP i va vc ones c 4 t >>= fun _ => pure ⟨⟩

/-- The lanes' numbers. -/
abbrev iota16 : IVec S16 32 := iota .scVector S16 32 [0] iota_S16_d0_w32_scVector
/-- Where each lane's stripe of the sums begins. -/
abbrev laneA : IVec S16 32 := k1_pay112 iota16 257#32
/-- Where each lane's stripe of the counts begins. -/
abbrev laneC : IVec S16 32 := k1_pay113 iota16
/-- Sixteen ones. -/
abbrev ones16 : FVec F S16 .f32 := k1_pay114

theorem body1_eq (i : grid1.Coords) : runAt (k1_t1_body (F := F) i) iota16 257#32 = fun t _ => bodyP i laneA laneC ones16 0 t := rfl
theorem body2_eq (i : grid1.Coords) (va vc : IVec S16 32) (ones : FVec F S16 .f32) : runAt (k1_t2_body (F := F) i) va vc ones = fun t _ => bodyP i va vc ones 1 t := rfl
theorem body3_eq (i : grid1.Coords) (va vc : IVec S16 32) (ones : FVec F S16 .f32) : runAt (k1_t3_body (F := F) i) va vc ones = fun t _ => bodyP i va vc ones 2 t := rfl
theorem body4_eq (i : grid1.Coords) (va vc : IVec S16 32) (ones : FVec F S16 .f32) : runAt (k1_t4_body (F := F) i) va vc ones = fun t _ => bodyP i va vc ones 3 t := rfl
theorem body5_eq (i : grid1.Coords) (va vc : IVec S16 32) (ones : FVec F S16 .f32) : runAt (k1_t5_body (F := F) i) va vc ones = fun t _ => bodyP i va vc ones 4 t := rfl

/-! ## The fold of the stripes -/

theorem fOffA_inb (k : ℕ) : ∀ a, (![min (257 * (k % 18) + 16 * (k / 18)) 4096] : Fin 1 → ℕ) a + S16.size a ≤ S4112.size a := by
  intro a; fin_cases a; show min (257 * (k % 18) + 16 * (k / 18)) 4096 + 16 ≤ 4112; omega
theorem fOffC_inb (k : ℕ) : ∀ a, (![min (129 * (k % 18) + 16 * ((k - 288) / 18)) 2048] : Fin 1 → ℕ) a + S16.size a ≤ S2064.size a := by
  intro a; fin_cases a; show min (129 * (k % 18) + 16 * ((k - 288) / 18)) 2048 + 16 ≤ 2064; omega
theorem oOffA_inb (k : ℕ) : ∀ a, (![min (16 * (k / 18)) 240] : Fin 1 → ℕ) a + S16.size a ≤ S256.size a := by
  intro a; fin_cases a; show min (16 * (k / 18)) 240 + 16 ≤ 256; omega
theorem oOffC_inb (k : ℕ) : ∀ a, (![min (16 * ((k - 288) / 18)) 112] : Fin 1 → ℕ) a + S16.size a ≤ S128.size a := by
  intro a; fin_cases a; show min (16 * ((k - 288) / 18)) 112 + 16 ≤ 128; omega

/-- The load of the fold's operation `k`: eighteen operations a block, the first sixteen the stripes' loads. -/
def floadP (i : grid1.Coords) (k : ℕ) : TP F i (Vec F S16 .f32) :=
  bif k.blt 288 then
    Prog.lift (.load mLa (Rect.unit (s := S4112) ![min (257 * (k % 18) + 16 * (k / 18)) 4096] S16.size (fOffA_inb k)).toLoadRect (View.loadsAt_vmem h_S16))
  else
    Prog.lift (.load mLc (Rect.unit (s := S2064) ![min (129 * (k % 18) + 16 * ((k - 288) / 18)) 2048] S16.size (fOffC_inb k)).toLoadRect (View.loadsAt_vmem h_S16))

/-- The load of the block about to be stored, which nothing reads. -/
def fdeadP (i : grid1.Coords) (k : ℕ) : TP F i (Vec F S16 .f32) :=
  bif k.blt 288 then
    Prog.lift (.load mAcc (Rect.unit (s := S256) ![min (16 * (k / 18)) 240] S16.size (oOffA_inb k)).toLoadRect (View.loadsAt_vmem h_S16))
  else
    Prog.lift (.load mCnt (Rect.unit (s := S128) ![min (16 * ((k - 288) / 18)) 112] S16.size (oOffC_inb k)).toLoadRect (View.loadsAt_vmem h_S16))

/-- The store of a folded block. -/
def fstoreP (i : grid1.Coords) (k : ℕ) (s : FVec F S16 .f32) : TP F i PUnit :=
  bif k.blt 288 then
    Prog.lift (.store mAcc (Rect.unit (s := S256) ![min (16 * (k / 18)) 240] S16.size (oOffA_inb k)) s Finset.univ (View.stores_vmem_bits_univ h_S16 rfl) (.inl rfl))
  else
    Prog.lift (.store mCnt (Rect.unit (s := S128) ![min (16 * ((k - 288) / 18)) 112] S16.size (oOffC_inb k)) s Finset.univ (View.stores_vmem_bits_univ h_S16 rfl) (.inl rfl))

/-- The fold's operation `k`, the sum so far passed along: the first load of a block begins the sum, the next fifteen add to it, then
    the dead load and the store. -/
def fopP (i : grid1.Coords) (k : ℕ) (s : FVec F S16 .f32) : TP F i (FVec F S16 .f32) :=
  bif (k % 18).beq 0 then floadP i k >>= fun v => pure v
  else bif (k % 18).blt 16 then floadP i k >>= fun v => pure (addf s v)
  else bif (k % 18).beq 16 then fdeadP i k >>= fun _ => pure s
  else fstoreP i k s >>= fun _ => pure s

/-- `n` operations of the fold from the `k`-th on. -/
def frun (i : grid1.Coords) : (k n : ℕ) → FVec F S16 .f32 → TP F i (FVec F S16 .f32)
  | _, 0, s => pure s
  | k, n + 1, s => fopP i k s >>= fun s' => frun i (k + 1) n s'

theorem frun_add (i : grid1.Coords) (k a b : ℕ) (s : FVec F S16 .f32) {α : Type} (K : FVec F S16 .f32 → TP F i α) :
    (frun i k a s >>= fun s' => (frun i (k + a) b s' >>= K)) = (frun i k (a + b) s >>= K) := by
  induction a generalizing k s with
  | zero => rw [Nat.zero_add]; rfl
  | succ a ih =>
    have e : k + (a + 1) = (k + 1) + a := by omega
    have e' : a + 1 + b = (a + b) + 1 := by omega
    rw [e, e']
    show ((fopP i k s >>= fun s' => frun i (k + 1) a s') >>= _) = ((fopP i k s >>= fun s' => frun i (k + 1) (a + b) s') >>= _)
    rw [bind_assoc, bind_assoc]
    exact bind_congr fun s' => ih (k + 1) s'

/-- The first load of a block is the fold's next operation, whatever the sum so far. -/
theorem frun_first (i : grid1.Coords) (m b : ℕ) (h0 : (m % 18).beq 0 = true) (s : FVec F S16 .f32) {α : Type} (K : FVec F S16 .f32 → TP F i α) :
    (frun i 0 m s >>= fun _ => floadP i m >>= fun v => frun i (m + 1) b v >>= K) = (frun i 0 (m + (b + 1)) s >>= K) := by
  rw [← frun_add, Nat.zero_add]
  refine bind_congr fun s' => ?_
  show _ = ((fopP i m s' >>= fun s'' => frun i (m + 1) b s'') >>= K)
  unfold fopP
  rw [h0]
  simp only [cond_true, bind_assoc, pure_bind, bind_pure]

/-- A pending load and its addition are the fold's next operation. -/
theorem frun_next (i : grid1.Coords) (m b : ℕ) (h0 : (m % 18).beq 0 = false) (h1 : (m % 18).blt 16 = true)
    (s : FVec F S16 .f32) {α : Type} (K : FVec F S16 .f32 → TP F i α) :
    (frun i 0 m s >>= fun s' => floadP i m >>= fun v => frun i (m + 1) b (addf s' v) >>= K) = (frun i 0 (m + (b + 1)) s >>= K) := by
  rw [← frun_add, Nat.zero_add]
  refine bind_congr fun s' => ?_
  show _ = ((fopP i m s' >>= fun s'' => frun i (m + 1) b s'') >>= K)
  unfold fopP
  rw [h0, h1]
  simp only [cond_false, cond_true, bind_assoc, pure_bind, bind_pure]

theorem part49_eq (i : grid1.Coords) (s : FVec F S16 .f32) : runAt (k1_part49 (F := F) i) s = frun i 8 21 s := rfl
theorem part50_eq (i : grid1.Coords) (s : FVec F S16 .f32) : runAt (k1_part50 (F := F) i) s = (frun i 29 21 s >>= fun s' => floadP i 50 >>= fun v => pure ⟨s', v⟩) := rfl
theorem part51_eq (i : grid1.Coords) (s : FVec F S16 .f32) (v : Vec F S16 .f32) : runAt (k1_part51 (F := F) i) s v = (frun i 51 21 (addf s v) >>= fun _ => floadP i 72) := rfl
theorem part52_eq (i : grid1.Coords) (s : FVec F S16 .f32) : runAt (k1_part52 (F := F) i) s = (frun i 73 21 s >>= fun s' => floadP i 94 >>= fun v => pure ⟨s', v⟩) := rfl
theorem part53_eq (i : grid1.Coords) (s : FVec F S16 .f32) (v : Vec F S16 .f32) : runAt (k1_part53 (F := F) i) s v = frun i 95 21 (addf s v) := rfl
theorem part54_eq (i : grid1.Coords) (s : FVec F S16 .f32) : runAt (k1_part54 (F := F) i) s = frun i 116 21 s := rfl
theorem part55_eq (i : grid1.Coords) (s : FVec F S16 .f32) : runAt (k1_part55 (F := F) i) s = (frun i 137 21 s >>= fun s' => floadP i 158 >>= fun v => pure ⟨s', v⟩) := rfl
theorem part56_eq (i : grid1.Coords) (s : FVec F S16 .f32) (v : Vec F S16 .f32) : runAt (k1_part56 (F := F) i) s v = (frun i 159 21 (addf s v) >>= fun _ => floadP i 180) := rfl
theorem part57_eq (i : grid1.Coords) (s : FVec F S16 .f32) : runAt (k1_part57 (F := F) i) s = (frun i 181 21 s >>= fun s' => floadP i 202 >>= fun v => pure ⟨s', v⟩) := rfl
theorem part58_eq (i : grid1.Coords) (s : FVec F S16 .f32) (v : Vec F S16 .f32) : runAt (k1_part58 (F := F) i) s v = frun i 203 21 (addf s v) := rfl
theorem part59_eq (i : grid1.Coords) (s : FVec F S16 .f32) : runAt (k1_part59 (F := F) i) s = frun i 224 21 s := rfl
theorem part60_eq (i : grid1.Coords) (s : FVec F S16 .f32) : runAt (k1_part60 (F := F) i) s = (frun i 245 21 s >>= fun s' => floadP i 266 >>= fun v => pure ⟨s', v⟩) := rfl
theorem part61_eq (i : grid1.Coords) (s : FVec F S16 .f32) (v : Vec F S16 .f32) : runAt (k1_part61 (F := F) i) s v = (frun i 267 21 (addf s v) >>= fun _ => floadP i 288) := rfl
theorem part62_eq (i : grid1.Coords) (s : FVec F S16 .f32) : runAt (k1_part62 (F := F) i) s = (frun i 289 21 s >>= fun s' => floadP i 310 >>= fun v => pure ⟨s', v⟩) := rfl
theorem part63_eq (i : grid1.Coords) (s : FVec F S16 .f32) (v : Vec F S16 .f32) : runAt (k1_part63 (F := F) i) s v = frun i 311 21 (addf s v) := rfl
theorem part64_eq (i : grid1.Coords) (s : FVec F S16 .f32) : runAt (k1_part64 (F := F) i) s = frun i 332 21 s := rfl
theorem part65_eq (i : grid1.Coords) (s : FVec F S16 .f32) : runAt (k1_part65 (F := F) i) s = (frun i 353 21 s >>= fun s' => floadP i 374 >>= fun v => pure ⟨s', v⟩) := rfl
theorem part66_eq (i : grid1.Coords) (s : FVec F S16 .f32) (v : Vec F S16 .f32) : runAt (k1_part66 (F := F) i) s v = (frun i 375 21 (addf s v) >>= fun _ => floadP i 396) := rfl
theorem part67_eq (i : grid1.Coords) (s : FVec F S16 .f32) : runAt (k1_part67 (F := F) i) s = (frun i 397 21 s >>= fun s' => floadP i 418 >>= fun v => pure ⟨s', v⟩) := rfl

/-! ## The copies out -/

/-- The tile's row of the sums, in HBM. -/
abbrev outA (i : grid1.Coords) : Memref sig .scVector .hbm S256 .f32 :=
  (mAccOut.slice (Rect.unit (s := S32x256) (k1_off128 i) S1x256.size (k1_off128_inb i)) (fun _ => rfl)).squeeze S256 squeezes_S1x256_S256
/-- The tile's row of the counts, in HBM. -/
abbrev outC (i : grid1.Coords) : Memref sig .scVector .hbm S128 .f32 :=
  (mCntOut.slice (Rect.unit (s := S32x128) (k1_off129 i) S1x128.size (k1_off129_inb i)) (fun _ => rfl)).squeeze S128 squeezes_S1x128_S128

/-- The two rows copied out, the first awaited before the second starts, the wait for the second still to come. -/
def outP' (i : grid1.Coords) : TP F i PUnit :=
  Prog.lift (.enqueueDma mAcc (.here (outA i)) (.dma cc1_scoped0.sem) (Memref.isWhole_whole _).wordExact ((View.wordExact_bits rfl).reshape _ _) ⟨Or.inl rfl, trivial⟩) >>= fun _ =>
  Prog.lift (.waitDma2 cc1_scoped0.sem mAcc (outA i) (Memref.isWhole_whole _).wordExact ((View.wordExact_bits rfl).reshape _ _)) >>= fun _ =>
  Prog.lift (.enqueueDma mCnt (.here (outC i)) (.dma cc1_scoped1.sem) (Memref.isWhole_whole _).wordExact ((View.wordExact_bits rfl).reshape _ _) ⟨Or.inl rfl, trivial⟩) >>= fun _ =>
  pure ⟨⟩

/-- The two rows copied out, each awaited before the next. -/
def outP (i : grid1.Coords) : TP F i PUnit :=
  outP' i >>= fun _ =>
  Prog.lift (.waitDma2 cc1_scoped1.sem mCnt (outC i) (Memref.isWhole_whole _).wordExact ((View.wordExact_bits rfl).reshape _ _))

/-- The last part: the end of the fold and the copies out, the last wait apart. -/
theorem part68_eq (i : grid1.Coords) (s : FVec F S16 .f32) (v : Vec F S16 .f32) :
    runAt (k1_part68 (F := F) i) s v = (frun i 419 13 (addf s v) >>= fun _ => outP' i) := rfl

end Cert.KernelIdeal.Edge
-- ==== Proof.TileEq.lean ====
/- The tile's program, the printed parts joined. -/
module

public import proofs.«01_k».proof.Proof.TileProg

@[expose] public section

set_option maxRecDepth 16384

noncomputable section

namespace Cert.KernelIdeal.Edge

open Idealize.ShloMosaic Idealize.SL.Sem
open Cert.KernelIdeal Cert.KernelIdeal.Gen

variable {F : FTy → Type} [FloatOps F]

/-! ## The loops between their waits, part by part -/

/-- Chunk `c`: its five waits, then its loop. -/
def chunkP (i : grid1.Coords) (c : Fin 5) : TP F i PUnit :=
  waitC i c >>= fun _ => Scf.Loop.for k1_t1_loop k1_t1_ok ⟨⟩ (fun t _ => bodyP i laneA laneC ones16 c t)

/-- The zeroing, part by part, is one run. -/
theorem zchain (i : grid1.Coords) (z : FVec F S16 .f32) {α : Type} (K : PUnit → TP F i α) :
    (zrun i z 0 17 >>= fun _ => zrun i z 17 40 >>= fun _ => zrun i z 57 40 >>= fun _ => zrun i z 97 40 >>= fun _ => zrun i z 137 40 >>= fun _ => zrun i z 177 40 >>= fun _ => zrun i z 217 40 >>= fun _ => zrun i z 257 40 >>= fun _ => zrun i z 297 40 >>= fun _ => zrun i z 337 40 >>= fun _ => zrun i z 377 40 >>= fun _ => zrun i z 417 40 >>= fun _ => zrun i z 457 40 >>= fun _ => zrun i z 497 40 >>= fun _ => zrun i z 537 40 >>= fun _ => zrun i z 577 40 >>= fun _ => zrun i z 617 40 >>= fun _ => zrun i z 657 40 >>= fun _ => zrun i z 697 40 >>= fun _ => zrun i z 737 39 >>= K) = (zrun i z 0 776 >>= K) := by
  refine (zrun_add i z 0 17 40 _).trans ?_
  refine (zrun_add i z 0 57 40 _).trans ?_
  refine (zrun_add i z 0 97 40 _).trans ?_
  refine (zrun_add i z 0 137 40 _).trans ?_
  refine (zrun_add i z 0 177 40 _).trans ?_
  refine (zrun_add i z 0 217 40 _).trans ?_
  refine (zrun_add i z 0 257 40 _).trans ?_
  refine (zrun_add i z 0 297 40 _).trans ?_
  refine (zrun_add i z 0 337 40 _).trans ?_
  refine (zrun_add i z 0 377 40 _).trans ?_
  refine (zrun_add i z 0 417 40 _).trans ?_
  refine (zrun_add i z 0 457 40 _).trans ?_
  refine (zrun_add i z 0 497 40 _).trans ?_
  refine (zrun_add i z 0 537 40 _).trans ?_
  refine (zrun_add i z 0 577 40 _).trans ?_
  refine (zrun_add i z 0 617 40 _).trans ?_
  refine (zrun_add i z 0 657 40 _).trans ?_
  refine (zrun_add i z 0 697 40 _).trans ?_
  exact zrun_add i z 0 737 39 K

/-- The fold, part by part, is one run. -/
theorem fchain (i : grid1.Coords) (s : FVec F S16 .f32) {α : Type} (K : FVec F S16 .f32 → TP F i α) :
    (frun i 0 8 s >>= fun s48 => frun i 8 21 s48 >>= fun s49 => frun i 29 21 s49 >>= fun s50 => floadP i 50 >>= fun v50 => frun i 51 21 (addf s50 v50) >>= fun s51 => floadP i 72 >>= fun v51 => frun i 73 21 v51 >>= fun s52 => floadP i 94 >>= fun v52 => frun i 95 21 (addf s52 v52) >>= fun s53 => frun i 116 21 s53 >>= fun s54 => frun i 137 21 s54 >>= fun s55 => floadP i 158 >>= fun v55 => frun i 159 21 (addf s55 v55) >>= fun s56 => floadP i 180 >>= fun v56 => frun i 181 21 v56 >>= fun s57 => floadP i 202 >>= fun v57 => frun i 203 21 (addf s57 v57) >>= fun s58 => frun i 224 21 s58 >>= fun s59 => frun i 245 21 s59 >>= fun s60 => floadP i 266 >>= fun v60 => frun i 267 21 (addf s60 v60) >>= fun s61 => floadP i 288 >>= fun v61 => frun i 289 21 v61 >>= fun s62 => floadP i 310 >>= fun v62 => frun i 311 21 (addf s62 v62) >>= fun s63 => frun i 332 21 s63 >>= fun s64 => frun i 353 21 s64 >>= fun s65 => floadP i 374 >>= fun v65 => frun i 375 21 (addf s65 v65) >>= fun s66 => floadP i 396 >>= fun v66 => frun i 397 21 v66 >>= fun s67 => floadP i 418 >>= fun v67 => frun i 419 13 (addf s67 v67) >>= K) = (frun i 0 432 s >>= K) := by
  refine (frun_add i 0 8 21 s _).trans ?_
  refine (frun_add i 0 29 21 s _).trans ?_
  refine (frun_next i 50 21 rfl rfl s _).trans ?_
  refine (frun_first i 72 21 rfl s _).trans ?_
  refine (frun_next i 94 21 rfl rfl s _).trans ?_
  refine (frun_add i 0 116 21 s _).trans ?_
  refine (frun_add i 0 137 21 s _).trans ?_
  refine (frun_next i 158 21 rfl rfl s _).trans ?_
  refine (frun_first i 180 21 rfl s _).trans ?_
  refine (frun_next i 202 21 rfl rfl s _).trans ?_
  refine (frun_add i 0 224 21 s _).trans ?_
  refine (frun_add i 0 245 21 s _).trans ?_
  refine (frun_next i 266 21 rfl rfl s _).trans ?_
  refine (frun_first i 288 21 rfl s _).trans ?_
  refine (frun_next i 310 21 rfl rfl s _).trans ?_
  refine (frun_add i 0 332 21 s _).trans ?_
  refine (frun_add i 0 353 21 s _).trans ?_
  refine (frun_next i 374 21 rfl rfl s _).trans ?_
  refine (frun_first i 396 21 rfl s _).trans ?_
  exact frun_next i 418 13 rfl rfl s K

/-- Part 45: chunk 0, and the first wait of chunk 1. -/
theorem part45_eq (i : grid1.Coords) : runAt (k1_part45 (F := F) i) iota16 257#32 = (waitC i 0 >>= fun _ =>
    Scf.Loop.for k1_t1_loop k1_t1_ok ⟨⟩ (fun t _ => bodyP i laneA laneC ones16 0 t) >>= fun _ => waitA i 1 0 >>= fun _ => pure ⟨laneA, laneC, ones16⟩) := rfl
/-- Part 46: the rest of chunk 1, and the first waits of chunk 2. -/
theorem part46_eq (i : grid1.Coords) : runAt (k1_part46 (F := F) i) laneA laneC ones16 = (waitA i 1 1 >>= fun _ => waitA i 1 2 >>= fun _ => waitA i 1 3 >>= fun _ => waitS i 1 >>= fun _ =>
    Scf.Loop.for k1_t1_loop k1_t1_ok ⟨⟩ (fun t _ => bodyP i laneA laneC ones16 1 t) >>= fun _ => waitA i 2 0 >>= fun _ => waitA i 2 1 >>= fun _ => waitA i 2 2 >>= fun _ => waitA i 2 3 >>= fun _ => pure ⟨⟩) := rfl
/-- Part 47: the rest of chunk 2, and chunk 3. -/
theorem part47_eq (i : grid1.Coords) : runAt (k1_part47 (F := F) i) laneA laneC ones16 = (waitS i 2 >>= fun _ =>
    Scf.Loop.for k1_t1_loop k1_t1_ok ⟨⟩ (fun t _ => bodyP i laneA laneC ones16 2 t) >>= fun _ => waitA i 3 0 >>= fun _ => waitA i 3 1 >>= fun _ => waitA i 3 2 >>= fun _ => waitA i 3 3 >>= fun _ => waitS i 3 >>= fun _ =>
    Scf.Loop.for k1_t1_loop k1_t1_ok ⟨⟩ (fun t _ => bodyP i laneA laneC ones16 3 t) >>= fun _ => pure ⟨⟩) := rfl
/-- Part 48: chunk 4, and the fold's first eight loads. -/
theorem part48_eq (i : grid1.Coords) : runAt (k1_part48 (F := F) i) laneA laneC ones16 = (waitA i 4 0 >>= fun _ => waitA i 4 1 >>= fun _ => waitA i 4 2 >>= fun _ => waitA i 4 3 >>= fun _ => waitS i 4 >>= fun _ =>
    Scf.Loop.for k1_t1_loop k1_t1_ok ⟨⟩ (fun t _ => bodyP i laneA laneC ones16 4 t) >>= fun _ => frun i 0 8 (constant S16 .f32 0#32)) := rfl

/-- The whole tile program. -/
def tileP (i : grid1.Coords) : TP F i PUnit :=
  issueC i 0 >>= fun _ => issueC i 1 >>= fun _ => issueC i 2 >>= fun _ => issueC i 3 >>= fun _ => issueC i 4 >>= fun _ =>
  zrun i (k1_pay111 (F := F)) 0 776 >>= fun _ =>
  chunkP i 0 >>= fun _ => chunkP i 1 >>= fun _ => chunkP i 2 >>= fun _ => chunkP i 3 >>= fun _ => chunkP i 4 >>= fun _ =>
  frun i 0 432 (constant S16 .f32 0#32) >>= fun _ => outP i >>= fun _ => pure ⟨⟩

/-- The printed body, at the launch's operands, is that program. -/
theorem cc1_k_eq (i : grid1.Coords) : runAt (cc1_k (F := F) i) = tileP i := by
  have e21 := parts21_25_eq (F := F) i (α := PUnit)
  dsimp only [runAt] at e21
  rw [cc1_k_eq_skeleton]
  dsimp only [runAt, cc1_k_skel]
  refine (e21 _).trans ?_
  unfold tileP
  refine bind_congr fun _ => bind_congr fun _ => bind_congr fun _ => bind_congr fun _ => bind_congr fun _ => ?_
  simp only [part26_eq, part27_eq, part28_eq, part29_eq, part30_eq, part31_eq, part32_eq, part33_eq, part34_eq, part35_eq, part36_eq, part37_eq, part38_eq, part39_eq, part40_eq, part41_eq, part42_eq, part43_eq, part44_eq, part45_eq, part46_eq, part47_eq, part48_eq, part49_eq, part50_eq, part51_eq, part52_eq, part53_eq, part54_eq, part55_eq, part56_eq, part57_eq, part58_eq, part59_eq, part60_eq, part61_eq, part62_eq, part63_eq, part64_eq, part65_eq, part66_eq, part67_eq, part68_eq, bind_assoc, pure_bind]
  refine (zchain _ _ _).trans (bind_congr fun _ => ?_)
  have e45 := part45_eq (F := F) i
  have e46 := part46_eq (F := F) i
  have e47 := part47_eq (F := F) i
  have e48 := part48_eq (F := F) i
  dsimp only [runAt] at e45 e46 e47 e48
  rw [e45]
  simp only [bind_assoc, pure_bind]
  rw [e46, e47, e48]
  simp only [chunkP, waitC, bind_assoc, pure_bind, outP, ← fchain]

end Cert.KernelIdeal.Edge
-- ==== Proof.TileVal.lean ====
/- What a tile computes, as plain functions of its copy of the edges: the two striped accumulators after each group of
   sixteen edges, and the two rows it folds them into. -/
module

public import proofs.«01_k».proof.Proof.TileEq
public import Idealize.ShloMosaic.Lib.SparseCore.Ops
public import Idealize.ShloMosaic.Lib.Writes

@[expose] public section

set_option maxRecDepth 16384

noncomputable section

namespace Cert.KernelIdeal.Edge

open Idealize.ShloMosaic Idealize.SL.Sem
open Cert.KernelIdeal Cert.KernelIdeal.Gen

variable {F : FTy → Type} [FloatOps F]

/-- Sixteen consecutive elements of a vector, from `o` on. -/
def rd {n : ℕ} [NeZero n] {α : Type} (v : (⟨1, ![n]⟩ : Shape).Idx → α) (o : ℕ) : S16.Idx → α :=
  fun x => v fun a => ⟨(o + (x 0).val) % n, by fin_cases a; exact Nat.mod_lt _ (NeZero.pos n)⟩

/-- A vector with sixteen consecutive elements from `o` on replaced. -/
def wr {n : ℕ} {α : Type} (v : (⟨1, ![n]⟩ : Shape).Idx → α) (o : ℕ) (w : S16.Idx → α) : (⟨1, ![n]⟩ : Shape).Idx → α :=
  fun y => if h : o ≤ (y 0).val ∧ (y 0).val < o + 16 then w (fun a => ⟨(y 0).val - o, by fin_cases a; show (y 0).val - o < 16; omega⟩) else v y

/-- A load of sixteen elements reads them in order. -/
theorem read_unit {n : ℕ} [NeZero n] {e : EltTy} (b : Memref sig .scVector .vmem ⟨1, ![n]⟩ e) (o : ℕ) (h : ∀ a, (![o] : Fin 1 → ℕ) a + S16.size a ≤ (⟨1, ![n]⟩ : Shape).size a)
    (f : b.view.ty.Contents (Elt F)) :
    (b.access (Rect.unit (s := ⟨1, ![n]⟩) ![o] S16.size h)).read (Elt F) f = rd (b.view.read (Elt F) f) o := by
  funext x
  have h0 : o + 16 ≤ n := h 0
  have hx : (x 0).val < 16 := (x 0).isLt
  have e : (Rect.unit (s := ⟨1, ![n]⟩) ![o] S16.size h).emb x = fun a => ⟨(o + (x 0).val) % n, by fin_cases a; exact Nat.mod_lt _ (NeZero.pos n)⟩ :=
    Rect.emb_eq_of_coords _ x _ fun a => by
      fin_cases a
      show (o + (x 0).val) % n = o + 1 * (x 0).val
      rw [Nat.mod_eq_of_lt (by omega), Nat.one_mul]
  exact congrArg (b.view.read (Elt F) f) e

/-- A store of sixteen elements replaces them. -/
theorem write_unit {n : ℕ} {e : EltTy} (b : Memref sig .scVector .vmem ⟨1, ![n]⟩ e) (o : ℕ) (h : ∀ a, (![o] : Fin 1 → ℕ) a + S16.size a ≤ (⟨1, ![n]⟩ : Shape).size a)
    (f : b.view.ty.Contents (Elt F)) (w : S16.Idx → Elt F e) :
    b.view.read (Elt F) ((b.access (Rect.unit (s := ⟨1, ![n]⟩) ![o] S16.size h)).write (Elt F) f w Finset.univ) = wr (b.view.read (Elt F) f) o w := by
  funext y
  unfold wr
  split
  · next hy =>
    have e : (Rect.unit (s := ⟨1, ![n]⟩) ![o] S16.size h).emb (fun a => ⟨(y 0).val - o, by fin_cases a; show (y 0).val - o < 16; omega⟩) = y :=
      Rect.emb_eq_of_coords _ _ _ fun a => by
        fin_cases a
        show (y 0).val = o + 1 * ((y 0).val - o)
        omega
    exact (congrArg _ e.symm).trans (View.read_slice_write_emb (v := b.view) (Rect.unit (s := ⟨1, ![n]⟩) ![o] S16.size h) f w (Finset.mem_univ _))
  · next hy =>
    refine View.read_slice_write_of_not_mem (v := b.view) (Rect.unit (s := ⟨1, ![n]⟩) ![o] S16.size h) f w Finset.univ ?_
    rw [Rect.map_emb_univ]
    exact Rect.not_mem_set_of_axis _ y 0 o 16 rfl rfl rfl (by omega)

variable {i : grid1.Coords}

/-! ## One group of edges -/

/-- Sixteen values added into a vector at sixteen places (nothing, were a place out of the vector). -/
def scat {n : ℕ} (f : FVec F (⟨1, ![n]⟩ : Shape) .f32) (idx : IVec S16 32) (v : FVec F S16 .f32) : FVec F (⟨1, ![n]⟩ : Shape) .f32 :=
  if h : ∀ a x, ((![idx] : Fin 1 → IVec S16 32) a x).toNat < (⟨1, ![n]⟩ : Shape).size a then
    storeIdx (s := ⟨1, ![n]⟩) (e := .f32) f (![idx] : Fin 1 → IVec S16 32) v (fun _ => 1#1) true h
  else f

/-- Where a group's counts go. -/
def idxC (sv : Vec F S10000 .i32) (g : ℕ) : IVec S16 32 := addi laneC (rd sv (16 * g) : Vec F S16 .i32)
/-- Where a group's values of attribute `f` go. -/
def idxA (sv : Vec F S10000 .i32) (g f : ℕ) : IVec S16 32 := addi (k1_pay1 (F := F) laneA (rd sv (16 * g))) (broadcast S16 (BitVec.ofNat 32 f))

/-- The count stripes after `g` groups. -/
def cntS (sv : Vec F S10000 .i32) : ℕ → FVec F S2064 .f32
  | 0 => broadcast _ (Scalar.ofBits .f32 0x00000000#32)
  | g + 1 => scat (cntS sv g) (idxC sv g) ones16

/-- One attribute of a group added into the attribute stripes. -/
def accS1 (av : Vec F S40000 .f32) (sv : Vec F S10000 .i32) (g f : ℕ) (L : FVec F S4112 .f32) : FVec F S4112 .f32 :=
  scat L (idxA sv g f) (rd av (10000 * f + 16 * g))

/-- The attribute stripes after `g` groups. -/
def accS (av : Vec F S40000 .f32) (sv : Vec F S10000 .i32) : ℕ → FVec F S4112 .f32
  | 0 => broadcast _ (Scalar.ofBits .f32 0x00000000#32)
  | g + 1 => accS1 av sv g 3 (accS1 av sv g 2 (accS1 av sv g 1 (accS1 av sv g 0 (accS av sv g))))

/-! ## The fold -/

/-- The sum of the first `r + 1` stripes' block `b`, the stripes `w` apart. -/
def psum {n : ℕ} [NeZero n] (w : ℕ) (L : FVec F (⟨1, ![n]⟩ : Shape) .f32) (b : ℕ) : ℕ → FVec F S16 .f32
  | 0 => rd L (16 * b)
  | r + 1 => addf (psum w L b r) (rd L (w * (r + 1) + 16 * b))

/-- All sixteen stripes, folded. -/
def foldS {n : ℕ} [NeZero n] (w : ℕ) (L : FVec F (⟨1, ![n]⟩ : Shape) .f32) {m : ℕ} : FVec F (⟨1, ![m]⟩ : Shape) .f32 :=
  fun y => psum w L ((y 0).val / 16) 15 (fun a => ⟨(y 0).val % 16, by fin_cases a; exact Nat.mod_lt _ (by omega)⟩)

/-- The tile's row of attribute sums. -/
def rowA (av : Vec F S40000 .f32) (sv : Vec F S10000 .i32) : FVec F S256 .f32 := foldS 257 (accS av sv 625)
/-- The tile's row of counts. -/
def rowC (sv : Vec F S10000 .i32) : FVec F S128 .f32 := foldS 129 (cntS sv 625)

/-! ## The places are inside -/

/-- The graph numbers of a tile's edges are graph numbers. -/
def SegOk (sv : Vec F S10000 .i32) : Prop := ∀ x, (sv x : BitVec 32).toNat < 64

theorem laneA_val (x : S16.Idx) : laneA x = BitVec.ofNat 32 (257 * (x 0).val) := by
  obtain ⟨y, rfl⟩ : ∃ y : Fin 16, x = (fun a => match a with | 0 => y) := ⟨x 0, by funext a; fin_cases a; rfl⟩
  show laneA _ = BitVec.ofNat 32 (257 * y.val)
  revert y
  decide +kernel

theorem laneC_val (x : S16.Idx) : laneC x = BitVec.ofNat 32 (129 * (x 0).val) := by
  obtain ⟨y, rfl⟩ : ∃ y : Fin 16, x = (fun a => match a with | 0 => y) := ⟨x 0, by funext a; fin_cases a; rfl⟩
  show laneC _ = BitVec.ofNat 32 (129 * y.val)
  revert y
  decide +kernel

theorem idxC_val (sv : Vec F S10000 .i32) (hs : SegOk sv) (g : ℕ) (x : S16.Idx) :
    (idxC sv g x).toNat = 129 * (x 0).val + (rd sv (16 * g) x : BitVec 32).toNat := by
  have h1 : (rd sv (16 * g) x : BitVec 32).toNat < 64 := hs _
  have hx : (x 0).val < 16 := (x 0).isLt
  show (laneC x + (rd sv (16 * g) x : BitVec 32)).toNat = _
  rw [laneC_val, BitVec.toNat_add, BitVec.toNat_ofNat]
  omega

theorem idxA_val (sv : Vec F S10000 .i32) (hs : SegOk sv) (g f : ℕ) (hf : f < 4) (x : S16.Idx) :
    (idxA sv g f x).toNat = 257 * (x 0).val + 4 * (rd sv (16 * g) x : BitVec 32).toNat + f := by
  have h1 : (rd sv (16 * g) x : BitVec 32).toNat < 64 := hs _
  have hx : (x 0).val < 16 := (x 0).isLt
  show (laneA x + IntOp.shli .vector (rd sv (16 * g) x : BitVec 32) 2#32 + BitVec.ofNat 32 f).toNat = _
  rw [laneA_val]
  have e : (IntOp.shli .vector (rd sv (16 * g) x : BitVec 32) 2#32).toNat = 4 * (rd sv (16 * g) x : BitVec 32).toNat := by
    unfold IntOp.shli
    rw [if_pos (by decide), BitVec.shiftLeft_eq', BitVec.toNat_shiftLeft, Nat.shiftLeft_eq]
    show _ * 2 ^ 2 % 2 ^ 32 = _
    omega
  rw [BitVec.toNat_add, BitVec.toNat_add, e, BitVec.toNat_ofNat, BitVec.toNat_ofNat]
  omega

theorem idxC_lt (sv : Vec F S10000 .i32) (hs : SegOk sv) (g : ℕ) :
    ∀ a x, ((![idxC sv g] : Fin 1 → IVec S16 32) a x).toNat < S2064.size a := by
  intro a x
  have h1 : (rd sv (16 * g) x : BitVec 32).toNat < 64 := hs _
  have hx : (x 0).val < 16 := (x 0).isLt
  fin_cases a
  show (idxC sv g x).toNat < 2064
  rw [idxC_val sv hs]
  omega

theorem idxA_lt (sv : Vec F S10000 .i32) (hs : SegOk sv) (g f : ℕ) (hf : f < 4) :
    ∀ a x, ((![idxA sv g f] : Fin 1 → IVec S16 32) a x).toNat < S4112.size a := by
  intro a x
  have h1 : (rd sv (16 * g) x : BitVec 32).toNat < 64 := hs _
  have hx : (x 0).val < 16 := (x 0).isLt
  fin_cases a
  show (idxA sv g f x).toNat < 4112
  rw [idxA_val sv hs g f hf]
  omega

end Cert.KernelIdeal.Edge
-- ==== Proof.Sc.lean ====
/- The set-up of the launch: the resource algebra, and the embeddings of the three protocols (the handshakes between the
   TensorCore and the SparseCores, the TensorCore's pipelines, and the counters of the tiles' copies). -/
module

public import proofs.«01_k».proof.Proof.TileVal
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic

@[expose] public section

set_option maxRecDepth 16384

noncomputable section

namespace Cert.KernelIdeal.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the TensorCore's side. -/
abbrev ΛP : Labels := Pipeline.Sig Λ₀ (Fin 2) fun p => (pcfgs (F := F) p).Adm
/-- The SparseCore call. -/
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, and both beside the copies' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The thread of the tile at grid coordinates `i`. -/
abbrev thr (d : Dev nD) (i : grid1.Coords) : Thread nD τ := V d ((i 0).castLE hcore1) ((i 1).castLE hsub1)

abbrev EC : UEmb Counters (MT nD τ sig (HIx 1) (Elt F) ℕ UU ℕ) := countersEmb (U := UU)
instance EC_landsIn : ((EC (F := F)) : UEmb Counters 𝕄).LandsIn (upEmb : UEmb _ 𝕄) := by infer_instance

end Cert.KernelIdeal.Edge
-- ==== Proof.TileWp.lean ====
/- The tile's program run over its resources, part by part: the zeroing, the groups of edges, the fold. Each part is run once,
   at a symbolic tile, and says what its buffers hold afterwards. -/
module

public import proofs.«01_k».proof.Proof.Sc

@[expose] public section

set_option maxRecDepth 16384

noncomputable section

namespace Cert.KernelIdeal.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid1.Coords)

/-- A tile's run of one of its programs. -/
abbrev wpT {α : Type} (p : TP F i α) (Q : α → sProp 𝕄) : sProp 𝕄 :=
  wp frame (wpE (defs₀ (F := F)) 𝒱₀ (thr d i) none) Set.univ p Q

/-- The attribute stripes, held whole. -/
abbrev ptLa (L : FVec F S4112 .f32) : sProp 𝕄 := (thr d i).loc cc1_scratch2 ↦{fullShare} (L : Buf (Elt F) ((thr d i).loc cc1_scratch2))
/-- The count stripes, held whole. -/
abbrev ptLc (L : FVec F S2064 .f32) : sProp 𝕄 := (thr d i).loc cc1_scratch3 ↦{fullShare} (L : Buf (Elt F) ((thr d i).loc cc1_scratch3))
/-- The folded sums, held whole. -/
abbrev ptAcc (L : FVec F S256 .f32) : sProp 𝕄 := (thr d i).loc cc1_scratch4 ↦{fullShare} (L : Buf (Elt F) ((thr d i).loc cc1_scratch4))
/-- The folded counts, held whole. -/
abbrev ptCnt (L : FVec F S128 .f32) : sProp 𝕄 := (thr d i).loc cc1_scratch5 ↦{fullShare} (L : Buf (Elt F) ((thr d i).loc cc1_scratch5))
/-- The tile's attributes `f` of chunk `c`. -/
abbrev ptA (c : Fin 5) (f : Fin 4) (av : Vec F S40000 .f32) : sProp 𝕄 := (dstA c f).view.loc (thr d i) ↦[(dstA c f).view.set]{fullShare} av
/-- The tile's graph numbers of chunk `c`. -/
abbrev ptS (c : Fin 5) (sv : Vec F S10000 .i32) : sProp 𝕄 := (dstS c).view.loc (thr d i) ↦[(dstS c).view.set]{fullShare} sv

/-- The group of chunk `c`, trip `t`, unrolled copy `u`. -/
abbrev gno (c : Fin 5) (t : Fin 25) (u : Fin 5) : ℕ := 125 * c.val + 5 * t.val + u.val

theorem offsA_eq (c : Fin 5) (u : Fin 5) (f : Fin 4) (t : Fin 25) : offs c (qA u f) t = ![10000 * f.val + 16 * gno c t u] := by
  rw [offs_eq]
  congr 1
  simp only [coff, gno]
  omega

theorem offsS_eq (c : Fin 5) (u : Fin 5) (t : Fin 25) : offs c (qS u) t = ![16 * gno c t u] := by
  rw [offs_eq]
  congr 1
  simp only [coff, gno]
  omega

/-- A load's elements are in a slice that spans them. -/
theorem unit_sub {n k : ℕ} {e : EltTy} (b : Memref sig .scVector .vmem ⟨1, ![n]⟩ e) (o o' : ℕ) (h : ∀ a, (![o] : Fin 1 → ℕ) a + S16.size a ≤ (⟨1, ![n]⟩ : Shape).size a)
    (h' : ∀ a, (![o'] : Fin 1 → ℕ) a + (⟨1, ![k]⟩ : Shape).size a ≤ (⟨1, ![n]⟩ : Shape).size a) (h1 : o' ≤ o) (h2 : o + 16 ≤ o' + k) :
    (b.access (Rect.unit (s := ⟨1, ![n]⟩) ![o] S16.size h)).set ⊆ (b.access (Rect.unit (s := ⟨1, ![n]⟩) ![o'] (⟨1, ![k]⟩ : Shape).size h')).set := by
  rw [View.set_slice, View.set_slice]
  refine Finset.map_subset_map.mpr fun y hy => ?_
  obtain ⟨j, hj, hy'⟩ := (Rect.unit (s := ⟨1, ![n]⟩) ![o] S16.size h).mem_set.mp hy 0
  refine (Rect.unit (s := ⟨1, ![n]⟩) ![o'] (⟨1, ![k]⟩ : Shape).size h').mem_set.mpr fun a => ?_
  fin_cases a
  refine ⟨(y 0).val - o', ?_, ?_⟩
  · show (y 0).val - o' < k
    have : (y 0).val = o + 1 * j := hy'
    have : j < 16 := hj
    omega
  · show (y 0).val = o' + 1 * ((y 0).val - o')
    have : (y 0).val = o + 1 * j := hy'
    omega

theorem scat_eq {n : ℕ} (f : FVec F (⟨1, ![n]⟩ : Shape) .f32) (idx : IVec S16 32) (v : FVec F S16 .f32)
    (h : ∀ a x, ((![idx] : Fin 1 → IVec S16 32) a x).toNat < (⟨1, ![n]⟩ : Shape).size a) :
    scat f idx v = storeIdx (s := ⟨1, ![n]⟩) (e := .f32) f (![idx] : Fin 1 → IVec S16 32) v (fun _ => 1#1) true h := dif_pos h

/-- A scatter into the attribute stripes. -/
theorem wp_scA (idx : IVec S16 32) (v : Vec F S16 .f32) (h : ∀ a x, ((![idx] : Fin 1 → IVec S16 32) a x).toNat < S4112.size a)
    (hs : (mLa.access (.whole S4112)).Stores Finset.univ) (L : FVec F S4112 .f32) (Q : PUnit → sProp 𝕄) :
    iprop(ptLa d i L ∗ (ptLa d i (scat L idx v) -∗ Q ⟨⟩))
      ⊢ wpT d i (SparseCore.vectorStoreIdx mLa ![idx] v (fun _ => 1#1) true h hs) Q := by
  have e1 : (mLa.access (.whole S4112)).set = Finset.univ := Memref.set_access_whole cc1_scratch2
  have e2 : (mLa.access (.whole S4112)).read (Elt F) L = L := Memref.read_access_whole (Elt F) cc1_scratch2 L
  have e3 : ∀ w, (mLa.access (.whole S4112)).write (Elt F) L w Finset.univ = w := Memref.write_access_whole_univ (Elt F) cc1_scratch2 L
  rw [← bind_pure (SparseCore.vectorStoreIdx _ _ _ _ _ _ _), scat_eq L idx v h]
  iintro ⟨HL, HK⟩
  iapply (SparseCore.wp_vectorStoreIdx (c := thr d i) (defs := defs₀ (F := F)) (𝒱 := 𝒱₀) (bd := none) (E := Set.univ) (base := mLa) (f := L)) $$ [HL]
  · rw [e1]; iexact HL
  rw [e1, e2, e3]
  iintro HL
  rw [wp_pure]
  imodintro
  iapply HK
  iexact HL

/-- A scatter into the count stripes. -/
theorem wp_scC (idx : IVec S16 32) (v : Vec F S16 .f32) (h : ∀ a x, ((![idx] : Fin 1 → IVec S16 32) a x).toNat < S2064.size a)
    (hs : (mLc.access (.whole S2064)).Stores Finset.univ) (L : FVec F S2064 .f32) (Q : PUnit → sProp 𝕄) :
    iprop(ptLc d i L ∗ (ptLc d i (scat L idx v) -∗ Q ⟨⟩))
      ⊢ wpT d i (SparseCore.vectorStoreIdx mLc ![idx] v (fun _ => 1#1) true h hs) Q := by
  have e1 : (mLc.access (.whole S2064)).set = Finset.univ := Memref.set_access_whole cc1_scratch3
  have e2 : (mLc.access (.whole S2064)).read (Elt F) L = L := Memref.read_access_whole (Elt F) cc1_scratch3 L
  have e3 : ∀ w, (mLc.access (.whole S2064)).write (Elt F) L w Finset.univ = w := Memref.write_access_whole_univ (Elt F) cc1_scratch3 L
  rw [← bind_pure (SparseCore.vectorStoreIdx _ _ _ _ _ _ _), scat_eq L idx v h]
  iintro ⟨HL, HK⟩
  iapply (SparseCore.wp_vectorStoreIdx (c := thr d i) (defs := defs₀ (F := F)) (𝒱 := 𝒱₀) (bd := none) (E := Set.univ) (base := mLc) (f := L)) $$ [HL]
  · rw [e1]; iexact HL
  rw [e1, e2, e3]
  iintro HL
  rw [wp_pure]
  imodintro
  iapply HK
  iexact HL

/-- A load of sixteen attributes, of chunk `c`'s slice `f`. -/
theorem wp_ldA (c : Fin 5) (f : Fin 4) (o : ℕ) (ho : ∀ a, (![o] : Fin 1 → ℕ) a + S16.size a ≤ S40000.size a) (h1 : 10000 * f.val + 2000 * c.val ≤ o)
    (h2 : o + 16 ≤ 10000 * f.val + 2000 * c.val + 2000) (av : Vec F S40000 .f32) (Q : Vec F S16 .f32 → sProp 𝕄) :
    iprop(ptA d i c f av ∗ (ptA d i c f av -∗ Q (rd av o)))
      ⊢ wpT d i (Prog.lift (.load mAv (Rect.unit (s := S40000) ![o] S16.size ho).toLoadRect (View.loadsAt_vmem h_S16))) Q := by
  have e : (mAv.access (Rect.unit (s := S40000) ![o] S16.size ho)).read (Elt F) av = rd av o := read_unit mAv o ho av
  iintro ⟨HA, HK⟩
  iapply (wp_load_rect 𝒱₀ (thr d i) none Set.univ (m := mAv) (r := Rect.unit (s := S40000) ![o] S16.size ho) (f := av) (S := (dstA c f).view.set) (q := fullShare)
    (unit_sub mAv _ _ _ _ h1 h2)) $$ HA
  rw [e]
  iintro HA
  rw [wp_ret]
  imodintro
  iapply HK
  iexact HA

/-- A load of sixteen graph numbers, of chunk `c`'s slice. -/
theorem wp_ldS (c : Fin 5) (o' : Fin 1 → ℕ) (o : ℕ) (eo : o' = ![o]) (ho : ∀ a, o' a + S16.size a ≤ S10000.size a) (h1 : 2000 * c.val ≤ o)
    (h2 : o + 16 ≤ 2000 * c.val + 2000) (sv : Vec F S10000 .i32) (Q : Vec F S16 .i32 → sProp 𝕄) :
    iprop(ptS d i c sv ∗ (ptS d i c sv -∗ Q (rd sv o)))
      ⊢ wpT d i (Prog.lift (.load mSv (Rect.unit (s := S10000) o' S16.size ho).toLoadRect (View.loadsAt_vmem h_S16))) Q := by
  subst eo
  have e : (mSv.access (Rect.unit (s := S10000) ![o] S16.size ho)).read (Elt F) sv = rd sv o := read_unit mSv o ho sv
  iintro ⟨HA, HK⟩
  iapply (wp_load_rect 𝒱₀ (thr d i) none Set.univ (m := mSv) (r := Rect.unit (s := S10000) ![o] S16.size ho) (f := sv) (S := (dstS c).view.set) (q := fullShare)
    (unit_sub mSv _ _ _ _ h1 h2)) $$ HA
  rw [e]
  iintro HA
  rw [wp_ret]
  imodintro
  iapply HK
  iexact HA

/-- One attribute of a group added into the stripes. -/
theorem wp_accP (c u : Fin 5) (t : Fin 25) (f : Fin 4) (o : Fin 1 → ℕ) (ho : ∀ a, o a + S16.size a ≤ S40000.size a)
    (av : Vec F S40000 .f32) (sv : Vec F S10000 .i32) (hs : SegOk sv) (eo : o = ![10000 * f.val + 16 * gno c t u]) (L : FVec F S4112 .f32) (Q : PUnit → sProp 𝕄) :
    iprop(ptA d i c f av ∗ ptLa d i L ∗ (ptA d i c f av ∗ ptLa d i (accS1 av sv (gno c t u) f.val L) -∗ Q ⟨⟩))
      ⊢ wpT d i (accP i laneA (rd sv (16 * gno c t u)) f o ho) Q := by
  subst eo
  unfold accP
  have hi := idxA_lt sv hs (gno c t u) f.val f.isLt
  rw [wpT, wp_bind]
  iintro ⟨HA, HL, HK⟩
  iapply (wp_ldA d i c f _ ho (by simp only [gno]; omega) (by simp only [gno]; omega) av)
  isplitl [HA]; · iexact HA
  iintro HA
  simp only [Prog.bind_lift]
  iapply (wp_assume 𝒱₀ (thr d i) none Set.univ (show k1_chk2 (addi (k1_pay1 (F := F) laneA (rd sv (16 * gno c t u))) (broadcast S16 (BitVec.ofNat 32 f.val))) from hi))
  iapply (wp_scA d i _ _ hi _ L)
  isplitl [HL]; · iexact HL
  iintro HL
  iapply HK
  isplitl [HA]; · iexact HA
  iexact HL

/-- Chunk `c` of the tile's edges and the two accumulators after `g` groups. -/
def stG (c : Fin 5) (av : Vec F S40000 .f32) (sv : Vec F S10000 .i32) (g : ℕ) : sProp 𝕄 :=
  iprop((ptA d i c 0 av ∗ ptA d i c 1 av ∗ ptA d i c 2 av ∗ ptA d i c 3 av ∗ ptS d i c sv) ∗ ptLa d i (accS av sv g) ∗ ptLc d i (cntS sv g))

/-- One group of sixteen edges. -/
theorem wp_grpP (c u : Fin 5) (t : Fin 25) (av : Vec F S40000 .f32) (sv : Vec F S10000 .i32) (hs : SegOk sv) (g : ℕ) (hg : gno c t u = g) (Q : PUnit → sProp 𝕄) :
    iprop(stG d i c av sv g ∗ (stG d i c av sv (g + 1) -∗ Q ⟨⟩)) ⊢ wpT d i (grpP i laneA laneC ones16 c u t) Q := by
  subst hg
  unfold stG grpP
  have hi := idxC_lt sv hs (gno c t u)
  rw [wpT, wp_bind]
  iintro ⟨⟨⟨H0, H1, H2, H3, HS⟩, HL, HC⟩, HK⟩
  iapply (wp_ldS d i c _ _ (offsS_eq c u t) _ (by simp only [gno]; omega) (by simp only [gno]; omega) sv)
  isplitl [HS]; · iexact HS
  iintro HS
  simp only [Prog.bind_lift]
  iapply (wp_assume 𝒱₀ (thr d i) none Set.univ (show k1_chk1 (addi laneC (rd sv (16 * gno c t u) : Vec F S16 .i32)) from hi))
  rw [wp_bind]
  iapply (wp_scC d i _ _ hi _ (cntS sv (gno c t u)))
  isplitl [HC]; · iexact HC
  iintro HC
  rw [wp_bind]
  iapply (wp_accP d i c u t 0 _ _ av sv hs (offsA_eq c u 0 t) (accS av sv (gno c t u)))
  isplitl [H0]; · iexact H0
  isplitl [HL]; · iexact HL
  iintro ⟨H0, HL⟩
  rw [wp_bind]
  iapply (wp_accP d i c u t 1 _ _ av sv hs (offsA_eq c u 1 t))
  isplitl [H1]; · iexact H1
  isplitl [HL]; · iexact HL
  iintro ⟨H1, HL⟩
  rw [wp_bind]
  iapply (wp_accP d i c u t 2 _ _ av sv hs (offsA_eq c u 2 t))
  isplitl [H2]; · iexact H2
  isplitl [HL]; · iexact HL
  iintro ⟨H2, HL⟩
  iapply (wp_accP d i c u t 3 _ _ av sv hs (offsA_eq c u 3 t))
  isplitl [H3]; · iexact H3
  isplitl [HL]; · iexact HL
  iintro ⟨H3, HL⟩
  iapply HK
  isplitl [H0 H1 H2 H3 HS]
  · isplitl [H0]; · iexact H0
    isplitl [H1]; · iexact H1
    isplitl [H2]; · iexact H2
    isplitl [H3]; · iexact H3
    iexact HS
  isplitl [HL]; · iexact HL
  iexact HC

/-- One trip of a chunk's loop. -/
theorem wp_bodyP (c : Fin 5) (t : Fin 25) (av : Vec F S40000 .f32) (sv : Vec F S10000 .i32) (hs : SegOk sv) (Q : Unit → sProp 𝕄) :
    iprop(stG d i c av sv (125 * c.val + 5 * t.val) ∗ (stG d i c av sv (125 * c.val + 5 * (t.val + 1)) -∗ Q ⟨⟩)) ⊢ wpT d i (bodyP i laneA laneC ones16 c t) Q := by
  unfold bodyP
  iintro ⟨H, HK⟩
  rw [wpT, wp_bind]
  iapply (wp_grpP d i c 0 t av sv hs _ rfl)
  isplitl [H]; · iexact H
  iintro H
  rw [wp_bind]
  iapply (wp_grpP d i c 1 t av sv hs _ rfl)
  isplitl [H]; · iexact H
  iintro H
  rw [wp_bind]
  iapply (wp_grpP d i c 2 t av sv hs _ rfl)
  isplitl [H]; · iexact H
  iintro H
  rw [wp_bind]
  iapply (wp_grpP d i c 3 t av sv hs _ rfl)
  isplitl [H]; · iexact H
  iintro H
  rw [wp_bind]
  iapply (wp_grpP d i c 4 t av sv hs _ rfl)
  isplitl [H]; · iexact H
  iintro H
  rw [wp_pure]
  imodintro
  iapply HK
  iexact H

/-- A chunk's loop: its 125 groups. -/
theorem wp_loop (c : Fin 5) (av : Vec F S40000 .f32) (sv : Vec F S10000 .i32) (hs : SegOk sv) (Q : Unit → sProp 𝕄) :
    iprop(stG d i c av sv (125 * c.val) ∗ (stG d i c av sv (125 * (c.val + 1)) -∗ Q ⟨⟩))
      ⊢ wpT d i (Scf.Loop.for k1_t1_loop k1_t1_ok ⟨⟩ (fun t _ => bodyP i laneA laneC ones16 c t)) Q := by
  iintro ⟨H, HK⟩
  iapply (Scf.wp_for frame (wpE (defs₀ (F := F)) 𝒱₀ (thr d i) none) Set.univ _ _ _ k1_t1_ok (⟨⟩ : Unit) (fun t _ => bodyP i laneA laneC ones16 c t)
    (fun k _ => stG d i c av sv (125 * c.val + 5 * k)) (fun k acc => by
      iintro H
      iapply (wp_bodyP d i c k av sv hs)
      isplitl [H]; · iexact H
      iintro H
      iexact H))
  isplitl [H]; · iexact H
  iintro %_ H
  iapply HK
  iexact H

end Cert.KernelIdeal.Edge
-- ==== Proof.TileRun.lean ====
/- The zeroing of a tile's accumulators, and the fold of their stripes, run over the tile's buffers. -/
module

public import proofs.«01_k».proof.Proof.TileWp

@[expose] public section

set_option maxRecDepth 16384

noncomputable section

namespace Cert.KernelIdeal.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid1.Coords)

/-- A load of sixteen elements from a buffer held whole. -/
theorem wp_ldM {n : ℕ} [NeZero n] (m : Memref sig .scVector .vmem ⟨1, ![n]⟩ .f32) (o : ℕ) (ho : ∀ a, (![o] : Fin 1 → ℕ) a + S16.size a ≤ (⟨1, ![n]⟩ : Shape).size a)
    (hl : m.view.LoadsAt (Rect.unit (s := ⟨1, ![n]⟩) ![o] S16.size ho).toLoadRect) (f : Buf (Elt F) (m.view.loc (thr d i))) (Q : Vec F S16 .f32 → sProp 𝕄) :
    iprop((m.view.loc (thr d i) ↦{fullShare} f) ∗ ((m.view.loc (thr d i) ↦{fullShare} f) -∗ Q (rd (m.view.read (Elt F) f) o)))
      ⊢ wpT d i (Prog.lift (.load m (Rect.unit (s := ⟨1, ![n]⟩) ![o] S16.size ho).toLoadRect hl)) Q := by
  have e : (m.access (Rect.unit (s := ⟨1, ![n]⟩) ![o] S16.size ho)).read (Elt F) f = rd (m.view.read (Elt F) f) o := read_unit m o ho f
  iintro ⟨HA, HK⟩
  iapply (wp_load_rect 𝒱₀ (thr d i) none Set.univ (m := m) (r := Rect.unit (s := ⟨1, ![n]⟩) ![o] S16.size ho) (f := f) (S := Finset.univ) (q := fullShare)
    (Finset.subset_univ _)) $$ HA
  rw [e]
  iintro HA
  rw [wp_ret]
  imodintro
  iapply HK
  iexact HA

/-- A store of sixteen elements to a buffer held whole. -/
theorem wp_stM {n : ℕ} (m : Memref sig .scVector .vmem ⟨1, ![n]⟩ .f32) (o : ℕ) (ho : ∀ a, (![o] : Fin 1 → ℕ) a + S16.size a ≤ (⟨1, ![n]⟩ : Shape).size a)
    (hl : (m.access (Rect.unit (s := ⟨1, ![n]⟩) ![o] S16.size ho)).Stores Finset.univ) (hm) (w : FVec F S16 .f32) (f : Buf (Elt F) (m.view.loc (thr d i))) (Q : PUnit → sProp 𝕄) :
    iprop((m.view.loc (thr d i) ↦{fullShare} f)
        ∗ (∀ f' : Buf (Elt F) (m.view.loc (thr d i)), ⌜m.view.read (Elt F) f' = wr (m.view.read (Elt F) f) o w⌝ -∗ (m.view.loc (thr d i) ↦{fullShare} f') -∗ Q ⟨⟩))
      ⊢ wpT d i (Prog.lift (.store m (Rect.unit (s := ⟨1, ![n]⟩) ![o] S16.size ho) w Finset.univ hl hm)) Q := by
  have e := write_unit m o ho f w
  iintro ⟨HA, HK⟩
  iapply (wp_store 𝒱₀ (thr d i) none Set.univ (m := m) (r := Rect.unit (s := ⟨1, ![n]⟩) ![o] S16.size ho) (f := f) (S := Finset.univ)
    (Finset.subset_univ _)) $$ HA
  iintro HA
  rw [wp_ret]
  imodintro
  iapply HK $$ [] HA
  ipureintro
  exact e

theorem wr_hit {n : ℕ} {α : Type} (v : (⟨1, ![n]⟩ : Shape).Idx → α) (o : ℕ) (w : S16.Idx → α) (y : (⟨1, ![n]⟩ : Shape).Idx) (h : o ≤ (y 0).val ∧ (y 0).val < o + 16) :
    wr v o w y = w (fun a => ⟨(y 0).val - o, by fin_cases a; show (y 0).val - o < 16; omega⟩) := dif_pos h
theorem wr_miss {n : ℕ} {α : Type} (v : (⟨1, ![n]⟩ : Shape).Idx → α) (o : ℕ) (w : S16.Idx → α) (y : (⟨1, ![n]⟩ : Shape).Idx) (h : ¬ (o ≤ (y 0).val ∧ (y 0).val < o + 16)) :
    wr v o w y = v y := dif_neg h

theorem of_blt {a b : ℕ} (h : a.blt b = true) : a < b := by simpa [Nat.blt_eq] using h
theorem of_blt_false {a b : ℕ} (h : a.blt b = false) : b ≤ a := by
  by_contra hh
  rw [show a.blt b = true from by simpa [Nat.blt_eq] using Nat.lt_of_not_le hh] at h
  cases h

/-! ## The zeroing -/

/-- The zero. -/
abbrev fz : F .f32 := Scalar.ofBits .f32 0x00000000#32

/-- Before operation `k` of the zeroing the blocks stored so far are zero. -/
def zI (k : ℕ) : sProp 𝕄 :=
  iprop(∃ (La : FVec F S4112 .f32) (Lc : FVec F S2064 .f32),
    ⌜(∀ y, (y 0).val < 16 * (min k 516 / 2) → La y = fz) ∧ (∀ y, (y 0).val < 16 * ((k - 516) / 2) → Lc y = fz)⌝ ∗ ptLa d i La ∗ ptLc d i Lc)

theorem wp_zop (k : ℕ) (Q : PUnit → sProp 𝕄) :
    iprop(zI d i k ∗ (zI d i (k + 1) -∗ Q ⟨⟩)) ⊢ wpT d i (zop i (k1_pay111 (F := F)) k) Q := by
  unfold zI zop
  iintro ⟨⟨%La, %Lc, %h, HA, HC⟩, HK⟩
  obtain ⟨hA, hC⟩ := h
  cases hk : k.blt 516 with
  | true =>
    have hk : k < 516 := by simpa [Nat.blt_eq] using hk
    rw [cond_true]
    cases h2 : (k % 2).beq 0 with
    | true =>
      have h2 : k % 2 = 0 := by simpa using h2
      rw [cond_true, wpT, wp_bind]
      iapply (wp_ldM d i mLa _ _ _ La)
      isplitl [HA]; · iexact HA
      iintro HA
      rw [wp_pure]
      imodintro
      iapply HK
      iexists La, Lc
      isplitr
      · ipureintro
        exact ⟨fun y hy => hA y (by omega), fun y hy => hC y (by omega)⟩
      isplitl [HA]; · iexact HA
      iexact HC
    | false =>
      have h2 : k % 2 ≠ 0 := Nat.ne_of_beq_eq_false h2
      rw [cond_false]
      iapply (wp_stM d i mLa _ _ _ _ _ La)
      isplitl [HA]; · iexact HA
      iintro %L' %hL HA
      iapply HK
      iexists L', Lc
      isplitr
      · ipureintro
        refine ⟨fun y hy => ?_, fun y hy => hC y (by omega)⟩
        have hy0 : (y 0).val < 4112 := (y 0).isLt
        have e : L' y = wr La (zOffA (k / 2)) (k1_pay111 (F := F)) y := congrFun hL y
        rw [e]
        by_cases hin : zOffA (k / 2) ≤ (y 0).val ∧ (y 0).val < zOffA (k / 2) + 16
        · rw [wr_hit _ _ _ _ hin]; rfl
        · rw [wr_miss _ _ _ _ hin]
          refine hA y ?_
          simp only [zOffA] at hin
          omega
      isplitl [HA]; · iexact HA
      iexact HC
  | false =>
    have hk : 516 ≤ k := of_blt_false hk
    rw [cond_false]
    cases h2 : (k % 2).beq 0 with
    | true =>
      have h2 : k % 2 = 0 := by simpa using h2
      rw [cond_true, wpT, wp_bind]
      iapply (wp_ldM d i mLc _ _ _ Lc)
      isplitl [HC]; · iexact HC
      iintro HC
      rw [wp_pure]
      imodintro
      iapply HK
      iexists La, Lc
      isplitr
      · ipureintro
        exact ⟨fun y hy => hA y (by omega), fun y hy => hC y (by omega)⟩
      isplitl [HA]; · iexact HA
      iexact HC
    | false =>
      have h2 : k % 2 ≠ 0 := Nat.ne_of_beq_eq_false h2
      rw [cond_false]
      iapply (wp_stM d i mLc _ _ _ _ _ Lc)
      isplitl [HC]; · iexact HC
      iintro %L' %hL HC
      iapply HK
      iexists La, L'
      isplitr
      · ipureintro
        refine ⟨fun y hy => hA y (by omega), fun y hy => ?_⟩
        have hy0 : (y 0).val < 2064 := (y 0).isLt
        have e : L' y = wr Lc (zOffC ((k - 516) / 2)) (k1_pay111 (F := F)) y := congrFun hL y
        rw [e]
        by_cases hin : zOffC ((k - 516) / 2) ≤ (y 0).val ∧ (y 0).val < zOffC ((k - 516) / 2) + 16
        · rw [wr_hit _ _ _ _ hin]; rfl
        · rw [wr_miss _ _ _ _ hin]
          refine hC y ?_
          simp only [zOffC] at hin
          omega
      isplitl [HA]; · iexact HA
      iexact HC

theorem wp_zrun' (k n : ℕ) (Q : PUnit → sProp 𝕄) :
    iprop(zI d i k ∗ (zI d i (k + n) -∗ Q ⟨⟩)) ⊢ wpT d i (zrun i (k1_pay111 (F := F)) k n) Q := by
  induction n generalizing k with
  | zero =>
    unfold zrun
    rw [wpT, wp_pure]
    iintro ⟨H, HK⟩
    imodintro
    iapply HK
    iexact H
  | succ n ih =>
    unfold zrun
    rw [wpT, wp_bind]
    iintro ⟨H, HK⟩
    iapply (wp_zop d i k)
    isplitl [H]; · iexact H
    iintro H
    iapply (ih (k + 1))
    isplitl [H]; · iexact H
    rw [Nat.add_right_comm]
    iexact HK

/-- The whole zeroing: both accumulators as they are before the first group. -/
theorem wp_zrun (La : FVec F S4112 .f32) (Lc : FVec F S2064 .f32) (av : Vec F S40000 .f32) (sv : Vec F S10000 .i32) (Q : PUnit → sProp 𝕄) :
    iprop(ptLa d i La ∗ ptLc d i Lc ∗ (ptLa d i (accS av sv 0) ∗ ptLc d i (cntS sv 0) -∗ Q ⟨⟩)) ⊢ wpT d i (zrun i (k1_pay111 (F := F)) 0 776) Q := by
  iintro ⟨HA, HC, HK⟩
  iapply (wp_zrun' d i 0 776)
  isplitl [HA HC]
  · unfold zI
    iexists La, Lc
    isplitr
    · ipureintro
      exact ⟨fun y hy => absurd hy (by simp), fun y hy => absurd hy (by simp)⟩
    isplitl [HA]; · iexact HA
    iexact HC
  unfold zI
  iintro ⟨%La', %Lc', %h, HA, HC⟩
  obtain ⟨hA, hC⟩ := h
  have eA : La' = accS av sv 0 := funext fun y => hA y (by have : (y 0).val < 4112 := (y 0).isLt; omega)
  have eC : Lc' = cntS sv 0 := funext fun y => hC y (by have : (y 0).val < 2064 := (y 0).isLt; omega)
  subst eA eC
  iapply HK
  isplitl [HA]; · iexact HA
  iexact HC

/-! ## The fold -/

/-- The sum of a block's first `r + 1` stripes at operation `k`: of the attribute stripes in the first sixteen blocks, of the
    count stripes in the last eight. -/
def fsum (La : FVec F S4112 .f32) (Lc : FVec F S2064 .f32) (k r : ℕ) : FVec F S16 .f32 :=
  bif k.blt 288 then psum 257 La (k / 18) r else psum 129 Lc ((k - 288) / 18) r
/-- The stripe's block operation `k` loads. -/
def fval (La : FVec F S4112 .f32) (Lc : FVec F S2064 .f32) (k : ℕ) : FVec F S16 .f32 :=
  bif k.blt 288 then rd La (min (257 * (k % 18) + 16 * (k / 18)) 4096) else rd Lc (min (129 * (k % 18) + 16 * ((k - 288) / 18)) 2048)

theorem fval_zero (La : FVec F S4112 .f32) (Lc : FVec F S2064 .f32) (k : ℕ) (hk : k < 432) (h : k % 18 = 0) : fval La Lc k = fsum La Lc k 0 := by
  unfold fval fsum
  cases hb : k.blt 288 with
  | true =>
    have := of_blt hb
    simp only [cond_true, psum]
    congr 1
    omega
  | false =>
    have := of_blt_false hb
    simp only [cond_false, psum]
    congr 1
    omega

theorem fval_succ (La : FVec F S4112 .f32) (Lc : FVec F S2064 .f32) (k r : ℕ) (hk : k < 432) (h : k % 18 = r + 1) (hr : r + 1 < 16) :
    addf (fsum La Lc k r) (fval La Lc k) = fsum La Lc k (r + 1) := by
  unfold fval fsum
  cases hb : k.blt 288 with
  | true =>
    have := of_blt hb
    simp only [cond_true, psum]
    congr 2
    omega
  | false =>
    have := of_blt_false hb
    simp only [cond_false, psum]
    congr 2
    omega

/-- The block of the sum does not change between two operations of one block. -/
theorem fsum_next (La : FVec F S4112 .f32) (Lc : FVec F S2064 .f32) (k r : ℕ) (h : (k + 1) % 18 ≠ 0) : fsum La Lc (k + 1) r = fsum La Lc k r := by
  unfold fsum
  have e1 : (k + 1) / 18 = k / 18 := by omega
  have e2 : (k + 1 - 288) / 18 = (k - 288) / 18 := by omega
  have e3 : (k + 1).blt 288 = k.blt 288 := by
    cases hb : k.blt 288 with
    | true => have := of_blt hb; simpa [Nat.blt_eq] using (by omega : k + 1 < 288)
    | false =>
      have := of_blt_false hb
      cases hb' : (k + 1).blt 288 with
      | true => have := of_blt hb'; omega
      | false => rfl
  rw [e1, e2, e3]

/-- Before operation `k` of the fold: the stripes, the blocks folded so far, and the sum of the block begun. -/
def fI (La : FVec F S4112 .f32) (Lc : FVec F S2064 .f32) (k : ℕ) (s : FVec F S16 .f32) : sProp 𝕄 :=
  iprop(∃ (Ra : FVec F S256 .f32) (Rc : FVec F S128 .f32),
    ⌜(∀ y, (y 0).val < 16 * (min k 288 / 18) → Ra y = foldS 257 La y) ∧ (∀ y, (y 0).val < 16 * ((k - 288) / 18) → Rc y = foldS 129 Lc y)
      ∧ (k % 18 ≠ 0 → s = fsum La Lc k (min (k % 18) 16 - 1))⌝ ∗ ptLa d i La ∗ ptLc d i Lc ∗ ptAcc d i Ra ∗ ptCnt d i Rc)

theorem wp_floadP (La : FVec F S4112 .f32) (Lc : FVec F S2064 .f32) (k : ℕ) (Q : Vec F S16 .f32 → sProp 𝕄) :
    iprop(ptLa d i La ∗ ptLc d i Lc ∗ (ptLa d i La ∗ ptLc d i Lc -∗ Q (fval La Lc k))) ⊢ wpT d i (floadP i k) Q := by
  unfold floadP fval
  iintro ⟨HA, HC, HK⟩
  cases hk : k.blt 288 with
  | true =>
    rw [cond_true, cond_true]
    iapply (wp_ldM d i mLa _ _ _ La)
    isplitl [HA]; · iexact HA
    iintro HA
    rw [show mLa.view.read (Elt F) La = La from rfl]
    iapply HK
    isplitl [HA]; · iexact HA
    iexact HC
  | false =>
    rw [cond_false, cond_false]
    iapply (wp_ldM d i mLc _ _ _ Lc)
    isplitl [HC]; · iexact HC
    iintro HC
    rw [show mLc.view.read (Elt F) Lc = Lc from rfl]
    iapply HK
    isplitl [HA]; · iexact HA
    iexact HC

theorem wp_fdeadP (Ra : FVec F S256 .f32) (Rc : FVec F S128 .f32) (k : ℕ) (Q : Vec F S16 .f32 → sProp 𝕄) :
    iprop(ptAcc d i Ra ∗ ptCnt d i Rc ∗ (∀ v, ptAcc d i Ra ∗ ptCnt d i Rc -∗ Q v)) ⊢ wpT d i (fdeadP i k) Q := by
  unfold fdeadP
  iintro ⟨HA, HC, HK⟩
  cases hk : k.blt 288 with
  | true =>
    rw [cond_true]
    iapply (wp_ldM d i mAcc _ _ _ Ra)
    isplitl [HA]; · iexact HA
    iintro HA
    iapply HK
    isplitl [HA]; · iexact HA
    iexact HC
  | false =>
    rw [cond_false]
    iapply (wp_ldM d i mCnt _ _ _ Rc)
    isplitl [HC]; · iexact HC
    iintro HC
    iapply HK
    isplitl [HA]; · iexact HA
    iexact HC

theorem wp_fopP (La : FVec F S4112 .f32) (Lc : FVec F S2064 .f32) (k : ℕ) (hk : k < 432) (s : FVec F S16 .f32) (Q : FVec F S16 .f32 → sProp 𝕄) :
    iprop(fI d i La Lc k s ∗ (∀ s', fI d i La Lc (k + 1) s' -∗ Q s')) ⊢ wpT d i (fopP i k s) Q := by
  unfold fI fopP
  iintro ⟨⟨%Ra, %Rc, %h, HLa, HLc, HA, HC⟩, HK⟩
  obtain ⟨hA, hC, hs⟩ := h
  cases h0 : (k % 18).beq 0 with
  | true =>
    have h0 : k % 18 = 0 := by simpa using h0
    rw [cond_true, wpT, wp_bind]
    iapply (wp_floadP d i La Lc k)
    isplitl [HLa]; · iexact HLa
    isplitl [HLc]; · iexact HLc
    iintro ⟨HLa, HLc⟩
    rw [wp_pure]
    imodintro
    iapply HK
    iexists Ra, Rc
    isplitr
    · ipureintro
      refine ⟨fun y hy => hA y (by omega), fun y hy => hC y (by omega), fun _ => ?_⟩
      rw [fval_zero La Lc k hk h0, fsum_next _ _ _ _ (by omega)]
      congr 1
      omega
    isplitl [HLa]; · iexact HLa
    isplitl [HLc]; · iexact HLc
    isplitl [HA]; · iexact HA
    iexact HC
  | false =>
    have h0 : k % 18 ≠ 0 := Nat.ne_of_beq_eq_false h0
    specialize hs h0
    rw [cond_false]
    cases h1 : (k % 18).blt 16 with
    | true =>
      have h1 : k % 18 < 16 := of_blt h1
      rw [cond_true, wpT, wp_bind]
      iapply (wp_floadP d i La Lc k)
      isplitl [HLa]; · iexact HLa
      isplitl [HLc]; · iexact HLc
      iintro ⟨HLa, HLc⟩
      rw [wp_pure]
      imodintro
      iapply HK
      iexists Ra, Rc
      isplitr
      · ipureintro
        refine ⟨fun y hy => hA y (by omega), fun y hy => hC y (by omega), fun _ => ?_⟩
        rw [hs, fsum_next _ _ _ _ (by omega), show min (k % 18) 16 - 1 = k % 18 - 1 by omega, fval_succ La Lc k (k % 18 - 1) hk (by omega) (by omega)]
        congr 1
        omega
      isplitl [HLa]; · iexact HLa
      isplitl [HLc]; · iexact HLc
      isplitl [HA]; · iexact HA
      iexact HC
    | false =>
      have h1 : 16 ≤ k % 18 := of_blt_false h1
      rw [cond_false]
      have hs' : s = fsum La Lc k 15 := by rw [hs]; congr 1; omega
      cases h2 : (k % 18).beq 16 with
      | true =>
        have h2 : k % 18 = 16 := by simpa using h2
        rw [cond_true, wpT, wp_bind]
        iapply (wp_fdeadP d i Ra Rc k)
        isplitl [HA]; · iexact HA
        isplitl [HC]; · iexact HC
        iintro %v ⟨HA, HC⟩
        rw [wp_pure]
        imodintro
        iapply HK
        iexists Ra, Rc
        isplitr
        · ipureintro
          refine ⟨fun y hy => hA y (by omega), fun y hy => hC y (by omega), fun _ => ?_⟩
          rw [hs', fsum_next _ _ _ _ (by omega)]
          congr 1
          omega
        isplitl [HLa]; · iexact HLa
        isplitl [HLc]; · iexact HLc
        isplitl [HA]; · iexact HA
        iexact HC
      | false =>
        have h2 : k % 18 ≠ 16 := Nat.ne_of_beq_eq_false h2
        rw [cond_false, wpT, wp_bind]
        unfold fstoreP
        cases hk' : k.blt 288 with
        | true =>
          have hk' : k < 288 := of_blt hk'
          have es : s = psum 257 La (k / 18) 15 := by rw [hs']; unfold fsum; rw [show k.blt 288 = true by simpa [Nat.blt_eq] using hk', cond_true]
          rw [cond_true]
          iapply (wp_stM d i mAcc _ _ _ _ _ Ra)
          isplitl [HA]; · iexact HA
          iintro %R' %hR HA
          rw [wp_pure]
          imodintro
          iapply HK
          iexists R', Rc
          isplitr
          · ipureintro
            refine ⟨fun y hy => ?_, fun y hy => hC y (by omega), fun h => absurd h (by omega)⟩
            have e : R' y = wr Ra (min (16 * (k / 18)) 240) s y := congrFun hR y
            rw [e]
            by_cases hin : min (16 * (k / 18)) 240 ≤ (y 0).val ∧ (y 0).val < min (16 * (k / 18)) 240 + 16
            · rw [wr_hit _ _ _ _ hin, es]
              unfold foldS
              rw [show (y 0).val / 16 = k / 18 by omega]
              congr 1
              funext a
              fin_cases a
              apply Fin.ext
              show (y 0).val - min (16 * (k / 18)) 240 = (y 0).val % 16
              omega
            · rw [wr_miss _ _ _ _ hin]
              exact hA y (by omega)
          isplitl [HLa]; · iexact HLa
          isplitl [HLc]; · iexact HLc
          isplitl [HA]; · iexact HA
          iexact HC
        | false =>
          have hb := hk'
          have hk' : 288 ≤ k := of_blt_false hk'
          have es : s = psum 129 Lc ((k - 288) / 18) 15 := by rw [hs']; unfold fsum; rw [hb, cond_false]
          rw [cond_false]
          iapply (wp_stM d i mCnt _ _ _ _ _ Rc)
          isplitl [HC]; · iexact HC
          iintro %R' %hR HC
          rw [wp_pure]
          imodintro
          iapply HK
          iexists Ra, R'
          isplitr
          · ipureintro
            refine ⟨fun y hy => hA y (by omega), fun y hy => ?_, fun h => absurd h (by omega)⟩
            have e : R' y = wr Rc (min (16 * ((k - 288) / 18)) 112) s y := congrFun hR y
            rw [e]
            by_cases hin : min (16 * ((k - 288) / 18)) 112 ≤ (y 0).val ∧ (y 0).val < min (16 * ((k - 288) / 18)) 112 + 16
            · rw [wr_hit _ _ _ _ hin, es]
              unfold foldS
              rw [show (y 0).val / 16 = (k - 288) / 18 by omega]
              congr 1
              funext a
              fin_cases a
              apply Fin.ext
              show (y 0).val - min (16 * ((k - 288) / 18)) 112 = (y 0).val % 16
              omega
            · rw [wr_miss _ _ _ _ hin]
              exact hC y (by omega)
          isplitl [HLa]; · iexact HLa
          isplitl [HLc]; · iexact HLc
          isplitl [HA]; · iexact HA
          iexact HC

theorem wp_frun' (La : FVec F S4112 .f32) (Lc : FVec F S2064 .f32) (k n : ℕ) (hk : k + n ≤ 432) (s : FVec F S16 .f32) (Q : FVec F S16 .f32 → sProp 𝕄) :
    iprop(fI d i La Lc k s ∗ (∀ s', fI d i La Lc (k + n) s' -∗ Q s')) ⊢ wpT d i (frun i k n s) Q := by
  induction n generalizing k s with
  | zero =>
    unfold frun
    rw [wpT, wp_pure]
    iintro ⟨H, HK⟩
    imodintro
    iapply HK
    iexact H
  | succ n ih =>
    unfold frun
    rw [wpT, wp_bind]
    iintro ⟨H, HK⟩
    iapply (wp_fopP d i La Lc k (by omega))
    isplitl [H]; · iexact H
    iintro %s' H
    iapply (ih (k + 1) (by omega))
    isplitl [H]; · iexact H
    rw [Nat.add_right_comm]
    iexact HK

/-- The whole fold. -/
theorem wp_frun (La : FVec F S4112 .f32) (Lc : FVec F S2064 .f32) (Ra : FVec F S256 .f32) (Rc : FVec F S128 .f32) (s : FVec F S16 .f32) (Q : FVec F S16 .f32 → sProp 𝕄) :
    iprop(ptLa d i La ∗ ptLc d i Lc ∗ ptAcc d i Ra ∗ ptCnt d i Rc
        ∗ (∀ s', ptLa d i La ∗ ptLc d i Lc ∗ ptAcc d i (foldS 257 La) ∗ ptCnt d i (foldS 129 Lc) -∗ Q s')) ⊢ wpT d i (frun i 0 432 s) Q := by
  iintro ⟨HLa, HLc, HA, HC, HK⟩
  iapply (wp_frun' d i La Lc 0 432 (by omega))
  isplitl [HLa HLc HA HC]
  · unfold fI
    iexists Ra, Rc
    isplitr
    · ipureintro
      exact ⟨fun y hy => absurd hy (by simp), fun y hy => absurd hy (by simp), fun h => absurd rfl h⟩
    isplitl [HLa]; · iexact HLa
    isplitl [HLc]; · iexact HLc
    isplitl [HA]; · iexact HA
    iexact HC
  iintro %s' H
  unfold fI
  icases H with ⟨%Ra', %Rc', %h, HLa, HLc, HA, HC⟩
  obtain ⟨hA, hC, -⟩ := h
  have eA : Ra' = foldS 257 La := funext fun y => hA y (by have : (y 0).val < 256 := (y 0).isLt; omega)
  have eC : Rc' = foldS 129 Lc := funext fun y => hC y (by have : (y 0).val < 128 := (y 0).isLt; omega)
  subst eA eC
  iapply HK
  isplitl [HLa]; · iexact HLa
  isplitl [HLc]; · iexact HLc
  isplitl [HA]; · iexact HA
  iexact HC

end Cert.KernelIdeal.Edge
-- ==== Proof.TileCopy.lean ====
/- The tile's copies: five chunks in, each of five transfers on one semaphore, and two rows out. -/
module

public import proofs.«01_k».proof.Proof.TileRun

@[expose] public section

set_option maxRecDepth 16384

noncomputable section

namespace Cert.KernelIdeal.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the copies bring -/

/-- The tile's number: two tiles, one on each SparseCore, to a subcore's number. -/
abbrev wid (i : grid1.Coords) : ℕ := 2 * (i 1).val + (i 0).val

theorem wid_lt (i : grid1.Coords) : wid i < 32 := by
  have h1 : (i 1).val < 16 := (i 1).isLt
  have h0 : (i 0).val < 2 := (i 0).isLt
  show 2 * (i 1).val + (i 0).val < 32
  omega

/-- The attributes of the edges of tile `w`, attribute by attribute. -/
def avOf (A : FVec F S1280000 .f32) (w : ℕ) : FVec F S40000 .f32 := fun y =>
  A fun a => ⟨((y 0).val / 10000 * 320000 + w * 10000 + (y 0).val % 10000) % 1280000, by fin_cases a; exact Nat.mod_lt _ (by decide)⟩
/-- The graph numbers of the edges of tile `w`. -/
def svOf (G : IVec S320000 32) (w : ℕ) : IVec S10000 32 := fun y =>
  G fun a => ⟨(w * 10000 + (y 0).val) % 320000, by fin_cases a; exact Nat.mod_lt _ (by decide)⟩

variable (d : Dev nD) (i : grid1.Coords)

theorem landA (c : Fin 5) (f : Fin 4) (A : FVec F S1280000 .f32) (fd : FVec F S40000 .f32) :
    ∀ y ∈ (dstA c f).view.set, (dstA c f).view.write (Elt F) fd ((ReadAs.same (Val := Elt F)).apply ((srcA i c f).view.read (Elt F) A)) Finset.univ y = avOf A (wid i) y := by
  intro y hy
  obtain ⟨x, -, rfl⟩ := Finset.mem_map.mp hy
  rw [View.write_emb_of_mem _ _ (Finset.mem_univ _)]
  show A ((srcA i c f).view.emb x) = A _
  congr 1
  funext a
  fin_cases a
  apply Fin.ext
  show k1_off1 i (BitVec.ofNat 32 (320000 * f.val)) (BitVec.ofNat 32 (2000 * c.val)) 0 + 1 * (x 0).val
    = ((10000 * f.val + 2000 * c.val + 1 * (x 0).val) / 10000 * 320000 + wid i * 10000 + (10000 * f.val + 2000 * c.val + 1 * (x 0).val) % 10000) % 1280000
  rw [k1_off1_eq]
  have hx : (x 0).val < 2000 := (x 0).isLt
  have h1 : (i 1).val < 16 := (i 1).isLt
  have h0 : (i 0).val < 2 := (i 0).isLt
  show 320000 * f.val + 20000 * (i 1).val + 10000 * (i 0).val + 2000 * c.val + 1 * (x 0).val = _
  simp only [wid]
  omega

theorem landS (c : Fin 5) (G : IVec S320000 32) (fd : IVec S10000 32) :
    ∀ y ∈ (dstS c).view.set, (dstS c).view.write (Elt F) fd ((ReadAs.same (Val := Elt F)).apply ((srcS i c).view.read (Elt F) G)) Finset.univ y = svOf G (wid i) y := by
  intro y hy
  obtain ⟨x, -, rfl⟩ := Finset.mem_map.mp hy
  rw [View.write_emb_of_mem _ _ (Finset.mem_univ _)]
  show G ((srcS i c).view.emb x) = G _
  congr 1
  funext a
  fin_cases a
  apply Fin.ext
  show k1_off2 i (BitVec.ofNat 32 (2000 * c.val)) 0 + 1 * (x 0).val = (wid i * 10000 + (2000 * c.val + 1 * (x 0).val)) % 320000
  rw [k1_off2_eq]
  have hx : (x 0).val < 2000 := (x 0).isLt
  have h1 : (i 1).val < 16 := (i 1).isLt
  have h0 : (i 0).val < 2 := (i 0).isLt
  show 20000 * (i 1).val + 10000 * (i 0).val + 2000 * c.val + 1 * (x 0).val = _
  simp only [wid]
  omega

/-! ## One chunk's transfers -/

/-- The credit of a transfer of two thousand words. -/
abbrev NB (c : Fin 5) : ℕ := (dstS c).view.amount (SemLoc.dma (sig := sig) (csem c).sem)

/-- What the five transfers of chunk `c` leave. -/
def deliv (c : Fin 5) (av : FVec F S40000 .f32) (sv : IVec S10000 32) : Fin 5 → sProp 𝕄
  | ⟨0, _⟩ => ptA d i c 0 av
  | ⟨1, _⟩ => ptA d i c 1 av
  | ⟨2, _⟩ => ptA d i c 2 av
  | ⟨3, _⟩ => ptA d i c 3 av
  | ⟨4, _⟩ => ptS d i c sv

instance deliv_storable (c : Fin 5) (av : FVec F S40000 .f32) (sv : IVec S10000 32) : ∀ t, Storable (upEmb : UEmb _ 𝕄) (deliv (F := F) d i c av sv t)
  | ⟨0, _⟩ => by unfold deliv; infer_instance
  | ⟨1, _⟩ => by unfold deliv; infer_instance
  | ⟨2, _⟩ => by unfold deliv; infer_instance
  | ⟨3, _⟩ => by unfold deliv; infer_instance
  | ⟨4, _⟩ => by unfold deliv; infer_instance

/-- All the pieces of chunk `c`. -/
abbrev ptC (c : Fin 5) (av : FVec F S40000 .f32) (sv : IVec S10000 32) : sProp 𝕄 :=
  iprop(ptA d i c 0 av ∗ ptA d i c 1 av ∗ ptA d i c 2 av ∗ ptA d i c 3 av ∗ ptS d i c sv)

theorem deliv_split (c : Fin 5) (av : FVec F S40000 .f32) (sv : IVec S10000 32) : bigSep Finset.univ (deliv (F := F) d i c av sv) ⊢ ptC d i c av sv := by
  rw [Idealize.SL.BI.bigSep_univ_eq_bigSepL [0, 1, 2, 3, 4] (by decide) (by decide) _]
  exact .rfl

/-- A share of the flat attributes, at the elements one transfer reads. -/
abbrev ptSrcA (c : Fin 5) (f : Fin 4) (q : PosShare TreeShare) (A : FVec F S1280000 .f32) : sProp 𝕄 :=
  (srcA i c f).view.loc (thr d i) ↦[(srcA i c f).view.set]{q} (A : Buf (Elt F) ((srcA i c f).view.loc (thr d i)))
/-- A share of the graph numbers, at the elements one transfer reads. -/
abbrev ptSrcS (c : Fin 5) (q : PosShare TreeShare) (G : IVec S320000 32) : sProp 𝕄 :=
  (srcS i c).view.loc (thr d i) ↦[(srcS i c).view.set]{q} (G : Buf (Elt F) ((srcS i c).view.loc (thr d i)))

/-- Chunk `c`'s transfers, `j` of them started and `u` units awaited. -/
abbrev batch (c : Fin 5) (av : FVec F S40000 .f32) (sv : IVec S10000 32) (j u : ℕ) : sProp 𝕄 :=
  Transfers.Batch (EC (F := F)) (thr d i) (.dma (csem c).sem) (none : HIx 1) (NB c) (deliv d i c av sv) j u

theorem wp_issueA (c : Fin 5) (f : Fin 4) (q : PosShare TreeShare) (A : FVec F S1280000 .f32) (sv : IVec S10000 32) (fd : FVec F S40000 .f32)
    (hD : ptA d i c f (avOf A (wid i)) ⊢ deliv d i c (avOf A (wid i)) sv ⟨f.val, by omega⟩) (Q : PUnit → sProp 𝕄) :
    iprop(ptSrcA d i c f q A ∗ ptA d i c f fd ∗ batch d i c (avOf A (wid i)) sv f.val 0 ∗ (batch d i c (avOf A (wid i)) sv (f.val + 1) 0 -∗ Q ⟨⟩)) ⊢ wpT d i (issueA i c f) Q := by
  unfold issueA
  iintro ⟨Hs, Hd, HB, HK⟩
  iapply (Transfers.wp_dmaBatch (EC (F := F)) 𝒱₀ (thr d i) none (src := srcA i c f) (dst := dstA c f) (none : HIx 1) (NB c) rfl subset_rfl
    (D := deliv d i c (avOf A (wid i)) sv) (j := f.val) (u := 0) (by omega) (Nat.zero_le _)
    (by rw [pointsTo_congr (landA i c f A fd)]; exact sep_elim_left.trans hD)) $$ [Hs Hd HB]
  · isplitl [Hs]; · iexact Hs
    isplitl [Hd]; · iexact Hd
    iexact HB
  iintro HB
  rw [wp_ret]
  imodintro
  iapply HK
  iexact HB

theorem wp_issueS (c : Fin 5) (q : PosShare TreeShare) (G : IVec S320000 32) (av : FVec F S40000 .f32) (fd : IVec S10000 32) (Q : PUnit → sProp 𝕄) :
    iprop(ptSrcS d i c q G ∗ ptS d i c fd ∗ batch d i c av (svOf G (wid i)) 4 0 ∗ (batch d i c av (svOf G (wid i)) 5 0 -∗ Q ⟨⟩)) ⊢ wpT d i (issueS i c) Q := by
  unfold issueS
  iintro ⟨Hs, Hd, HB, HK⟩
  iapply (Transfers.wp_dmaBatch (EC (F := F)) 𝒱₀ (thr d i) none (src := srcS i c) (dst := dstS c) (none : HIx 1) (NB c) rfl subset_rfl
    (D := deliv d i c av (svOf G (wid i))) (j := 4) (u := 0) (by omega) (Nat.zero_le _)
    (by rw [pointsTo_congr (landS i c G fd)]; exact sep_elim_left.trans .rfl)) $$ [Hs Hd HB]
  · isplitl [Hs]; · iexact Hs
    isplitl [Hd]; · iexact Hd
    iexact HB
  iintro HB
  rw [wp_ret]
  imodintro
  iapply HK
  iexact HB

/-- A chunk's transfers started. -/
theorem wp_issueC (c : Fin 5) (q0 q1 q2 q3 qs : PosShare TreeShare) (A : FVec F S1280000 .f32) (G : IVec S320000 32) (fa : FVec F S40000 .f32) (fs : IVec S10000 32) (Q : PUnit → sProp 𝕄) :
    iprop((ptSrcA d i c 0 q0 A ∗ ptSrcA d i c 1 q1 A ∗ ptSrcA d i c 2 q2 A ∗ ptSrcA d i c 3 q3 A ∗ ptSrcS d i c qs G) ∗ ptC d i c fa fs
        ∗ semVal (thr d i, SemLoc.dma (csem c).sem) 0 ∗ (batch d i c (avOf A (wid i)) (svOf G (wid i)) 5 0 -∗ Q ⟨⟩)) ⊢ wpT d i (issueC i c) Q := by
  unfold issueC
  iintro ⟨⟨S0, S1, S2, S3, SS⟩, ⟨D0, D1, D2, D3, DS⟩, Hv, HK⟩
  imod (Transfers.batch_alloc' (Lvl := ℕ) (EC (F := F)) (thr d i) (none : HIx 1) (NB c) (deliv d i c (avOf A (wid i)) (svOf G (wid i))) (sm := .dma (csem c).sem) (E := Set.univ)) $$ Hv with HB
  rw [wp_bind]
  iapply (wp_issueA d i c 0 q0 A (svOf G (wid i)) fa .rfl)
  isplitl [S0]; · iexact S0
  isplitl [D0]; · iexact D0
  isplitl [HB]; · iexact HB
  iintro HB
  rw [wp_bind]
  iapply (wp_issueA d i c 1 q1 A (svOf G (wid i)) fa .rfl)
  isplitl [S1]; · iexact S1
  isplitl [D1]; · iexact D1
  isplitl [HB]; · iexact HB
  iintro HB
  rw [wp_bind]
  iapply (wp_issueA d i c 2 q2 A (svOf G (wid i)) fa .rfl)
  isplitl [S2]; · iexact S2
  isplitl [D2]; · iexact D2
  isplitl [HB]; · iexact HB
  iintro HB
  rw [wp_bind]
  iapply (wp_issueA d i c 3 q3 A (svOf G (wid i)) fa .rfl)
  isplitl [S3]; · iexact S3
  isplitl [D3]; · iexact D3
  isplitl [HB]; · iexact HB
  iintro HB
  iapply (wp_issueS d i c qs G (avOf A (wid i)) fs)
  isplitl [SS]; · iexact SS
  isplitl [DS]; · iexact DS
  isplitl [HB]; · iexact HB
  iexact HK

/-- What the tile owes, some waits of its own recorded. -/
abbrev owesT (O : CellTallies nD τ sig (HIx 1)) (W : Waits sig (HIx 1)) : sProp 𝕄 := iprop(∃ W', ⌜∀ p ∈ W', p ∈ W ∨ p.2 = none⌝ ∗ owes (thr d i) O W')

theorem owesT_step (O : CellTallies nD τ sig (HIx 1)) (W W' : Waits sig (HIx 1)) (hW : ∀ p ∈ W', p ∈ W ∨ p.2 = none) (sm : SemLoc sig) :
    owes (thr d i) O (insert (sm, (none : HIx 1)) W') ⊢ owesT (F := F) d i O W := by
  iintro HO
  iexists (insert (sm, (none : HIx 1)) W')
  isplitr
  · ipureintro
    intro p hp
    rcases Finset.mem_insert.mp hp with hp | hp
    · exact .inr (hp ▸ rfl)
    · exact hW p hp
  · iexact HO

theorem NB_pos (c : Fin 5) : 0 < NB c := View.amount_pos _ _ (show 0 < S2000.numel by decide)

theorem wait_lt (u : ℕ) (hu : u < 4) (N : ℕ) (hN : 0 < N) : u * N + N < N * 5 := by
  have h := Nat.mul_le_mul_right N (show u + 1 ≤ 4 by omega)
  rw [Nat.add_mul, Nat.one_mul] at h
  omega

theorem wait_eq (N : ℕ) : 4 * N + N = N * 5 := by omega

theorem wp_waitA (c : Fin 5) (f : Fin 4) (av : FVec F S40000 .f32) (sv : IVec S10000 32) (O : CellTallies nD τ sig (HIx 1)) (W : Waits sig (HIx 1)) (u : ℕ) (hu : u < 4) (Q : PUnit → sProp 𝕄) :
    iprop(Transfers.MayWaits (thr d i) (none : HIx 1) O ∗ batch d i c av sv 5 (u * NB c) ∗ owesT d i O W
        ∗ (batch d i c av sv 5 ((u + 1) * NB c) ∗ owesT d i O W -∗ Q ⟨⟩)) ⊢ wpT d i (waitA i c f) Q := by
  unfold waitA
  iintro ⟨#Hmw, HB, ⟨%W', %hW', HO⟩, HK⟩
  iapply (Transfers.wp_waitBatchO (EC (F := F)) 𝒱₀ (thr d i) none (srcw := srcA i c f) (dstw := dstA c f) (none : HIx 1) (N := NB c) rfl (D := deliv d i c av sv) (u := u * NB c)
    (wait_lt u hu (NB c) (NB_pos c))) $$ [HB HO]
  · isplitl [HB]; · iexact HB
    isplitl [HO]; · iexact HO
    iapply (Transfers.MayWaits.elim _) $$ Hmw
  iintro ⟨HB, HO⟩
  rw [wp_ret]
  imodintro
  iapply HK
  isplitl [HB]
  · rw [Nat.succ_mul]; iexact HB
  · iapply (owesT_step d i O W W' hW' _) $$ HO

theorem wp_waitS (c : Fin 5) (av : FVec F S40000 .f32) (sv : IVec S10000 32) (O : CellTallies nD τ sig (HIx 1)) (W : Waits sig (HIx 1)) (Q : PUnit → sProp 𝕄) :
    iprop(Transfers.MayWaits (thr d i) (none : HIx 1) O ∗ batch d i c av sv 5 (4 * NB c) ∗ owesT d i O W
        ∗ (ptC d i c av sv ∗ semVal (thr d i, SemLoc.dma (csem c).sem) 0 ∗ owesT d i O W -∗ Q ⟨⟩)) ⊢ wpT d i (waitS i c) Q := by
  unfold waitS
  iintro ⟨#Hmw, HB, ⟨%W', %hW', HO⟩, HK⟩
  iapply (Transfers.wp_waitBatchLastO (EC (F := F)) 𝒱₀ (thr d i) none (srcw := srcS i c) (dstw := dstS c) (none : HIx 1) (N := NB c) rfl (NB_pos c) (D := deliv d i c av sv) (u := 4 * NB c)
    (wait_eq (NB c))) $$ [HB HO]
  · isplitl [HB]; · iexact HB
    isplitl [HO]; · iexact HO
    iapply (Transfers.MayWaits.elim _) $$ Hmw
  iintro ⟨HD, Hv, HO⟩
  rw [wp_ret]
  imodintro
  iapply HK
  isplitl [HD]; · iapply (deliv_split d i c av sv) $$ HD
  isplitl [Hv]; · iexact Hv
  iapply (owesT_step d i O W W' hW' _) $$ HO

/-- A chunk's transfers awaited. -/
theorem wp_waitC (c : Fin 5) (av : FVec F S40000 .f32) (sv : IVec S10000 32) (O : CellTallies nD τ sig (HIx 1)) (W : Waits sig (HIx 1)) (Q : PUnit → sProp 𝕄) :
    iprop(Transfers.MayWaits (thr d i) (none : HIx 1) O ∗ batch d i c av sv 5 0 ∗ owesT d i O W
        ∗ (ptC d i c av sv ∗ semVal (thr d i, SemLoc.dma (csem c).sem) 0 ∗ owesT d i O W -∗ Q ⟨⟩)) ⊢ wpT d i (waitC i c) Q := by
  unfold waitC
  iintro ⟨#Hmw, HB, HO, HK⟩
  rw [wpT, wp_bind]
  iapply (wp_waitA d i c 0 av sv O W 0 (by decide))
  isplitr; · iexact Hmw
  isplitl [HB]; · rw [Nat.zero_mul]; iexact HB
  isplitl [HO]; · iexact HO
  iintro ⟨HB, HO⟩
  rw [wp_bind]
  iapply (wp_waitA d i c 1 av sv O W 1 (by decide))
  isplitr; · iexact Hmw
  isplitl [HB]; · iexact HB
  isplitl [HO]; · iexact HO
  iintro ⟨HB, HO⟩
  rw [wp_bind]
  iapply (wp_waitA d i c 2 av sv O W 2 (by decide))
  isplitr; · iexact Hmw
  isplitl [HB]; · iexact HB
  isplitl [HO]; · iexact HO
  iintro ⟨HB, HO⟩
  rw [wp_bind]
  iapply (wp_waitA d i c 3 av sv O W 3 (by decide))
  isplitr; · iexact Hmw
  isplitl [HB]; · iexact HB
  isplitl [HO]; · iexact HO
  iintro ⟨HB, HO⟩
  iapply (wp_waitS d i c av sv O W)
  isplitr; · iexact Hmw
  isplitl [HB]; · iexact HB
  isplitl [HO]; · iexact HO
  iexact HK

/-! ## The rows out -/

/-- The per-tile sums: tile `w`'s in row `w`. -/
def outAcc (A : FVec F S1280000 .f32) (G : IVec S320000 32) : FVec F S32x256 .f32 := fun y =>
  rowA (avOf A (y 0).val) (svOf G (y 0).val) fun a => ⟨(y 1).val, by fin_cases a; exact (y 1).isLt⟩
/-- The per-tile counts. -/
def outCnt (G : IVec S320000 32) : FVec F S32x128 .f32 := fun y =>
  rowC (svOf G (y 0).val) fun a => ⟨(y 1).val, by fin_cases a; exact (y 1).isLt⟩

/-- The tile's row of the sums. -/
abbrev ptOA (f : FVec F S32x256 .f32) : sProp 𝕄 := (outA i).view.loc (thr d i) ↦[(outA i).view.set]{fullShare} (f : Buf (Elt F) ((outA i).view.loc (thr d i)))
/-- The tile's row of the counts. -/
abbrev ptOC (f : FVec F S32x128 .f32) : sProp 𝕄 := (outC i).view.loc (thr d i) ↦[(outC i).view.set]{fullShare} (f : Buf (Elt F) ((outC i).view.loc (thr d i)))

end Cert.KernelIdeal.Edge
-- ==== Proof.TileBody.lean ====
/- The whole tile: its scratches cut into the chunks' pieces and joined again, its sources dealt out, its two rows written. -/
module

public import proofs.«01_k».proof.Proof.TileCopy

@[expose] public section

set_option maxRecDepth 16384

noncomputable section

namespace Cert.KernelIdeal.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid1.Coords)

/-! ## The rows out -/

theorem landOA (A : FVec F S1280000 .f32) (G : IVec S320000 32) (f : FVec F S32x256 .f32) :
    ∀ y ∈ (outA i).view.set, (outA i).view.write (Elt F) f ((ReadAs.same (Val := Elt F)).apply (mAcc.view.read (Elt F) (rowA (avOf A (wid i)) (svOf G (wid i))))) Finset.univ y = outAcc A G y := by
  intro y hy
  obtain ⟨x, -, rfl⟩ := Finset.mem_map.mp hy
  rw [View.write_emb_of_mem _ _ (Finset.mem_univ _)]
  have e : ∀ a, ((outA i).view.emb x a).val = k1_off128 i a + 1 * ((Shape.reshapeEquiv (s := S1x256) (s' := S256) (by decide) x) a).val := fun a => rfl
  rw [Shape.reshapeEquiv_cons_one] at e
  have e0 : ((outA i).view.emb x 0).val = wid i := by
    rw [e 0, k1_off128_eq]; show 2 * (i 1).val + (i 0).val + 1 * 0 = _; simp only [wid]; omega
  have e1 : ((outA i).view.emb x 1).val = (x 0).val := by
    rw [e 1, k1_off128_eq]; show 0 + 1 * (x 0).val = _; omega
  show rowA (avOf A (wid i)) (svOf G (wid i)) x = outAcc A G ((outA i).view.emb x)
  unfold outAcc
  rw [e0]
  congr 1
  funext a
  fin_cases a
  exact Fin.ext e1.symm

theorem landOC (G : IVec S320000 32) (f : FVec F S32x128 .f32) :
    ∀ y ∈ (outC i).view.set, (outC i).view.write (Elt F) f ((ReadAs.same (Val := Elt F)).apply (mCnt.view.read (Elt F) (rowC (F := F) (svOf G (wid i))))) Finset.univ y = outCnt G y := by
  intro y hy
  obtain ⟨x, -, rfl⟩ := Finset.mem_map.mp hy
  rw [View.write_emb_of_mem _ _ (Finset.mem_univ _)]
  have e : ∀ a, ((outC i).view.emb x a).val = k1_off129 i a + 1 * ((Shape.reshapeEquiv (s := S1x128) (s' := S128) (by decide) x) a).val := fun a => rfl
  rw [Shape.reshapeEquiv_cons_one] at e
  have e0 : ((outC i).view.emb x 0).val = wid i := by
    rw [e 0, k1_off129_eq]; show 2 * (i 1).val + (i 0).val + 1 * 0 = _; simp only [wid]; omega
  have e1 : ((outC i).view.emb x 1).val = (x 0).val := by
    rw [e 1, k1_off129_eq]; show 0 + 1 * (x 0).val = _; omega
  show rowC (svOf G (wid i)) x = outCnt G ((outC i).view.emb x)
  unfold outCnt
  rw [e0]
  congr 1
  funext a
  fin_cases a
  exact Fin.ext e1.symm

/-- A semaphore of the tile's at zero. -/
abbrev sem0 (s : DmaSems sig S_) : sProp 𝕄 := semVal (thr d i, SemLoc.dma s.sem) 0

/-- The two rows copied out and awaited. -/
theorem wp_outP (A : FVec F S1280000 .f32) (G : IVec S320000 32) (f0 : FVec F S32x256 .f32) (f1 : FVec F S32x128 .f32) (O : CellTallies nD τ sig (HIx 1)) (W : Waits sig (HIx 1)) (Q : PUnit → sProp 𝕄) :
    iprop(Transfers.MayWaits (thr d i) (none : HIx 1) O ∗ ptAcc d i (rowA (avOf A (wid i)) (svOf G (wid i))) ∗ ptCnt d i (rowC (svOf G (wid i)))
        ∗ ptOA d i f0 ∗ ptOC d i f1 ∗ sem0 d i cc1_scoped0 ∗ sem0 d i cc1_scoped1 ∗ owesT d i O W
        ∗ ((∃ R, ptAcc d i R) ∗ (∃ R, ptCnt d i R) ∗ ptOA d i (outAcc A G) ∗ ptOC d i (outCnt G) ∗ sem0 d i cc1_scoped0 ∗ sem0 d i cc1_scoped1 ∗ owesT d i O W -∗ Q ⟨⟩))
      ⊢ wpT d i (outP i) Q := by
  unfold outP outP'
  simp only [Prog.bind_lift, Prog.bind_assoc]
  iintro ⟨#Hmw, HA, HC, HoA, HoC, Hs0, Hs1, ⟨%W1, %hW1, HO⟩, HK⟩
  iapply (Transfers.wp_dmaLocal (EC (F := F)) 𝒱₀ (thr d i) none (src := mAcc) (dst := outA i) (none : HIx 1) ((outA i).view.amount (SemLoc.dma (sig := sig) cc1_scoped0.sem)) rfl
    (View.amount_pos _ _ (show 0 < S256.numel by decide)) subset_rfl (fs := rowA (avOf A (wid i)) (svOf G (wid i))) (fd := f0) (q := fullShare)) $$ [HA HoA Hs0]
  · isplitl [HA]; · simp only [Memref.view_whole, View.set_whole]; iexact HA
    isplitl [HoA]; · iexact HoA
    iexact Hs0
  iintro HF
  iapply (Transfers.wp_waitLocalO (EC (F := F)) 𝒱₀ (thr d i) none (srcw := mAcc) (dstw := outA i) (none : HIx 1) rfl) $$ [HF HO]
  · isplitl [HF]; · iexact HF
    isplitl [HO]; · iexact HO
    iapply (Transfers.MayWaits.elim _) $$ Hmw
  have eA := pointsTo_congr (ℓ := (outA i).view.loc (thr d i)) (q := fullShare) (Ix := HIx 1) (Name := ℕ) (U := UU) (Lvl := ℕ) (landOA i A G f0)
  rw [eA]
  iintro ⟨⟨HoA, HA⟩, Hs0, HO⟩
  iapply (Transfers.wp_dmaLocal (EC (F := F)) 𝒱₀ (thr d i) none (src := mCnt) (dst := outC i) (none : HIx 1) ((outC i).view.amount (SemLoc.dma (sig := sig) cc1_scoped1.sem)) rfl
    (View.amount_pos _ _ (show 0 < S128.numel by decide)) subset_rfl (fs := rowC (svOf G (wid i))) (fd := f1) (q := fullShare)) $$ [HC HoC Hs1]
  · isplitl [HC]; · simp only [Memref.view_whole, View.set_whole]; iexact HC
    isplitl [HoC]; · iexact HoC
    iexact Hs1
  iintro HF
  iapply (Transfers.wp_waitLocalO (EC (F := F)) 𝒱₀ (thr d i) none (srcw := mCnt) (dstw := outC i) (none : HIx 1) rfl) $$ [HF HO]
  · isplitl [HF]; · iexact HF
    isplitl [HO]; · iexact HO
    iapply (Transfers.MayWaits.elim _) $$ Hmw
  have eC := pointsTo_congr (ℓ := (outC i).view.loc (thr d i)) (q := fullShare) (Ix := HIx 1) (Name := ℕ) (U := UU) (Lvl := ℕ) (landOC i G f1)
  rw [eC]
  iintro ⟨⟨HoC, HC⟩, Hs1, HO⟩
  rw [wp_ret]
  imodintro
  iapply HK
  isplitl [HA]; · iexists _; simp only [Memref.view_whole, View.set_whole]; iexact HA
  isplitl [HC]; · iexists _; simp only [Memref.view_whole, View.set_whole]; iexact HC
  isplitl [HoA]; · iexact HoA
  isplitl [HoC]; · iexact HoC
  isplitl [Hs0]; · iexact Hs0
  isplitl [Hs1]; · iexact Hs1
  iexists _
  isplitr
  rotate_left
  · iexact HO
  · ipureintro
    intro p hp
    rcases Finset.mem_insert.mp hp with hp | hp
    · exact .inr (hp ▸ rfl)
    rcases Finset.mem_insert.mp hp with hp | hp
    · exact .inr (hp ▸ rfl)
    · exact hW1 p hp

/-! ## The pieces of the two large scratches -/

theorem mem_dstA (c : Fin 5) (f : Fin 4) (y : S40000.Idx) : y ∈ (dstA c f).view.set ↔ 10000 * f.val + 2000 * c.val ≤ (y 0).val ∧ (y 0).val < 10000 * f.val + 2000 * c.val + 2000 := by
  have h : (dstA c f).view.set = (Rect.unit (s := S40000) ![10000 * f.val + 2000 * c.val] S2000.size (dstA_inb c f)).set := View.set_slice_whole _ _
  rw [h, Rect.mem_set_unit]
  exact ⟨fun h => h 0, fun h a => by fin_cases a; exact h⟩

theorem mem_dstS (c : Fin 5) (y : S10000.Idx) : y ∈ (dstS c).view.set ↔ 2000 * c.val ≤ (y 0).val ∧ (y 0).val < 2000 * c.val + 2000 := by
  have h : (dstS c).view.set = (Rect.unit (s := S10000) ![2000 * c.val] S2000.size (dstS_inb c)).set := View.set_slice_whole _ _
  rw [h, Rect.mem_set_unit]
  exact ⟨fun h => h 0, fun h a => by fin_cases a; exact h⟩

theorem sep4 (Φ : Fin 4 → sProp 𝕄) : bigSep Finset.univ Φ = iprop(Φ 0 ∗ Φ 1 ∗ Φ 2 ∗ Φ 3) := by
  rw [Idealize.SL.BI.bigSep_univ_eq_bigSepL [0, 1, 2, 3] (by decide) (by decide) _]; rfl
theorem sep5 (Φ : Fin 5 → sProp 𝕄) : bigSep Finset.univ Φ = iprop(Φ 0 ∗ Φ 1 ∗ Φ 2 ∗ Φ 3 ∗ Φ 4) := by
  rw [Idealize.SL.BI.bigSep_univ_eq_bigSepL [0, 1, 2, 3, 4] (by decide) (by decide) _]; rfl

/-- A buffer held whole is its pieces, where they are apart and cover it. -/
theorem pieces1 {ℓ : Loc nD τ sig} (g : Buf (Elt F) ℓ) (q : PosShare TreeShare) {A : Type} [Fintype A] (R : A → Finset (Idx ℓ)) (hcov : ∀ y, ∃ a, y ∈ R a)
    (hd : ∀ a a' y, y ∈ R a → y ∈ R a' → a = a') : ((ℓ ↦{q} g) : sProp 𝕄) = bigSep Finset.univ fun a => ℓ ↦[R a]{q} g := by
  have e : (Finset.univ : Finset (Idx ℓ)) = Finset.univ.biUnion R :=
    (Finset.eq_univ_iff_forall.mpr fun y => (hcov y).elim fun a ha => Finset.mem_biUnion.mpr ⟨a, Finset.mem_univ _, ha⟩).symm
  show (ℓ ↦[Finset.univ]{q} g) = _
  rw [e]
  exact pointsTo_biUnion _ _ fun a _ a' _ hne => Finset.disjoint_left.mpr fun y hy hy' => hne (hd a a' y hy hy')

/-- The same, the pieces numbered by two indices. -/
theorem pieces2 {ℓ : Loc nD τ sig} (g : Buf (Elt F) ℓ) (q : PosShare TreeShare) {A B : Type} [Fintype A] [Fintype B] (R : A → B → Finset (Idx ℓ)) (hcov : ∀ y, ∃ a b, y ∈ R a b)
    (hd : ∀ a b a' b' y, y ∈ R a b → y ∈ R a' b' → a = a' ∧ b = b') :
    ((ℓ ↦{q} g) : sProp 𝕄) = bigSep Finset.univ fun a => bigSep Finset.univ fun b => ℓ ↦[R a b]{q} g := by
  rw [pieces1 g q (fun a => Finset.univ.biUnion (R a)) (fun y => (hcov y).elim fun a h => h.elim fun b hb => ⟨a, Finset.mem_biUnion.mpr ⟨b, Finset.mem_univ _, hb⟩⟩)
    (fun a a' y hy hy' => by
      obtain ⟨b, _, hb⟩ := Finset.mem_biUnion.mp hy
      obtain ⟨b', _, hb'⟩ := Finset.mem_biUnion.mp hy'
      exact (hd a b a' b' y hb hb').1)]
  exact bigSep_congr fun a _ => pointsTo_biUnion _ _ fun b _ b' _ hne => Finset.disjoint_left.mpr fun y hy hy' => hne (hd a b a b' y hy hy').2

theorem dstA_cov (y : S40000.Idx) : ∃ (c : Fin 5) (f : Fin 4), y ∈ (dstA c f).view.set := by
  have hy : (y 0).val < 40000 := (y 0).isLt
  refine ⟨⟨(y 0).val % 10000 / 2000, by omega⟩, ⟨(y 0).val / 10000, by omega⟩, (mem_dstA _ _ y).mpr ⟨?_, ?_⟩⟩
  · show 10000 * ((y 0).val / 10000) + 2000 * ((y 0).val % 10000 / 2000) ≤ (y 0).val
    omega
  · show (y 0).val < 10000 * ((y 0).val / 10000) + 2000 * ((y 0).val % 10000 / 2000) + 2000
    omega
theorem dstA_dis (c : Fin 5) (f : Fin 4) (c' : Fin 5) (f' : Fin 4) (y : S40000.Idx) (h : y ∈ (dstA c f).view.set) (h' : y ∈ (dstA c' f').view.set) : c = c' ∧ f = f' := by
  obtain ⟨h1, h2⟩ := (mem_dstA c f y).mp h
  obtain ⟨h3, h4⟩ := (mem_dstA c' f' y).mp h'
  generalize (y 0).val = n at h1 h2 h3 h4
  exact ⟨Fin.ext (by omega), Fin.ext (by omega)⟩

theorem dstS_cov (y : S10000.Idx) : ∃ c : Fin 5, y ∈ (dstS c).view.set := by
  have hy : (y 0).val < 10000 := (y 0).isLt
  refine ⟨⟨(y 0).val / 2000, by omega⟩, (mem_dstS _ y).mpr ⟨?_, ?_⟩⟩
  · show 2000 * ((y 0).val / 2000) ≤ (y 0).val
    omega
  · show (y 0).val < 2000 * ((y 0).val / 2000) + 2000
    omega
theorem dstS_dis (c c' : Fin 5) (y : S10000.Idx) (h : y ∈ (dstS c).view.set) (h' : y ∈ (dstS c').view.set) : c = c' := by
  obtain ⟨h1, h2⟩ := (mem_dstS c y).mp h
  obtain ⟨h3, h4⟩ := (mem_dstS c' y).mp h'
  generalize (y 0).val = n at h1 h2 h3 h4
  exact Fin.ext (by omega)

theorem scr0_eq (av : FVec F S40000 .f32) :
    (((thr d i).loc cc1_scratch0 ↦{fullShare} (av : Buf (Elt F) ((thr d i).loc cc1_scratch0))) : sProp 𝕄)
      = bigSep Finset.univ fun c : Fin 5 => bigSep Finset.univ fun f : Fin 4 => ptA d i c f av :=
  pieces2 (ℓ := (thr d i).loc cc1_scratch0) av fullShare (fun c f => (dstA c f).view.set) dstA_cov dstA_dis

theorem scr1_eq (sv : IVec S10000 32) :
    (((thr d i).loc cc1_scratch1 ↦{fullShare} (sv : Buf (Elt F) ((thr d i).loc cc1_scratch1))) : sProp 𝕄) = bigSep Finset.univ fun c : Fin 5 => ptS d i c sv :=
  pieces1 (ℓ := (thr d i).loc cc1_scratch1) sv fullShare (fun c => (dstS c).view.set) dstS_cov dstS_dis

/-- The two scratches are the five chunks' pieces. -/
theorem scr_eq (av : FVec F S40000 .f32) (sv : IVec S10000 32) :
    (iprop(((thr d i).loc cc1_scratch0 ↦{fullShare} (av : Buf (Elt F) ((thr d i).loc cc1_scratch0)))
      ∗ ((thr d i).loc cc1_scratch1 ↦{fullShare} (sv : Buf (Elt F) ((thr d i).loc cc1_scratch1)))) : sProp 𝕄)
      = bigSep Finset.univ fun c : Fin 5 => iprop((bigSep Finset.univ fun f : Fin 4 => ptA d i c f av) ∗ ptS d i c sv) := by
  rw [scr0_eq, scr1_eq]
  exact (BI.bigSep_sep _ _ _).symm

theorem ptC_eq (c : Fin 5) (av : FVec F S40000 .f32) (sv : IVec S10000 32) :
    (iprop((bigSep Finset.univ fun f : Fin 4 => ptA d i c f av) ∗ ptS d i c sv) : sProp 𝕄) ⊣⊢ ptC d i c av sv := by
  rw [sep4]
  constructor
  · iintro ⟨⟨A0, A1, A2, A3⟩, S⟩
    isplitl [A0]; · iexact A0
    isplitl [A1]; · iexact A1
    isplitl [A2]; · iexact A2
    isplitl [A3]; · iexact A3
    iexact S
  · iintro ⟨A0, A1, A2, A3, S⟩
    isplitr [S]
    · isplitl [A0]; · iexact A0
      isplitl [A1]; · iexact A1
      isplitl [A2]; · iexact A2
      iexact A3
    iexact S

/-! ## The sources -/

/-- Some shares of what chunk `c`'s transfers read. -/
abbrev srcC (c : Fin 5) (A : FVec F S1280000 .f32) (G : IVec S320000 32) : sProp 𝕄 :=
  iprop(∃ q0 q1 q2 q3 qs, ptSrcA d i c 0 q0 A ∗ ptSrcA d i c 1 q1 A ∗ ptSrcA d i c 2 q2 A ∗ ptSrcA d i c 3 q3 A ∗ ptSrcS d i c qs G)

/-- A share of the flat attributes, whole. -/
abbrev ptV3 (q : PosShare TreeShare) (A : FVec F S1280000 .f32) : sProp 𝕄 := (thr d i).loc main_v3_scv ↦{q} (A : Buf (Elt F) ((thr d i).loc main_v3_scv))
/-- A share of the graph numbers, whole. -/
abbrev ptG4 (q : PosShare TreeShare) (G : IVec S320000 32) : sProp 𝕄 := (thr d i).loc main_arg4_scv ↦{q} (G : Buf (Elt F) ((thr d i).loc main_arg4_scv))

theorem src_restrictA (c : Fin 5) (f : Fin 4) (q : PosShare TreeShare) (A : FVec F S1280000 .f32) : ptV3 d i q A ⊢ ptSrcA d i c f q A := by
  have h := pointsTo_split_subset (Val := Elt F) (ℓ := (thr d i).loc main_v3_scv) (q := q) (f := (A : Buf (Elt F) ((thr d i).loc main_v3_scv))) (Ix := HIx 1) (Name := ℕ) (U := UU) (Lvl := ℕ) (Finset.subset_univ (srcA i c f).view.set)
  exact h.1.trans sep_elim_left
theorem src_restrictS (c : Fin 5) (q : PosShare TreeShare) (G : IVec S320000 32) : (ptG4 d i q G : sProp 𝕄) ⊢ ptSrcS d i c q G := by
  have h := pointsTo_split_subset (Val := Elt F) (ℓ := (thr d i).loc main_arg4_scv) (q := q) (f := (G : Buf (Elt F) ((thr d i).loc main_arg4_scv))) (Ix := HIx 1) (Name := ℕ) (U := UU) (Lvl := ℕ) (Finset.subset_univ (srcS i c).view.set)
  exact h.1.trans sep_elim_left

theorem src_chunk (c : Fin 5) (qa qs : PosShare TreeShare) (A : FVec F S1280000 .f32) (G : IVec S320000 32) : iprop(ptV3 d i qa A ∗ ptG4 d i qs G) ⊢ srcC d i c A G := by
  iintro ⟨HA, HG⟩
  ihave H := (Transfers.pointsTo_toks_split qa 4) $$ HA
  rw [sep4]
  icases H with ⟨-, H0, H1, H2, H3⟩
  iexists _, _, _, _, _
  isplitl [H0]; · iapply (src_restrictA d i c 0 _ A) $$ H0
  isplitl [H1]; · iapply (src_restrictA d i c 1 _ A) $$ H1
  isplitl [H2]; · iapply (src_restrictA d i c 2 _ A) $$ H2
  isplitl [H3]; · iapply (src_restrictA d i c 3 _ A) $$ H3
  iapply (src_restrictS d i c _ G) $$ HG

/-- A share of each source serves all the tile's transfers. -/
theorem src_split (qa qs : PosShare TreeShare) (A : FVec F S1280000 .f32) (G : IVec S320000 32) :
    iprop(ptV3 d i qa A ∗ ptG4 d i qs G) ⊢ bigSep Finset.univ fun c : Fin 5 => srcC d i c A G := by
  have hA := Transfers.pointsTo_toks_split (Val := Elt F) (ℓ := (thr d i).loc main_v3_scv) (S := Finset.univ) (f := (A : Buf (Elt F) ((thr d i).loc main_v3_scv))) (Ix := HIx 1) (Name := ℕ) (U := UU) (Lvl := ℕ) qa 5
  have hG := Transfers.pointsTo_toks_split (Val := Elt F) (ℓ := (thr d i).loc main_arg4_scv) (S := Finset.univ) (f := (G : Buf (Elt F) ((thr d i).loc main_arg4_scv))) (Ix := HIx 1) (Name := ℕ) (U := UU) (Lvl := ℕ) qs 5
  rw [sep5] at hA hG
  rw [sep5]
  iintro ⟨HA, HG⟩
  ihave HA := hA $$ HA
  ihave HG := hG $$ HG
  icases HA with ⟨-, A0, A1, A2, A3, A4⟩
  icases HG with ⟨-, G0, G1, G2, G3, G4⟩
  isplitl [A0 G0]; · iapply (src_chunk d i 0 _ _ A G); isplitl [A0]; · iexact A0
                     iexact G0
  isplitl [A1 G1]; · iapply (src_chunk d i 1 _ _ A G); isplitl [A1]; · iexact A1
                     iexact G1
  isplitl [A2 G2]; · iapply (src_chunk d i 2 _ _ A G); isplitl [A2]; · iexact A2
                     iexact G2
  isplitl [A3 G3]; · iapply (src_chunk d i 3 _ _ A G); isplitl [A3]; · iexact A3
                     iexact G3
  iapply (src_chunk d i 4 _ _ A G)
  isplitl [A4]; · iexact A4
  iexact G4

/-! ## The tile -/

/-- Chunk `c` awaited and its groups run. -/
theorem wp_chunk (c : Fin 5) (av : FVec F S40000 .f32) (sv : IVec S10000 32) (hs : SegOk (F := F) sv) (O : CellTallies nD τ sig (HIx 1)) (W : Waits sig (HIx 1)) (Q : PUnit → sProp 𝕄) :
    iprop(Transfers.MayWaits (thr d i) (none : HIx 1) O ∗ batch d i c av sv 5 0 ∗ owesT d i O W ∗ ptLa d i (accS av sv (125 * c.val)) ∗ ptLc d i (cntS sv (125 * c.val))
        ∗ (ptC d i c av sv ∗ sem0 d i (csem c) ∗ owesT d i O W ∗ ptLa d i (accS av sv (125 * (c.val + 1))) ∗ ptLc d i (cntS sv (125 * (c.val + 1))) -∗ Q ⟨⟩)) ⊢ wpT d i (chunkP i c) Q := by
  unfold chunkP
  iintro ⟨#Hmw, HB, HO, HLa, HLc, HK⟩
  rw [wpT, wp_bind]
  iapply (wp_waitC d i c av sv O W)
  isplitr; · iexact Hmw
  isplitl [HB]; · iexact HB
  isplitl [HO]; · iexact HO
  iintro ⟨HC, Hs, HO⟩
  iapply (wp_loop d i c av sv hs)
  unfold stG
  isplitl [HC HLa HLc]
  · isplitl [HC]; · iexact HC
    isplitl [HLa]; · iexact HLa
    iexact HLc
  iintro ⟨HC, HLa, HLc⟩
  iapply HK
  isplitl [HC]; · iexact HC
  isplitl [Hs]; · iexact Hs
  isplitl [HO]; · iexact HO
  isplitl [HLa]; · iexact HLa
  iexact HLc

/-- What a chunk's start needs. -/
abbrev startC (c : Fin 5) (A : FVec F S1280000 .f32) (G : IVec S320000 32) : sProp 𝕄 := iprop(srcC d i c A G ∗ (∃ fa fs, ptC d i c fa fs) ∗ sem0 d i (csem c))

theorem wp_startC (c : Fin 5) (A : FVec F S1280000 .f32) (G : IVec S320000 32) (Q : PUnit → sProp 𝕄) :
    iprop(startC d i c A G ∗ (batch d i c (avOf A (wid i)) (svOf G (wid i)) 5 0 -∗ Q ⟨⟩)) ⊢ wpT d i (issueC i c) Q := by
  iintro ⟨⟨⟨%q0, %q1, %q2, %q3, %qs, HS⟩, ⟨%fa, %fs, HC⟩, Hv⟩, HK⟩
  iapply (wp_issueC d i c q0 q1 q2 q3 qs A G fa fs)
  isplitl [HS]; · iexact HS
  isplitl [HC]; · iexact HC
  isplitl [Hv]; · iexact Hv
  iexact HK

/-- What a chunk leaves. -/
abbrev doneC (c : Fin 5) (A : FVec F S1280000 .f32) (G : IVec S320000 32) : sProp 𝕄 := iprop(ptC d i c (avOf A (wid i)) (svOf G (wid i)) ∗ sem0 d i (csem c))

/-- The tile's run: its rows of the two outputs are the folded sums and counts of its edges. -/
theorem wp_tile (A : FVec F S1280000 .f32) (G : IVec S320000 32) (hs : SegOk (F := F) (svOf G (wid i))) (La : FVec F S4112 .f32) (Lc : FVec F S2064 .f32) (Ra : FVec F S256 .f32) (Rc : FVec F S128 .f32)
    (f0 : FVec F S32x256 .f32) (f1 : FVec F S32x128 .f32) (O : CellTallies nD τ sig (HIx 1)) (W : Waits sig (HIx 1)) (Q : PUnit → sProp 𝕄) :
    iprop(Transfers.MayWaits (thr d i) (none : HIx 1) O ∗ (startC d i 0 A G ∗ startC d i 1 A G ∗ startC d i 2 A G ∗ startC d i 3 A G ∗ startC d i 4 A G)
        ∗ (ptLa d i La ∗ ptLc d i Lc ∗ ptAcc d i Ra ∗ ptCnt d i Rc) ∗ ptOA d i f0 ∗ ptOC d i f1 ∗ sem0 d i cc1_scoped0 ∗ sem0 d i cc1_scoped1 ∗ owesT d i O W
        ∗ ((doneC d i 0 A G ∗ doneC d i 1 A G ∗ doneC d i 2 A G ∗ doneC d i 3 A G ∗ doneC d i 4 A G)
            ∗ ((∃ L, ptLa d i L) ∗ (∃ L, ptLc d i L) ∗ (∃ R, ptAcc d i R) ∗ (∃ R, ptCnt d i R))
            ∗ ptOA d i (outAcc A G) ∗ ptOC d i (outCnt G) ∗ sem0 d i cc1_scoped0 ∗ sem0 d i cc1_scoped1 ∗ owesT d i O W -∗ Q ⟨⟩))
      ⊢ wpT d i (tileP i) Q := by
  unfold tileP
  iintro ⟨#Hmw, ⟨C0, C1, C2, C3, C4⟩, ⟨HLa, HLc, HRa, HRc⟩, HoA, HoC, Hs0, Hs1, HO, HK⟩
  rw [wpT, wp_bind]
  iapply (wp_startC d i 0 A G)
  isplitl [C0]; · iexact C0
  iintro B0
  rw [wp_bind]
  iapply (wp_startC d i 1 A G)
  isplitl [C1]; · iexact C1
  iintro B1
  rw [wp_bind]
  iapply (wp_startC d i 2 A G)
  isplitl [C2]; · iexact C2
  iintro B2
  rw [wp_bind]
  iapply (wp_startC d i 3 A G)
  isplitl [C3]; · iexact C3
  iintro B3
  rw [wp_bind]
  iapply (wp_startC d i 4 A G)
  isplitl [C4]; · iexact C4
  iintro B4
  rw [wp_bind]
  iapply (wp_zrun d i La Lc (avOf A (wid i)) (svOf G (wid i)))
  isplitl [HLa]; · iexact HLa
  isplitl [HLc]; · iexact HLc
  iintro ⟨HLa, HLc⟩
  rw [wp_bind]
  iapply (wp_chunk d i 0 (avOf A (wid i)) (svOf G (wid i)) hs O W)
  isplitr; · iexact Hmw
  isplitl [B0]; · iexact B0
  isplitl [HO]; · iexact HO
  isplitl [HLa]; · iexact HLa
  isplitl [HLc]; · iexact HLc
  iintro ⟨C0, V0, HO, HLa, HLc⟩
  rw [wp_bind]
  iapply (wp_chunk d i 1 (avOf A (wid i)) (svOf G (wid i)) hs O W)
  isplitr; · iexact Hmw
  isplitl [B1]; · iexact B1
  isplitl [HO]; · iexact HO
  isplitl [HLa]; · iexact HLa
  isplitl [HLc]; · iexact HLc
  iintro ⟨C1, V1, HO, HLa, HLc⟩
  rw [wp_bind]
  iapply (wp_chunk d i 2 (avOf A (wid i)) (svOf G (wid i)) hs O W)
  isplitr; · iexact Hmw
  isplitl [B2]; · iexact B2
  isplitl [HO]; · iexact HO
  isplitl [HLa]; · iexact HLa
  isplitl [HLc]; · iexact HLc
  iintro ⟨C2, V2, HO, HLa, HLc⟩
  rw [wp_bind]
  iapply (wp_chunk d i 3 (avOf A (wid i)) (svOf G (wid i)) hs O W)
  isplitr; · iexact Hmw
  isplitl [B3]; · iexact B3
  isplitl [HO]; · iexact HO
  isplitl [HLa]; · iexact HLa
  isplitl [HLc]; · iexact HLc
  iintro ⟨C3, V3, HO, HLa, HLc⟩
  rw [wp_bind]
  iapply (wp_chunk d i 4 (avOf A (wid i)) (svOf G (wid i)) hs O W)
  isplitr; · iexact Hmw
  isplitl [B4]; · iexact B4
  isplitl [HO]; · iexact HO
  isplitl [HLa]; · iexact HLa
  isplitl [HLc]; · iexact HLc
  iintro ⟨C4, V4, HO, HLa, HLc⟩
  rw [wp_bind]
  iapply (wp_frun d i (accS (avOf A (wid i)) (svOf G (wid i)) 625) (cntS (svOf G (wid i)) 625) Ra Rc)
  isplitl [HLa]; · iexact HLa
  isplitl [HLc]; · iexact HLc
  isplitl [HRa]; · iexact HRa
  isplitl [HRc]; · iexact HRc
  iintro %s' ⟨HLa, HLc, HRa, HRc⟩
  rw [wp_bind]
  iapply (wp_outP d i A G f0 f1 O W)
  isplitr; · iexact Hmw
  isplitl [HRa]; · iexact HRa
  isplitl [HRc]; · iexact HRc
  isplitl [HoA]; · iexact HoA
  isplitl [HoC]; · iexact HoC
  isplitl [Hs0]; · iexact Hs0
  isplitl [Hs1]; · iexact Hs1
  isplitl [HO]; · iexact HO
  iintro ⟨HRa, HRc, HoA, HoC, Hs0, Hs1, HO⟩
  rw [wp_pure]
  imodintro
  iapply HK
  isplitl [C0 C1 C2 C3 C4 V0 V1 V2 V3 V4]
  · isplitl [C0 V0]; · isplitl [C0]; · iexact C0
                       iexact V0
    isplitl [C1 V1]; · isplitl [C1]; · iexact C1
                       iexact V1
    isplitl [C2 V2]; · isplitl [C2]; · iexact C2
                       iexact V2
    isplitl [C3 V3]; · isplitl [C3]; · iexact C3
                       iexact V3
    isplitl [C4]; · iexact C4
    iexact V4
  isplitl [HLa HLc HRa HRc]
  · isplitl [HLa]; · iexists _; iexact HLa
    isplitl [HLc]; · iexists _; iexact HLc
    isplitl [HRa]; · iexact HRa
    iexact HRc
  isplitl [HoA]; · iexact HoA
  isplitl [HoC]; · iexact HoC
  isplitl [Hs0]; · iexact Hs0
  isplitl [Hs1]; · iexact Hs1
  iexact HO

end Cert.KernelIdeal.Edge
-- ==== Proof.TileObl.lean ====
/- The tile's task as the launch asks for it: its own storage found among what the launch deals it, the payloads of the call's
   handshakes, and the split of a SparseCore's operands among its sixteen tiles. -/
module

public import proofs.«01_k».proof.Proof.TileBody

@[expose] public section

set_option maxRecDepth 16384

noncomputable section

namespace Cert.KernelIdeal.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid1.Coords)

/-! ## The tile's own storage -/

/-- The tile's six scratches. -/
def scrs : Fin 6 → Ref sig .scVector := ![cc1_scratch0, cc1_scratch1, cc1_scratch2, cc1_scratch3, cc1_scratch4, cc1_scratch5]
theorem scrs_inj : Function.Injective scrs := by decide

/-- The tile's seven semaphores. -/
def tsems : Fin 7 → SemLoc sig :=
  ![.dma cc1_scratch6.sem, .dma cc1_scratch7.sem, .dma cc1_scratch8.sem, .dma cc1_scratch9.sem, .dma cc1_scratch10.sem, .dma cc1_scoped0.sem, .dma cc1_scoped1.sem]
theorem tsems_inj : Function.Injective tsems := by decide

theorem tsems_scoped : ∀ k, (tsems k).isScoped .scVector = true := by decide

/-- Where the scratches lie. -/
def scrSet : Finset (DevRef τ sig) := Finset.univ.map ⟨fun k => (thr d i).2.devRef (scrs k), fun _ _ h => scrs_inj (Proc.devRef_injective _ h)⟩
/-- The semaphores' cells. -/
def cellSet : Finset (GSem nD τ sig) := Finset.univ.map ⟨fun k => (thr d i, tsems k), fun _ _ h => tsems_inj (Prod.ext_iff.mp h).2⟩

theorem scrSet_sub : scrSet d i ⊆ SparseCore.Cfg.ownRefs (sig := sig) (thr d i).2 := by
  intro b hb
  obtain ⟨k, -, rfl⟩ := Finset.mem_map.mp hb
  exact SparseCore.Cfg.mem_ownRefs_of_owner (by fin_cases k <;> rfl)
theorem cellSet_sub : cellSet d i ⊆ SparseCore.Cfg.ownCells (sig := sig) (thr d i) := by
  intro g hg
  obtain ⟨k, -, rfl⟩ := Finset.mem_map.mp hg
  exact SparseCore.Cfg.mem_ownCells.mpr ⟨rfl, tsems_scoped k⟩

/-- The rest of the tile's buffers, -/
def restB : sProp 𝕄 := bigSep (SparseCore.Cfg.ownRefs (sig := sig) (thr d i).2 \ scrSet d i) fun b => iprop(∃ f, (((thr d i).1, b) : Loc nD τ sig) ↦{fullShare} f)
/-- and of its semaphores. -/
def restC : sProp 𝕄 := bigSep (SparseCore.Cfg.ownCells (sig := sig) (thr d i) \ cellSet d i) fun g => semVal g 0

/-- The six scratches, each whole at some contents. -/
abbrev scrP : sProp 𝕄 :=
  iprop((∃ av : FVec F S40000 .f32, (thr d i).loc cc1_scratch0 ↦{fullShare} (av : Buf (Elt F) ((thr d i).loc cc1_scratch0)))
    ∗ (∃ sv : IVec S10000 32, (thr d i).loc cc1_scratch1 ↦{fullShare} (sv : Buf (Elt F) ((thr d i).loc cc1_scratch1)))
    ∗ (∃ L, ptLa d i L) ∗ (∃ L, ptLc d i L) ∗ (∃ R, ptAcc d i R) ∗ (∃ R, ptCnt d i R))
/-- The seven semaphores at zero. -/
abbrev semP : sProp 𝕄 :=
  iprop(sem0 d i (csem 0) ∗ sem0 d i (csem 1) ∗ sem0 d i (csem 2) ∗ sem0 d i (csem 3) ∗ sem0 d i (csem 4) ∗ sem0 d i cc1_scoped0 ∗ sem0 d i cc1_scoped1)

theorem storage_bufs : (scopedBufs (thr d i) : sProp 𝕄) = iprop(scrP d i ∗ restB d i) := by
  rw [(K (F := F)).scopedBufs_V facts d _ _]
  show bigSep (SparseCore.Cfg.ownRefs (thr d i).2) _ = _
  rw [SparseCore.bigSep_sdiff_split' (scrSet_sub d i)]
  refine congrArg (fun X : sProp 𝕄 => iprop(X ∗ restB d i)) ?_
  unfold scrSet
  rw [bigSep_map, Idealize.SL.BI.bigSep_univ_eq_bigSepL [0, 1, 2, 3, 4, 5] (by decide) (by decide) _]
  rfl

theorem storage_sems : (scopedSems0 (thr d i) : sProp 𝕄) = iprop(semP d i ∗ restC d i) := by
  rw [SparseCore.Cfg.scopedSems0_V (Val := Elt F) d _ _]
  show bigSep (SparseCore.Cfg.ownCells (thr d i)) _ = _
  rw [SparseCore.bigSep_sdiff_split' (cellSet_sub d i)]
  refine congrArg (fun X : sProp 𝕄 => iprop(X ∗ restC d i)) ?_
  unfold cellSet
  rw [bigSep_map, Idealize.SL.BI.bigSep_univ_eq_bigSepL [0, 1, 2, 3, 4, 5, 6] (by decide) (by decide) _]
  rfl

/-! ## The tile's task -/

/-- What a tile is handed: its rows of the outputs at some contents, and a share of each source. -/
abbrev tileIn (qa qs : PosShare TreeShare) (A : FVec F S1280000 .f32) (G : IVec S320000 32) : sProp 𝕄 :=
  iprop((∃ f, ptOA d i f) ∗ (∃ f, ptOC d i f) ∗ ptV3 d i qa A ∗ ptG4 d i qs G)
/-- What it hands back: its rows at the folded sums and counts. -/
abbrev tileOut (A : FVec F S1280000 .f32) (G : IVec S320000 32) : sProp 𝕄 := iprop(ptOA d i (outAcc A G) ∗ ptOC d i (outCnt G))

theorem tile_body (qa qs : PosShare TreeShare) (A : FVec F S1280000 .f32) (G : IVec S320000 32) (hs : SegOk (F := F) (svOf G (wid i)))
    (O : CellTallies nD τ sig (HIx 1)) (W : Waits sig (HIx 1)) (hO : ∀ g, O g none = 0) :
    iprop(levAts (K (F := F)).L (K (F := F)).lev ∗ emp ∗ tileIn d i qa qs A G ∗ scopedBufs (thr d i) ∗ scopedSems0 (thr d i) ∗ owes (thr d i) O W)
      ⊢ wpT d i (runAt (cc1_k (F := F) i)) fun _ => iprop(tileOut d i A G ∗ scopedBufs (thr d i) ∗ scopedSems0 (thr d i) ∗ owesT d i O W) := by
  rw [cc1_k_eq, storage_bufs, storage_sems]
  iintro ⟨#Hlv, -, ⟨⟨%f0, HoA⟩, ⟨%f1, HoC⟩, HV, HG⟩, ⟨⟨⟨%av, HA⟩, ⟨%sv, HS⟩, ⟨%La, HLa⟩, ⟨%Lc, HLc⟩, ⟨%Ra, HRa⟩, ⟨%Rc, HRc⟩⟩, HrB⟩, ⟨⟨V0, V1, V2, V3, V4, Hs0, Hs1⟩, HrC⟩, HO⟩
  ihave #Hmw := ((K (F := F)).mayWaits_none (thr := thr d i) hO) $$ Hlv
  have hsrc := src_split d i qa qs A G
  rw [sep5] at hsrc
  ihave HSrc := hsrc $$ [HV HG]
  · isplitl [HV]; · iexact HV
    iexact HG
  icases HSrc with ⟨S0, S1, S2, S3, S4⟩
  have hscr := Entails.of_eq (scr_eq d i av sv)
  rw [sep5] at hscr
  ihave HSc := hscr $$ [HA HS]
  · isplitl [HA]; · iexact HA
    iexact HS
  icases HSc with ⟨D0, D1, D2, D3, D4⟩
  iapply (wp_tile d i A G hs La Lc Ra Rc f0 f1 O W)
  isplitr; · iexact Hmw
  isplitl [S0 S1 S2 S3 S4 D0 D1 D2 D3 D4 V0 V1 V2 V3 V4]
  · isplitl [S0 D0 V0]
    · isplitl [S0]; · iexact S0
      isplitl [D0]; · iexists av, sv; iapply (ptC_eq d i 0 av sv).1 $$ D0
      iexact V0
    isplitl [S1 D1 V1]
    · isplitl [S1]; · iexact S1
      isplitl [D1]; · iexists av, sv; iapply (ptC_eq d i 1 av sv).1 $$ D1
      iexact V1
    isplitl [S2 D2 V2]
    · isplitl [S2]; · iexact S2
      isplitl [D2]; · iexists av, sv; iapply (ptC_eq d i 2 av sv).1 $$ D2
      iexact V2
    isplitl [S3 D3 V3]
    · isplitl [S3]; · iexact S3
      isplitl [D3]; · iexists av, sv; iapply (ptC_eq d i 3 av sv).1 $$ D3
      iexact V3
    isplitl [S4]; · iexact S4
    isplitl [D4]; · iexists av, sv; iapply (ptC_eq d i 4 av sv).1 $$ D4
    iexact V4
  isplitl [HLa HLc HRa HRc]
  · isplitl [HLa]; · iexact HLa
    isplitl [HLc]; · iexact HLc
    isplitl [HRa]; · iexact HRa
    iexact HRc
  isplitl [HoA]; · iexact HoA
  isplitl [HoC]; · iexact HoC
  isplitl [Hs0]; · iexact Hs0
  isplitl [Hs1]; · iexact Hs1
  isplitl [HO]
  · iexists W
    isplitr
    · ipureintro; exact fun p hp => .inl hp
    · iexact HO
  iintro ⟨⟨⟨D0, V0⟩, ⟨D1, V1⟩, ⟨D2, V2⟩, ⟨D3, V3⟩, ⟨D4, V4⟩⟩, ⟨HLa, HLc, HRa, HRc⟩, HoA, HoC, Hs0, Hs1, HO⟩
  isplitl [HoA HoC]
  · isplitl [HoA]; · iexact HoA
    iexact HoC
  isplitr [V0 V1 V2 V3 V4 Hs0 Hs1 HrC HO]
  · isplitr [HrB]
    · have hscr' := Entails.of_eq (scr_eq d i (avOf A (wid i)) (svOf G (wid i))).symm
      rw [sep5] at hscr'
      ihave HSc := hscr' $$ [D0 D1 D2 D3 D4]
      · isplitl [D0]; · iapply (ptC_eq d i 0 _ _).2 $$ D0
        isplitl [D1]; · iapply (ptC_eq d i 1 _ _).2 $$ D1
        isplitl [D2]; · iapply (ptC_eq d i 2 _ _).2 $$ D2
        isplitl [D3]; · iapply (ptC_eq d i 3 _ _).2 $$ D3
        iapply (ptC_eq d i 4 _ _).2 $$ D4
      icases HSc with ⟨HA, HS⟩
      isplitl [HA]; · iexists _; iexact HA
      isplitl [HS]; · iexists _; iexact HS
      isplitl [HLa]; · iexact HLa
      isplitl [HLc]; · iexact HLc
      isplitl [HRa]; · iexact HRa
      iexact HRc
    · iexact HrB
  isplitr [HO]
  · isplitr [HrC]
    · isplitl [V0]; · iexact V0
      isplitl [V1]; · iexact V1
      isplitl [V2]; · iexact V2
      isplitl [V3]; · iexact V3
      isplitl [V4]; · iexact V4
      isplitl [Hs0]; · iexact Hs0
      iexact Hs1
    · iexact HrC
  iexact HO

/-! ## The launch's obligation -/

/-- The grid coordinates of a subcore. -/
def coordsV (c : Fin (grid1.bound 0)) (s : Fin (grid1.bound 1)) : grid1.Coords := fun
  | 0 => c
  | 1 => s
  | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => runAt (cc1_k (F := F) (coordsV c s))) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W') ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- SparseCore `c`'s share of a source, -/
abbrev coreTok (c : Fin 2) : PosShare TreeShare := Transfers.shareTok fullShare 2 c
/-- and its tile `s`'s. -/
abbrev tileTok (c : Fin 2) (s : Fin 16) : PosShare TreeShare := Transfers.shareTok (coreTok c) 16 s

/-- The tile at SparseCore `c`, subcore `s`. -/
abbrev cw (c : Fin 2) (s : Fin 16) : grid1.Coords := coordsV c s

variable (A : Dev nD → FVec F S1280000 .f32) (G : Dev nD → IVec S320000 32)

/-- What a tile is handed at the launch's shares. -/
abbrev goT (c : Fin 2) (s : Fin 16) : sProp 𝕄 := tileIn d (cw c s) (tileTok c s) (tileTok c s) (A d) (G d)
/-- What it hands back. -/
abbrev tdT (c : Fin 2) (s : Fin 16) : sProp 𝕄 := tileOut d (cw c s) (A d) (G d)

/-- The call's payloads: a SparseCore's are its tiles'. -/
def P : (K (F := F)).Pay (nD := nD) (Val := Elt F) (Name := ℕ) (U := UU) where
  st := fun q d c => match q with | 0 => bigSep Finset.univ fun s : Fin 16 => goT d A G c s
  dn := fun q d c => match q with | 0 => bigSep Finset.univ fun s : Fin 16 => tdT d A G c s
  go := fun q d c s => match q with | 0 => goT d A G c s
  td := fun q d c s => match q with | 0 => tdT d A G c s
  x := fun _ _ => iprop(emp)

instance P_storable : (P (F := F) A G).IsStorable where
  st q d c := match q with | 0 => (inferInstance : BI.Storable (upEmb : UEmb _ 𝕄) (bigSep Finset.univ fun s : Fin 16 => goT d A G c s))
  dn q d c := match q with | 0 => (inferInstance : BI.Storable (upEmb : UEmb _ 𝕄) (bigSep Finset.univ fun s : Fin 16 => tdT d A G c s))
  go q d c s := match q with | 0 => (inferInstance : BI.Storable (upEmb : UEmb _ 𝕄) (goT d A G c s))
  td q d c s := match q with | 0 => (inferInstance : BI.Storable (upEmb : UEmb _ 𝕄) (tdT d A G c s))

/-- Every graph number in range. -/
def GOk (G : IVec S320000 32) : Prop := ∀ e, (G e : BitVec 32).toNat < 64

theorem GOk.seg {G : IVec S320000 32} (h : GOk G) (w : ℕ) : SegOk (F := F) (svOf G w) := fun _ => h _

set_option maxRecDepth 100000 in
/-- The launch's obligation of the tiles. -/
theorem tileObl (hG : ∀ d, GOk (G d)) : (K (F := F)).TileObl (D (F := F)) 𝒱 (P A G) v₀ 0 := by
  intro d c s O W hO _ _
  simp only [show (P (F := F) A G).ox = fun _ _ => 0 from rfl, add_zero]
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 s).val < grid1.bound 1 := ⟨c.isLt, s.isLt⟩
  rw [defs₀_vector]
  simp only [SparseCore.onTile, hc, and_self, ↓reduceDIte]
  exact (tile_body d (coordsV ⟨_, hc.1⟩ ⟨_, hc.2⟩) (tileTok c s) (tileTok c s) (A d) (G d) ((hG d).seg _) O W hO).trans (wp_mono frame _ _ fun _ => obl_post)

theorem vecSplit : (K (F := F)).VecSplit' (P A G) 0 := by
  intro d c
  show (bigSep Finset.univ fun s : Fin 16 => goT d A G c s) ⊢ |={Set.univ}=> iprop((bigSep Finset.univ fun s : Fin 16 => goT d A G c s)
    ∗ ((bigSep Finset.univ fun s : Fin 16 => tdT d A G c s) -∗ (bigSep Finset.univ fun s : Fin 16 => tdT d A G c s)))
  iintro H
  imodintro
  isplitl [H]; · iexact H
  iintro H
  iexact H

end Cert.KernelIdeal.Edge
-- ==== Proof.Pool.lean ====
/- The first TensorCore call: the pooling of `x`. What its body leaves at each of the ten points, and the call as one step of the
   TensorCore's program, its two results as functions of the block of graph numbers and of `x`. -/
module

public import proofs.«01_k».proof.Proof.TileObl
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Geometry
public import Idealize.ShloMosaic.Lib.Pipeline.ValueKit.Tiles
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body at a point -/

/-- The condition of the body's conditional: the grid's coordinate is zero. -/
abbrev atStart (i : grid0.Coords) : Prop := (Scalar.cmpi .ne (Scalar.extui (Scalar.cmpi .eq (BitVec.ofNat 32 (i 0).val) 0#32)) 0#32) = 1#1

/-- At the first point the body clears its two results, then adds the block's sums to them. -/
theorem body_first (d : Dev nD) (E : Set ℕ) (i : grid0.Coords) (hc : atStart i)
    (arg1 : Memref sig .tc .vmem S1x1x1000 .i32) (harg1 : arg1.IsWhole) (arg2 : Memref sig .tc .vmem S1000x128 .f32) (harg2 : arg2.IsWhole)
    (arg3 : Memref sig .tc .vmem S64x128 .f32) (harg3 : arg3.IsWhole) (arg4 : Memref sig .tc .vmem S64x1 .f32) (harg4 : arg4.IsWhole)
    (g : Vec F S1x1x1000 .i32) (x : Vec F S1000x128 .f32) (Q : PUnit → sProp 𝕄) :
    iprop(owns (d : Thread nD τ) arg1 fullShare g ∗ owns (d : Thread nD τ) arg2 fullShare x
        ∗ (∃ z, owns (d : Thread nD τ) arg3 fullShare z) ∗ (∃ z, owns (d : Thread nD τ) arg4 fullShare z)
        ∗ (iprop(owns (d : Thread nD τ) arg1 fullShare g ∗ owns (d : Thread nD τ) arg2 fullShare x
            ∗ owns (d : Thread nD τ) arg3 fullShare (k0_pay4 g k0_pay1 x) ∗ owns (d : Thread nD τ) arg4 fullShare (k0_pay5 g k0_pay2)) -∗ Q ⟨⟩))
      ⊢ wp frame (wpE (defs₀ (F := F)) 𝒱₀ d none) E (cc0__x_pool_body i arg1 harg1 arg2 harg2 arg3 harg3 arg4 harg4) Q := by
  simp only [cc0__x_pool_body_eq_skeleton]; unfold cc0__x_pool_body_skel
  unfold owns
  iintro ⟨⟨%f0, %hf0, H0⟩, ⟨%f1, %hf1, H1⟩, ⟨%z2, %f2, -, H2⟩, ⟨%z3, %f3, -, H3⟩, Hk⟩
  subst hf0 hf1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_full _ _ _ _ _).trans ?_
    rw [View.readAt_full, View.readAt_full]
    exact congrArg (fun z => k0_pay4 _ z _) (View.readCov_full arg3.view _ _ _ _)
  iexists _; isplitr
  swap; · iexact H3
  ipureintro
  refine (View.read_writes_full _ _ _ _ _).trans ?_
  rw [View.readAt_full]
  exact congrArg (fun z => k0_pay5 _ z) (View.readCov_full arg4.view _ _ _ _)

/-- At a later point it adds the block's sums to what its results hold. -/
theorem body_later (d : Dev nD) (E : Set ℕ) (i : grid0.Coords) (hc : ¬ atStart i)
    (arg1 : Memref sig .tc .vmem S1x1x1000 .i32) (harg1 : arg1.IsWhole) (arg2 : Memref sig .tc .vmem S1000x128 .f32) (harg2 : arg2.IsWhole)
    (arg3 : Memref sig .tc .vmem S64x128 .f32) (harg3 : arg3.IsWhole) (arg4 : Memref sig .tc .vmem S64x1 .f32) (harg4 : arg4.IsWhole)
    (g : Vec F S1x1x1000 .i32) (x : Vec F S1000x128 .f32) (s : Vec F S64x128 .f32) (n : Vec F S64x1 .f32) (Q : PUnit → sProp 𝕄) :
    iprop(owns (d : Thread nD τ) arg1 fullShare g ∗ owns (d : Thread nD τ) arg2 fullShare x
        ∗ owns (d : Thread nD τ) arg3 fullShare s ∗ owns (d : Thread nD τ) arg4 fullShare n
        ∗ (iprop(owns (d : Thread nD τ) arg1 fullShare g ∗ owns (d : Thread nD τ) arg2 fullShare x
            ∗ owns (d : Thread nD τ) arg3 fullShare (k0_pay4 g s x) ∗ owns (d : Thread nD τ) arg4 fullShare (k0_pay5 g n)) -∗ Q ⟨⟩))
      ⊢ wp frame (wpE (defs₀ (F := F)) 𝒱₀ d none) E (cc0__x_pool_body i arg1 harg1 arg2 harg2 arg3 harg3 arg4 harg4) Q := by
  simp only [cc0__x_pool_body_eq_skeleton]; unfold cc0__x_pool_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_full _ _ _ _ _).trans ?_
    rw [View.readAt_full, View.readAt_full, View.readAt_full]
  iexists _; isplitr
  swap; · iexact H3
  ipureintro
  refine (View.read_writes_full _ _ _ _ _).trans ?_
  rw [View.readAt_full, View.readAt_full]

/-- The condition holds at the first point alone. -/
theorem atStart_iff : ∀ t : Fin cfg0.N, atStart (grid0.coords t) ↔ t.val = 0 :=
  (fun t => by
    have ht : t.val < 10 := Nat.lt_of_lt_of_eq t.isLt N_0
    have e0 : (grid0.coords t 0).val = t.val / 1 % 10 := Pipeline.Grid.coords_val t 0 (by decide) rfl
    simp only [atStart, e0]
    word_cmp
   : ∀ t : Fin grid0.N, atStart (grid0.coords t) ↔ t.val = 0)

/-! ## The call's data -/

section Data
variable (B : Dev nD → IVec S10x1x1000 32) (X : Dev nD → FVec F S10000x128 .f32)
  (O0 : Dev nD → FVec F S64x128 .f32) (O1 : Dev nD → FVec F S64x1 .f32)

/-- The block of graph numbers and the block of rows of `x` at a point. -/
def blkB (c : Dev nD) (t : Fin cfg0.N) : Vec F S1x1x1000 .i32 := ((cfg0.win 0).blk t).view.read (Elt F) (B c)
def blkX (c : Dev nD) (t : Fin cfg0.N) : Vec F S1000x128 .f32 := ((cfg0.win 1).blk t).view.read (Elt F) (X c)

/-- The two results after the point numbered `n`. -/
def poolAt (c : Dev nD) : (n : ℕ) → n < cfg0.N → Vec F S64x128 .f32 × Vec F S64x1 .f32
  | 0, h => (k0_pay4 (blkB (F := F) B c ⟨0, h⟩) k0_pay1 (blkX X c ⟨0, h⟩), k0_pay5 (blkB (F := F) B c ⟨0, h⟩) k0_pay2)
  | n + 1, h => (k0_pay4 (blkB (F := F) B c ⟨n + 1, h⟩) (poolAt c n (Nat.lt_of_succ_lt h)).1 (blkX X c ⟨n + 1, h⟩),
      k0_pay5 (blkB (F := F) B c ⟨n + 1, h⟩) (poolAt c n (Nat.lt_of_succ_lt h)).2)

/-- What the pipeline of the pooling works on, and what its body leaves at each point. -/
def datP (c : Dev nD) : Dat τ (Elt F) (HIx 1) ℕ UU ℕ cfg0 c where
  A w := match w with
    | ⟨0, _⟩ => B c
    | ⟨1, _⟩ => X c
    | ⟨2, _⟩ => O0 c
    | ⟨3, _⟩ => O1 c
  after w t := match w with
    | ⟨0, _⟩ => blkB (F := F) B c t
    | ⟨1, _⟩ => blkX X c t
    | ⟨2, _⟩ => (poolAt B X c t.val t.isLt).1
    | ⟨3, _⟩ => (poolAt B X c t.val t.isLt).2
  Φ _ := Pipeline.scopedRest spec0 c
  q _ := fullShare
  owed _ := (K (F := F)).Otc c 0
  recorded _ := {p | (K (F := F)).lev (T c, p.1) p.2 ≤ 8 * SparseCore.Cfg.Blocks.fst (Q := 1) (N := 1) 0}

theorem poolAt_first (c : Dev nD) (t : Fin cfg0.N) (h : t.val = 0) :
    poolAt B X c t.val t.isLt = (k0_pay4 (blkB (F := F) B c t) k0_pay1 (blkX X c t), k0_pay5 (blkB (F := F) B c t) k0_pay2) := by
  obtain ⟨n, hn⟩ := t
  cases n with
  | zero => rfl
  | succ n => exact absurd h (Nat.succ_ne_zero n)

theorem poolAt_later (c : Dev nD) (t : Fin cfg0.N) (h : t.val ≠ 0) :
    poolAt B X c t.val t.isLt
      = (k0_pay4 (blkB (F := F) B c t) (poolAt B X c (t.val - 1) (Nat.lt_of_le_of_lt (Nat.sub_le _ _) t.isLt)).1 (blkX X c t),
          k0_pay5 (blkB (F := F) B c t) (poolAt B X c (t.val - 1) (Nat.lt_of_le_of_lt (Nat.sub_le _ _) t.isLt)).2) := by
  obtain ⟨n, hn⟩ := t
  cases n with
  | zero => exact absurd rfl h
  | succ n => rfl

/-- An operand's staging buffer holds its block. -/
theorem befP_0 (c : Dev nD) (t : Fin cfg0.N) (z) : ((datP B X O0 O1) c).before 0 t z = blkB (F := F) B c t :=
  (((datP B X O0 O1) c).before_in_eq_fetched 0 rfl (fun _ => rfl) (fun _ _ _ => rfl) (fun _ => rfl) t z).trans rfl
theorem befP_1 (c : Dev nD) (t : Fin cfg0.N) (z) : ((datP B X O0 O1) c).before 1 t z = blkX X c t :=
  (((datP B X O0 O1) c).before_in_eq_fetched 1 rfl (fun _ => rfl) (fun _ _ _ => rfl) (fun _ => rfl) t z).trans rfl

/-- A result's staging buffer holds, after the first point, what the point before left. -/
theorem befP_2 (c : Dev nD) (t : Fin cfg0.N) (h : t.val ≠ 0) (z) :
    ((datP B X O0 O1) c).before 2 t z = (poolAt B X c (t.val - 1) (Nat.lt_of_le_of_lt (Nat.sub_le _ _) t.isLt)).1 := by
  have hN : t.val < 10 := lt_of_lt_of_eq t.isLt (show cfg0.N = 10 from N_0)
  rw [Dat.before_out_kept _ 2 rfl t (by omega)
    (Bool.eq_false_iff.mpr fun h' => by have := (flush0_2 _).mp h'; dsimp only at this; omega) (fun _ => rfl) (fun _ _ => rfl)]
  rfl
theorem befP_3 (c : Dev nD) (t : Fin cfg0.N) (h : t.val ≠ 0) (z) :
    ((datP B X O0 O1) c).before 3 t z = (poolAt B X c (t.val - 1) (Nat.lt_of_le_of_lt (Nat.sub_le _ _) t.isLt)).2 := by
  have hN : t.val < 10 := lt_of_lt_of_eq t.isLt (show cfg0.N = 10 from N_0)
  rw [Dat.before_out_kept _ 3 rfl t (by omega)
    (Bool.eq_false_iff.mpr fun h' => by have := (flush0_3 _).mp h'; dsimp only at this; omega) (fun _ => rfl) (fun _ _ => rfl)]
  rfl

/-- The body at a point, from its staging buffers' contents to what it leaves there. -/
theorem body_at (c : Dev nD) (t : Fin cfg0.N) :
    iprop(((datP B X O0 O1) c).Φ t.castSucc ∗ ((datP B X O0 O1) c).owesAt none t.castSucc
      ∗ (∃ z, owns (c : Thread nD τ) (st0_0 t) fullShare (((datP B X O0 O1) c).before 0 t z))
      ∗ (∃ z, owns (c : Thread nD τ) (st0_1 t) fullShare (((datP B X O0 O1) c).before 1 t z))
      ∗ (∃ z, owns (c : Thread nD τ) (st0_2 t) fullShare (((datP B X O0 O1) c).before 2 t z))
      ∗ (∃ z, owns (c : Thread nD τ) (st0_3 t) fullShare (((datP B X O0 O1) c).before 3 t z)))
    ⊢ wp frame (wpE (defs₀ (F := F)) 𝒱₀ c none) Set.univ (bodyAt0 t) (fun _ =>
      iprop(((datP B X O0 O1) c).Φ t.succ ∗ ((datP B X O0 O1) c).owesAt none t.succ
        ∗ owns (c : Thread nD τ) (st0_0 t) fullShare (((datP B X O0 O1) c).after 0 t)
        ∗ owns (c : Thread nD τ) (st0_1 t) fullShare (((datP B X O0 O1) c).after 1 t)
        ∗ owns (c : Thread nD τ) (st0_2 t) fullShare (((datP B X O0 O1) c).after 2 t)
        ∗ owns (c : Thread nD τ) (st0_3 t) fullShare (((datP B X O0 O1) c).after 3 t))) := by
  unfold bodyAt0
  simp only [befP_0, befP_1]
  rw [show ((datP B X O0 O1) c).Φ t.succ = ((datP B X O0 O1) c).Φ t.castSucc from rfl, show ((datP B X O0 O1) c).owesAt none t.succ = ((datP B X O0 O1) c).owesAt none t.castSucc from rfl,
    show ((datP B X O0 O1) c).after 0 t = blkB (F := F) B c t from rfl, show ((datP B X O0 O1) c).after 1 t = blkX X c t from rfl,
    show ((datP B X O0 O1) c).after 2 t = (poolAt B X c t.val t.isLt).1 from rfl, show ((datP B X O0 O1) c).after 3 t = (poolAt B X c t.val t.isLt).2 from rfl]
  by_cases h : t.val = 0
  · rw [poolAt_first B X c t h]
    iintro ⟨HΦ, Ho, ⟨%z0, H0⟩, ⟨%z1, H1⟩, ⟨%z2, H2⟩, ⟨%z3, H3⟩⟩
    iapply (body_first c Set.univ (grid0.coords t) ((atStart_iff t).mpr h) _ _ _ _ _ _ _ _ (blkB (F := F) B c t) (blkX X c t))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [poolAt_later B X c t h]
    simp only [befP_2 B X O0 O1 c t h, befP_3 B X O0 O1 c t h]
    iintro ⟨HΦ, Ho, ⟨%z0, H0⟩, ⟨%z1, H1⟩, ⟨%z2, H2⟩, ⟨%z3, H3⟩⟩
    iapply (body_later c Set.univ (grid0.coords t) (fun h' => h ((atStart_iff t).mp h')) _ _ _ _ _ _ _ _
      (blkB (F := F) B c t) (blkX X c t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline's obligation of the body. -/
theorem obl_pool (c : Dev nD) : BodyObligation (datP (F := F) B X O0 O1 c) (defs₀ (F := F)) 𝒱₀ none Set.univ := fun t => by
  rw [bigSep_W0, bigSep_W0, show defs₀ (F := F) .tc cfg0.body (cfg0.bodyArgs t (cfg0.slots t)) = bodyAt0 t from rfl]
  exact triple_restated (body_at B X O0 O1 c t) rfl .rfl fun _ => .rfl

/-- The last point. -/
abbrev lastP : Fin cfg0.N := ⟨9, by rw [show cfg0.N = 10 from N_0]; decide⟩

/-- The two results after the call. -/
def xsOf (c : Dev nD) : FVec F S64x128 .f32 := (poolAt B X c lastP.val lastP.isLt).1
def xcOf (c : Dev nD) : FVec F S64x1 .f32 := (poolAt B X c lastP.val lastP.isLt).2

theorem endP_0 (c : Dev nD) : ((datP B X O0 O1) c).arrAt 0 cfg0.N = B c := ((datP B X O0 O1) c).arrAt_in 0 rfl _
theorem endP_1 (c : Dev nD) : ((datP B X O0 O1) c).arrAt 1 cfg0.N = X c := ((datP B X O0 O1) c).arrAt_in 1 rfl _
theorem endP_2 (c : Dev nD) : ((datP B X O0 O1) c).arrAt 2 cfg0.N = xsOf B X c :=
  ((datP B X O0 O1) c).arrAt_eq_of_after_last 2 lastP (by decide +kernel) _ fun _ => rfl
theorem endP_3 (c : Dev nD) : ((datP B X O0 O1) c).arrAt 3 cfg0.N = xcOf B X c :=
  ((datP B X O0 O1) c).arrAt_eq_of_after_last 3 lastP (by decide +kernel) _ fun _ => rfl

end Data

end Cert.KernelIdeal.Edge
-- ==== Proof.Comb.lean ====
/- The last TensorCore call: the two poolings and the sizes of the subgraphs combined into the result. What its body leaves, as a
   function of its six operands, and the call's data. -/
module

public import proofs.«01_k».proof.Proof.Pool
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Geometry
public import Idealize.ShloMosaic.Lib.Pipeline.ValueKit.Tiles
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- A row of the pooled edges, and of the counts, as the body loads it. -/
def rowE (ea : Vec F S32x256 .f32) (k : Fin 32) : Vec F S1x256 .f32 :=
  View.ld ea (Rect.unit (s := S32x256) ![k.val, 0] S1x256.size (by
    intro a; match a with
    | 0 => exact k.isLt
    | 1 => exact Nat.le_refl _))
def rowN (ec : Vec F S32x128 .f32) (k : Fin 32) : Vec F S1x128 .f32 :=
  View.ld ec (Rect.unit (s := S32x128) ![k.val, 0] S1x128.size (by
    intro a; match a with
    | 0 => exact k.isLt
    | 1 => exact Nat.le_refl _))

/-- The sum of the thirty-two rows of the pooled edges. -/
def sumE (r : Fin 32 → Vec F S1x256 .f32) : FVec F S1x256 .f32 :=
  k2_pay12 (k2_pay10 (k2_pay8 (k2_pay6 (k2_pay4 (k2_pay2 (r 0) (r 1) (r 2) (r 3) (r 4) (r 5)) (r 6) (r 7) (r 8) (r 9) (r 10) (r 11)) (r 12) (r 13) (r 14) (r 15) (r 16) (r 17)) (r 18) (r 19) (r 20) (r 21) (r 22) (r 23)) (r 24) (r 25) (r 26) (r 27) (r 28) (r 29)) (r 30) (r 31)

/-- The sum of the thirty-two rows of counts, its first half. -/
def sumN (r : Fin 32 → Vec F S1x128 .f32) : FVec F S1x64 .f32 :=
  k2_pay13 (k2_pay11 (k2_pay9 (k2_pay7 (k2_pay5 (k2_pay3 (r 0) (r 1) (r 2) (r 3) (r 4) (r 5)) (r 6) (r 7) (r 8) (r 9) (r 10) (r 11)) (r 12) (r 13) (r 14) (r 15) (r 16) (r 17)) (r 18) (r 19) (r 20) (r 21) (r 22) (r 23)) (r 24) (r 25) (r 26) (r 27) (r 28) (r 29)) (r 30) (r 31)

/-- The part of the result that comes of the edges. -/
def lossE (e : FVec F S1x256 .f32) (n : FVec F S1x64 .f32) (me : Vec F S1x4 .f32) : FVec F S1x64 .f32 :=
  k2_pay17 e n k2_pay14 (iota .tc S64x256 32 [1] iota_S64x256_d1_w32) 4#32 k2_pay15 k2_pay16 0#32 me

/-- The result of the body. -/
def combOf (xs : Vec F S64x128 .f32) (xc : Vec F S64x1 .f32) (ea : Vec F S32x256 .f32) (ec : Vec F S32x128 .f32)
    (mx : Vec F S1x128 .f32) (me : Vec F S1x4 .f32) : FVec F S1x64 .f32 :=
  k2_pay1 (lossE (sumE (rowE ea)) (sumN (rowN ec)) me) (k2_pay18 (sumN (rowN ec))) (k2_pay19 xs) (k2_pay20 xc)
    (Scalar.ofBits .f32 0x3F800000#32) mx

set_option maxHeartbeats 1000000 in
/-- The body reads its six operands and leaves its result. -/
theorem body_comb (d : Dev nD) (E : Set ℕ) (arg0 : Memref sig .tc .vmem S64x128 .f32) (harg0 : arg0.IsWhole)
    (arg1 : Memref sig .tc .vmem S64x1 .f32) (harg1 : arg1.IsWhole) (arg2 : Memref sig .tc .vmem S32x256 .f32) (harg2 : arg2.IsWhole)
    (arg3 : Memref sig .tc .vmem S32x128 .f32) (harg3 : arg3.IsWhole) (arg4 : Memref sig .tc .vmem S1x128 .f32) (harg4 : arg4.IsWhole)
    (arg5 : Memref sig .tc .vmem S1x4 .f32) (harg5 : arg5.IsWhole) (arg6 : Memref sig .tc .vmem S1x64 .f32) (harg6 : arg6.IsWhole)
    (xs : Vec F S64x128 .f32) (xc : Vec F S64x1 .f32) (ea : Vec F S32x256 .f32) (ec : Vec F S32x128 .f32)
    (mx : Vec F S1x128 .f32) (me : Vec F S1x4 .f32) (Q : PUnit → sProp 𝕄) :
    iprop(owns (d : Thread nD τ) arg0 fullShare xs ∗ owns (d : Thread nD τ) arg1 fullShare xc
        ∗ owns (d : Thread nD τ) arg2 fullShare ea ∗ owns (d : Thread nD τ) arg3 fullShare ec
        ∗ owns (d : Thread nD τ) arg4 fullShare mx ∗ owns (d : Thread nD τ) arg5 fullShare me
        ∗ (∃ z, owns (d : Thread nD τ) arg6 fullShare z)
        ∗ (iprop(owns (d : Thread nD τ) arg0 fullShare xs ∗ owns (d : Thread nD τ) arg1 fullShare xc
            ∗ owns (d : Thread nD τ) arg2 fullShare ea ∗ owns (d : Thread nD τ) arg3 fullShare ec
            ∗ owns (d : Thread nD τ) arg4 fullShare mx ∗ owns (d : Thread nD τ) arg5 fullShare me
            ∗ owns (d : Thread nD τ) arg6 fullShare (combOf xs xc ea ec mx me)) -∗ Q ⟨⟩))
      ⊢ wp frame (wpE (defs₀ (F := F)) 𝒱₀ d none) E
          (cc2__combine_body arg0 harg0 arg1 harg1 arg2 harg2 arg3 harg3 arg4 harg4 arg5 harg5 arg6 harg6) Q := by
  simp only [cc2__combine_body_eq_skeleton]; unfold cc2__combine_body_skel
  simp only [k2_part1_eq_skeleton, k2_part2_eq_skeleton, k2_part3_eq_skeleton, k2_part4_eq_skeleton, k2_part5_eq_skeleton,
    k2_part6_eq_skeleton, k2_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%z6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_full _ _ _ _ _).trans ?_
  rw [View.readAt_full]
  have e0 := View.readAt_full arg0.view f0 inb_S64x128_S64x128_0_0
  have e1 := View.readAt_full arg1.view f1 inb_S64x1_S64x1_0_0
  have e5 := View.readAt_full arg5.view f5 inb_S1x4_S1x4_0_0
  unfold combOf lossE sumE sumN
  rw [← e0, ← e1, ← e5]
  rfl

/-! ## The call's data -/

section Data
variable (xs : Dev nD → FVec F S64x128 .f32) (xc : Dev nD → FVec F S64x1 .f32) (ea : Dev nD → FVec F S32x256 .f32)
  (ec : Dev nD → FVec F S32x128 .f32) (mx : Dev nD → FVec F S1x128 .f32) (me : Dev nD → FVec F S1x4 .f32) (O : Dev nD → FVec F S1x64 .f32)

/-- What the pipeline of the last call works on, and what its body leaves. -/
def datC (c : Dev nD) : Dat τ (Elt F) (HIx 1) ℕ UU ℕ cfg2 c where
  A w := match w with
    | ⟨0, _⟩ => xs c
    | ⟨1, _⟩ => xc c
    | ⟨2, _⟩ => ea c
    | ⟨3, _⟩ => ec c
    | ⟨4, _⟩ => mx c
    | ⟨5, _⟩ => me c
    | ⟨6, _⟩ => O c
  after w t := match w with
    | ⟨0, _⟩ => xs c
    | ⟨1, _⟩ => xc c
    | ⟨2, _⟩ => ea c
    | ⟨3, _⟩ => ec c
    | ⟨4, _⟩ => mx c
    | ⟨5, _⟩ => me c
    | ⟨6, _⟩ => combOf (xs c) (xc c) (ea c) (ec c) (mx c) (me c)
  Φ _ := Pipeline.scopedRest spec2 c
  q _ := fullShare
  owed _ := (K (F := F)).Otc c 1
  recorded _ := {p | (K (F := F)).lev (T c, p.1) p.2 ≤ 8 * SparseCore.Cfg.Blocks.fst (Q := 1) (N := 1) 1}

/-- The only point. -/
theorem pt2 (t : Fin cfg2.N) : t = ⟨0, by rw [show cfg2.N = 1 from N_2]; decide⟩ := by
  have := lt_of_lt_of_eq t.isLt (show cfg2.N = 1 from N_2)
  exact Fin.ext (by simp only; omega)

/-- An operand's block at the one point is the operand, and its staging buffer holds it. -/
theorem blkW_0 (c : Dev nD) (t : Fin cfg2.N) : ((cfg2.win 0).blk t).view.read (Elt F) (xs c) = xs c := by
  funext y; refine congrArg (xs c) ?_
  have e := (by decide +kernel : ∀ t : Fin grid2.N, win2_0.index t = ![0, 0]) t
  blk_ext [e]
theorem befC_0 (c : Dev nD) (t : Fin cfg2.N) (z) : ((datC xs xc ea ec mx me O) c).before 0 t z = xs c :=
  (((datC xs xc ea ec mx me O) c).before_in_eq_fetched 0 rfl (fun _ => rfl) (fun _ _ _ => rfl) (fun t => (blkW_0 xs c t).symm) t z).trans (blkW_0 xs c t)
theorem blkW_1 (c : Dev nD) (t : Fin cfg2.N) : ((cfg2.win 1).blk t).view.read (Elt F) (xc c) = xc c := by
  funext y; refine congrArg (xc c) ?_
  have e := (by decide +kernel : ∀ t : Fin grid2.N, win2_1.index t = ![0, 0]) t
  blk_ext [e]
theorem befC_1 (c : Dev nD) (t : Fin cfg2.N) (z) : ((datC xs xc ea ec mx me O) c).before 1 t z = xc c :=
  (((datC xs xc ea ec mx me O) c).before_in_eq_fetched 1 rfl (fun _ => rfl) (fun _ _ _ => rfl) (fun t => (blkW_1 xc c t).symm) t z).trans (blkW_1 xc c t)
theorem blkW_2 (c : Dev nD) (t : Fin cfg2.N) : ((cfg2.win 2).blk t).view.read (Elt F) (ea c) = ea c := by
  funext y; refine congrArg (ea c) ?_
  have e := (by decide +kernel : ∀ t : Fin grid2.N, win2_2.index t = ![0, 0]) t
  blk_ext [e]
theorem befC_2 (c : Dev nD) (t : Fin cfg2.N) (z) : ((datC xs xc ea ec mx me O) c).before 2 t z = ea c :=
  (((datC xs xc ea ec mx me O) c).before_in_eq_fetched 2 rfl (fun _ => rfl) (fun _ _ _ => rfl) (fun t => (blkW_2 ea c t).symm) t z).trans (blkW_2 ea c t)
theorem blkW_3 (c : Dev nD) (t : Fin cfg2.N) : ((cfg2.win 3).blk t).view.read (Elt F) (ec c) = ec c := by
  funext y; refine congrArg (ec c) ?_
  have e := (by decide +kernel : ∀ t : Fin grid2.N, win2_3.index t = ![0, 0]) t
  blk_ext [e]
theorem befC_3 (c : Dev nD) (t : Fin cfg2.N) (z) : ((datC xs xc ea ec mx me O) c).before 3 t z = ec c :=
  (((datC xs xc ea ec mx me O) c).before_in_eq_fetched 3 rfl (fun _ => rfl) (fun _ _ _ => rfl) (fun t => (blkW_3 ec c t).symm) t z).trans (blkW_3 ec c t)
theorem blkW_4 (c : Dev nD) (t : Fin cfg2.N) : ((cfg2.win 4).blk t).view.read (Elt F) (mx c) = mx c := by
  funext y; refine congrArg (mx c) ?_
  have e := (by decide +kernel : ∀ t : Fin grid2.N, win2_4.index t = ![0, 0]) t
  blk_ext [e]
theorem befC_4 (c : Dev nD) (t : Fin cfg2.N) (z) : ((datC xs xc ea ec mx me O) c).before 4 t z = mx c :=
  (((datC xs xc ea ec mx me O) c).before_in_eq_fetched 4 rfl (fun _ => rfl) (fun _ _ _ => rfl) (fun t => (blkW_4 mx c t).symm) t z).trans (blkW_4 mx c t)
theorem blkW_5 (c : Dev nD) (t : Fin cfg2.N) : ((cfg2.win 5).blk t).view.read (Elt F) (me c) = me c := by
  funext y; refine congrArg (me c) ?_
  have e := (by decide +kernel : ∀ t : Fin grid2.N, win2_5.index t = ![0, 0]) t
  blk_ext [e]
theorem befC_5 (c : Dev nD) (t : Fin cfg2.N) (z) : ((datC xs xc ea ec mx me O) c).before 5 t z = me c :=
  (((datC xs xc ea ec mx me O) c).before_in_eq_fetched 5 rfl (fun _ => rfl) (fun _ _ _ => rfl) (fun t => (blkW_5 me c t).symm) t z).trans (blkW_5 me c t)

/-- The body at the point, from its staging buffers' contents to what it leaves there. -/
theorem comb_at (c : Dev nD) (t : Fin cfg2.N) :
    iprop(((datC xs xc ea ec mx me O) c).Φ t.castSucc ∗ ((datC xs xc ea ec mx me O) c).owesAt none t.castSucc
      ∗ (∃ z, owns (c : Thread nD τ) (st2_0 t) fullShare (((datC xs xc ea ec mx me O) c).before 0 t z))
      ∗ (∃ z, owns (c : Thread nD τ) (st2_1 t) fullShare (((datC xs xc ea ec mx me O) c).before 1 t z))
      ∗ (∃ z, owns (c : Thread nD τ) (st2_2 t) fullShare (((datC xs xc ea ec mx me O) c).before 2 t z))
      ∗ (∃ z, owns (c : Thread nD τ) (st2_3 t) fullShare (((datC xs xc ea ec mx me O) c).before 3 t z))
      ∗ (∃ z, owns (c : Thread nD τ) (st2_4 t) fullShare (((datC xs xc ea ec mx me O) c).before 4 t z))
      ∗ (∃ z, owns (c : Thread nD τ) (st2_5 t) fullShare (((datC xs xc ea ec mx me O) c).before 5 t z))
      ∗ (∃ z, owns (c : Thread nD τ) (st2_6 t) fullShare (((datC xs xc ea ec mx me O) c).before 6 t z)))
    ⊢ wp frame (wpE (defs₀ (F := F)) 𝒱₀ c none) Set.univ (bodyAt2 t) (fun _ =>
      iprop(((datC xs xc ea ec mx me O) c).Φ t.succ ∗ ((datC xs xc ea ec mx me O) c).owesAt none t.succ
        ∗ owns (c : Thread nD τ) (st2_0 t) fullShare (((datC xs xc ea ec mx me O) c).after 0 t)
        ∗ owns (c : Thread nD τ) (st2_1 t) fullShare (((datC xs xc ea ec mx me O) c).after 1 t)
        ∗ owns (c : Thread nD τ) (st2_2 t) fullShare (((datC xs xc ea ec mx me O) c).after 2 t)
        ∗ owns (c : Thread nD τ) (st2_3 t) fullShare (((datC xs xc ea ec mx me O) c).after 3 t)
        ∗ owns (c : Thread nD τ) (st2_4 t) fullShare (((datC xs xc ea ec mx me O) c).after 4 t)
        ∗ owns (c : Thread nD τ) (st2_5 t) fullShare (((datC xs xc ea ec mx me O) c).after 5 t)
        ∗ owns (c : Thread nD τ) (st2_6 t) fullShare (((datC xs xc ea ec mx me O) c).after 6 t))) := by
  unfold bodyAt2
  simp only [befC_0, befC_1, befC_2, befC_3, befC_4, befC_5]
  rw [show ((datC xs xc ea ec mx me O) c).Φ t.succ = ((datC xs xc ea ec mx me O) c).Φ t.castSucc from rfl, show ((datC xs xc ea ec mx me O) c).owesAt none t.succ = ((datC xs xc ea ec mx me O) c).owesAt none t.castSucc from rfl,
    show ((datC xs xc ea ec mx me O) c).after 0 t = xs c from rfl,
    show ((datC xs xc ea ec mx me O) c).after 1 t = xc c from rfl,
    show ((datC xs xc ea ec mx me O) c).after 2 t = ea c from rfl,
    show ((datC xs xc ea ec mx me O) c).after 3 t = ec c from rfl,
    show ((datC xs xc ea ec mx me O) c).after 4 t = mx c from rfl,
    show ((datC xs xc ea ec mx me O) c).after 5 t = me c from rfl,
    show ((datC xs xc ea ec mx me O) c).after 6 t = combOf (xs c) (xc c) (ea c) (ec c) (mx c) (me c) from rfl]
  iintro ⟨HΦ, Ho, ⟨%z0, H0⟩, ⟨%z1, H1⟩, ⟨%z2, H2⟩, ⟨%z3, H3⟩, ⟨%z4, H4⟩, ⟨%z5, H5⟩, ⟨%z6, H6⟩⟩
  iapply (body_comb c Set.univ _ _ _ _ _ _ _ _ _ _ _ _ _ _ (xs c) (xc c) (ea c) (ec c) (mx c) (me c))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation of the body. -/
theorem obl_comb (c : Dev nD) : BodyObligation (datC (F := F) xs xc ea ec mx me O c) (defs₀ (F := F)) 𝒱₀ none Set.univ := fun t => by
  rw [bigSep_W2, bigSep_W2, show defs₀ (F := F) .tc cfg2.body (cfg2.bodyArgs t (cfg2.slots t)) = bodyAt2 t from rfl]
  exact triple_restated (comb_at xs xc ea ec mx me O c t) rfl .rfl fun _ => .rfl

/-- What the arrays hold after the call. -/
theorem endC_0 (c : Dev nD) : ((datC xs xc ea ec mx me O) c).arrAt 0 cfg2.N = xs c := ((datC xs xc ea ec mx me O) c).arrAt_in 0 rfl _
theorem endC_1 (c : Dev nD) : ((datC xs xc ea ec mx me O) c).arrAt 1 cfg2.N = xc c := ((datC xs xc ea ec mx me O) c).arrAt_in 1 rfl _
theorem endC_2 (c : Dev nD) : ((datC xs xc ea ec mx me O) c).arrAt 2 cfg2.N = ea c := ((datC xs xc ea ec mx me O) c).arrAt_in 2 rfl _
theorem endC_3 (c : Dev nD) : ((datC xs xc ea ec mx me O) c).arrAt 3 cfg2.N = ec c := ((datC xs xc ea ec mx me O) c).arrAt_in 3 rfl _
theorem endC_4 (c : Dev nD) : ((datC xs xc ea ec mx me O) c).arrAt 4 cfg2.N = mx c := ((datC xs xc ea ec mx me O) c).arrAt_in 4 rfl _
theorem endC_5 (c : Dev nD) : ((datC xs xc ea ec mx me O) c).arrAt 5 cfg2.N = me c := ((datC xs xc ea ec mx me O) c).arrAt_in 5 rfl _
theorem endC_6 (c : Dev nD) : ((datC xs xc ea ec mx me O) c).arrAt 6 cfg2.N = combOf (xs c) (xc c) (ea c) (ec c) (mx c) (me c) :=
  ((datC xs xc ea ec mx me O) c).arrAt_eq_of_after_last 6 ⟨0, by rw [show cfg2.N = 1 from N_2]; decide⟩ (by decide +kernel) _ fun j => by
    rw [show (cfg2.win 6).arr.view.emb j = j from rfl]; rfl

end Data

end Cert.KernelIdeal.Edge
-- ==== Proof.Regs.lean ====
/- The two TensorCore calls as steps of the TensorCore's program: what each is entered from and left with. -/
module

public import proofs.«01_k».proof.Proof.Comb
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit.Geometry
public import Idealize.ShloMosaic.Lib.Pipeline.ValueKit.Tiles
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the TensorCore owes -/

/-- What the TensorCore owes before SparseCore call `n`, as it carries it across a TensorCore call. -/
def tcOwes (c : Dev nD) (n : ℕ) : sProp 𝕄 :=
  iprop(∃ W, ⌜(K (F := F)).WBelow (SparseCore.T c) W (8 * SparseCore.Cfg.Blocks.fst (Q := 1) (N := 1) n)⌝ ∗ owes (SparseCore.T c) ((K (F := F)).Otc c n) W)

/-- It owes nothing at a pipeline's index. -/
theorem Otc_none (c : Dev nD) (n : ℕ) (g : GSem nD τ sig) : (K (F := F)).Otc (N := 1) c n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun k _ => by rw [tallyAt_apply, if_neg (by simp)]
  · rfl

/-- The debts go into a pipeline whose bound is the level of the call, -/
theorem owes_enter (c : Dev nD) (n : ℕ) (R W' : Set (SemLoc sig × HIx 1))
    (hR : ∀ p, (K (F := F)).lev (SparseCore.T c, p.1) p.2 ≤ 8 * SparseCore.Cfg.Blocks.fst (Q := 1) (N := 1) n → p ∈ R) :
    (tcOwes c n : sProp 𝕄) ⊢ Pipeline.owesWithin c ((K (F := F)).Otc c n) (R ∪ W') := by
  unfold tcOwes Pipeline.owesWithin
  iintro ⟨%W, %hW, HO⟩
  iexists W; isplitr
  · ipureintro; exact fun p hp => Or.inl (hR p (hW p hp))
  iexact HO

/-- and come back out of it: the pipeline's own waits are at the lowest level. -/
theorem owes_leave (c : Dev nD) (n : ℕ) (R W' : Set (SemLoc sig × HIx 1))
    (hR : ∀ p ∈ R, (K (F := F)).lev (SparseCore.T c, p.1) p.2 ≤ 8 * SparseCore.Cfg.Blocks.fst (Q := 1) (N := 1) n)
    (hW' : ∀ p ∈ W', p.2 = none) :
    (Pipeline.owesWithin c ((K (F := F)).Otc c n) (R ∪ W') : sProp 𝕄) ⊢ tcOwes c n := by
  unfold tcOwes Pipeline.owesWithin
  iintro ⟨%W, %hW, HO⟩
  iexists W; isplitr
  · ipureintro
    intro p hp
    rcases hW (Finset.mem_coe.mpr hp) with h | h
    · exact hR p h
    · rw [hW' p h, SparseCore.Cfg.lev_none]; exact Nat.zero_le _
  iexact HO

/-! ## The two calls -/

section Calls
variable (B : Dev nD → IVec S10x1x1000 32) (X : Dev nD → FVec F S10000x128 .f32)
  (O0 : Dev nD → FVec F S64x128 .f32) (O1 : Dev nD → FVec F S64x1 .f32)
  (xs : Dev nD → FVec F S64x128 .f32) (xc : Dev nD → FVec F S64x1 .f32) (ea : Dev nD → FVec F S32x256 .f32)
  (ec : Dev nD → FVec F S32x128 .f32) (mx : Dev nD → FVec F S1x128 .f32) (me : Dev nD → FVec F S1x4 .f32) (O : Dev nD → FVec F S1x64 .f32)

/-- No pipeline has a prefetched table. -/
abbrev adm : (p : Fin 2) → (pcfgs (F := F) p).Adm := fun p => (cfgs p).toPCfg_adm

/-- The data of both pipelines. -/
def pdats : (p : Fin 2) → (c : Dev nD) → Dat τ (Elt F) (HIx 1) ℕ UU ℕ (Pipeline.pin (pcfgs (F := F)) adm p) c
  | ⟨0, _⟩ => fun c => datP B X O0 O1 c
  | ⟨1, _⟩ => fun c => datC xs xc ea ec mx me O c

/-- The arrays of call 0, one by one. -/
theorem arrs_pool (c : Dev nD) (f : (w : Fin 4) → Buf (Elt F) ((cfg0.win w).arr.view.loc (c.tc : Thread nD τ))) :
    ((pdats B X O0 O1 xs xc ea ec mx me O) 0 c).arrays f
      = (iprop(((SparseCore.T c).loc main_v0 ↦{fullShare} f 0)
          ∗ ((SparseCore.T c).loc main_arg0 ↦{fullShare} f 1)
          ∗ ((SparseCore.T c).loc main_v1_0 ↦{fullShare} f 2)
          ∗ ((SparseCore.T c).loc main_v1_1 ↦{fullShare} f 3)) : sProp 𝕄) := by
  rw [Pipeline.arrays_eq (Pipeline.pin (pcfgs (F := F)) adm) (pdats B X O0 O1 xs xc ea ec mx me O) 0 c launch0.arr_whole (fun w => ((pdats B X O0 O1 xs xc ea ec mx me O) 0 c).share_full (fun _ => rfl) w) f]
  exact bigSep_W0 _

/-- The arrays of call 1, one by one. -/
theorem arrs_comb (c : Dev nD) (f : (w : Fin 7) → Buf (Elt F) ((cfg2.win w).arr.view.loc (c.tc : Thread nD τ))) :
    ((pdats B X O0 O1 xs xc ea ec mx me O) 1 c).arrays f
      = (iprop(((SparseCore.T c).loc main_v1_0 ↦{fullShare} f 0)
          ∗ ((SparseCore.T c).loc main_v1_1 ↦{fullShare} f 1)
          ∗ ((SparseCore.T c).loc main_v4_0 ↦{fullShare} f 2)
          ∗ ((SparseCore.T c).loc main_v4_1 ↦{fullShare} f 3)
          ∗ ((SparseCore.T c).loc main_arg5 ↦{fullShare} f 4)
          ∗ ((SparseCore.T c).loc main_arg6 ↦{fullShare} f 5)
          ∗ ((SparseCore.T c).loc main_v5 ↦{fullShare} f 6)) : sProp 𝕄) := by
  rw [Pipeline.arrays_eq (Pipeline.pin (pcfgs (F := F)) adm) (pdats B X O0 O1 xs xc ea ec mx me O) 1 c launch2.arr_whole (fun w => ((pdats B X O0 O1 xs xc ea ec mx me O) 1 c).share_full (fun _ => rfl) w) f]
  exact bigSep_W2 _

set_option backward.isDefEq.respectTransparency.types false in
/-- The pooling of `x`. -/
def regP : Pipeline.RegionSeg (pcfgs (F := F)) adm (pdats B X O0 O1 xs xc ea ec mx me O) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obl_pool B X O0 O1 c).loose
  hwaits c := Pipeline.cellsWaits_intro _ _ _ _ c fun w s t => (K (F := F)).mayWait_none _ (Otc_none c 0)
  pre c := iprop(tcOwes c 0 ∗ ((SparseCore.T c).loc main_v0 ↦{fullShare} B c)
      ∗ ((SparseCore.T c).loc main_arg0 ↦{fullShare} X c)
      ∗ ((SparseCore.T c).loc main_v1_0 ↦{fullShare} O0 c)
      ∗ ((SparseCore.T c).loc main_v1_1 ↦{fullShare} O1 c))
  post c := iprop(tcOwes c 0 ∗ ((SparseCore.T c).loc main_v0 ↦{fullShare} B c)
      ∗ ((SparseCore.T c).loc main_arg0 ↦{fullShare} X c)
      ∗ ((SparseCore.T c).loc main_v1_0 ↦{fullShare} xsOf B X c)
      ∗ ((SparseCore.T c).loc main_v1_1 ↦{fullShare} xcOf B X c))
  X c := iprop(emp)
  Y c := iprop(emp)
  Z c := iprop(emp)
  hentry c := by
    rw [Pipeline.ownSems0_none]
    rw [arrs_pool]
    iintro ⟨⟨HO, H0, H1, H2, H3⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · iapply (owes_enter c 0 _ _ fun _ h => h); iexact HO
    isplitr <;> iempintro
  hin c := by
    rw [show ((pdats B X O0 O1 xs xc ea ec mx me O) 0 c).Φ 0 = Pipeline.scopedRest spec0 c from rfl]
    iintro ⟨-, -, Hr⟩
    iexact Hr
  hout c := by
    rw [Pipeline.ownSems0_none, show ((pdats B X O0 O1 xs xc ea ec mx me O) 0 c).Φ (Fin.last _) = Pipeline.scopedRest spec0 c from rfl]
    iintro Hr
    isplitr; · iempintro
    isplitr; · iempintro
    iexact Hr
  hexit c := by
    rw [arrs_pool]
    rw [show ((pdats B X O0 O1 xs xc ea ec mx me O) 0 c).arrAt 0 (Pipeline.pin (pcfgs (F := F)) adm 0).N = _ from endP_0 B X O0 O1 c, show ((pdats B X O0 O1 xs xc ea ec mx me O) 0 c).arrAt 1 (Pipeline.pin (pcfgs (F := F)) adm 0).N = _ from endP_1 B X O0 O1 c, show ((pdats B X O0 O1 xs xc ea ec mx me O) 0 c).arrAt 2 (Pipeline.pin (pcfgs (F := F)) adm 0).N = _ from endP_2 B X O0 O1 c, show ((pdats B X O0 O1 xs xc ea ec mx me O) 0 c).arrAt 3 (Pipeline.pin (pcfgs (F := F)) adm 0).N = _ from endP_3 B X O0 O1 c]
    iintro ⟨⟨H0, H1, H2, H3⟩, HO, -, -⟩
    imodintro
    isplitl [HO]
    · iapply (owes_leave c 0 ((datP (F := F) B X O0 O1 c).recorded (Fin.last _)) (cfg0.waitPairs none) (fun _ h => h) (by rintro _ ⟨w, s, rfl⟩; rfl)); iexact HO
    isplitl [H0]; · iexact H0
    isplitl [H1]; · iexact H1
    isplitl [H2]; · iexact H2
    iexact H3

set_option backward.isDefEq.respectTransparency.types false in
/-- The combination. -/
def regC : Pipeline.RegionSeg (pcfgs (F := F)) adm (pdats B X O0 O1 xs xc ea ec mx me O) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obl_comb xs xc ea ec mx me O c).loose
  hwaits c := Pipeline.cellsWaits_intro _ _ _ _ c fun w s t => (K (F := F)).mayWait_none _ (Otc_none c 1)
  pre c := iprop(tcOwes c 1 ∗ ((SparseCore.T c).loc main_v1_0 ↦{fullShare} xs c)
      ∗ ((SparseCore.T c).loc main_v1_1 ↦{fullShare} xc c)
      ∗ ((SparseCore.T c).loc main_v4_0 ↦{fullShare} ea c)
      ∗ ((SparseCore.T c).loc main_v4_1 ↦{fullShare} ec c)
      ∗ ((SparseCore.T c).loc main_arg5 ↦{fullShare} mx c)
      ∗ ((SparseCore.T c).loc main_arg6 ↦{fullShare} me c)
      ∗ ((SparseCore.T c).loc main_v5 ↦{fullShare} O c))
  post c := iprop(tcOwes c 1 ∗ ((SparseCore.T c).loc main_v1_0 ↦{fullShare} xs c)
      ∗ ((SparseCore.T c).loc main_v1_1 ↦{fullShare} xc c)
      ∗ ((SparseCore.T c).loc main_v4_0 ↦{fullShare} ea c)
      ∗ ((SparseCore.T c).loc main_v4_1 ↦{fullShare} ec c)
      ∗ ((SparseCore.T c).loc main_arg5 ↦{fullShare} mx c)
      ∗ ((SparseCore.T c).loc main_arg6 ↦{fullShare} me c)
      ∗ ((SparseCore.T c).loc main_v5 ↦{fullShare} combOf (xs c) (xc c) (ea c) (ec c) (mx c) (me c)))
  X c := iprop(emp)
  Y c := iprop(emp)
  Z c := iprop(emp)
  hentry c := by
    rw [Pipeline.ownSems0_none]
    rw [arrs_comb]
    iintro ⟨⟨HO, H0, H1, H2, H3, H4, H5, H6⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · iapply (owes_enter c 1 _ _ fun _ h => h); iexact HO
    isplitr <;> iempintro
  hin c := by
    rw [show ((pdats B X O0 O1 xs xc ea ec mx me O) 1 c).Φ 0 = Pipeline.scopedRest spec2 c from rfl]
    iintro ⟨-, -, Hr⟩
    iexact Hr
  hout c := by
    rw [Pipeline.ownSems0_none, show ((pdats B X O0 O1 xs xc ea ec mx me O) 1 c).Φ (Fin.last _) = Pipeline.scopedRest spec2 c from rfl]
    iintro Hr
    isplitr; · iempintro
    isplitr; · iempintro
    iexact Hr
  hexit c := by
    rw [arrs_comb]
    rw [show ((pdats B X O0 O1 xs xc ea ec mx me O) 1 c).arrAt 0 (Pipeline.pin (pcfgs (F := F)) adm 1).N = _ from endC_0 xs xc ea ec mx me O c, show ((pdats B X O0 O1 xs xc ea ec mx me O) 1 c).arrAt 1 (Pipeline.pin (pcfgs (F := F)) adm 1).N = _ from endC_1 xs xc ea ec mx me O c, show ((pdats B X O0 O1 xs xc ea ec mx me O) 1 c).arrAt 2 (Pipeline.pin (pcfgs (F := F)) adm 1).N = _ from endC_2 xs xc ea ec mx me O c, show ((pdats B X O0 O1 xs xc ea ec mx me O) 1 c).arrAt 3 (Pipeline.pin (pcfgs (F := F)) adm 1).N = _ from endC_3 xs xc ea ec mx me O c, show ((pdats B X O0 O1 xs xc ea ec mx me O) 1 c).arrAt 4 (Pipeline.pin (pcfgs (F := F)) adm 1).N = _ from endC_4 xs xc ea ec mx me O c, show ((pdats B X O0 O1 xs xc ea ec mx me O) 1 c).arrAt 5 (Pipeline.pin (pcfgs (F := F)) adm 1).N = _ from endC_5 xs xc ea ec mx me O c, show ((pdats B X O0 O1 xs xc ea ec mx me O) 1 c).arrAt 6 (Pipeline.pin (pcfgs (F := F)) adm 1).N = _ from endC_6 xs xc ea ec mx me O c]
    iintro ⟨⟨H0, H1, H2, H3, H4, H5, H6⟩, HO, -, -⟩
    imodintro
    isplitl [HO]
    · iapply (owes_leave c 1 ((datC (F := F) xs xc ea ec mx me O c).recorded (Fin.last _)) (cfg2.waitPairs none) (fun _ h => h) (by rintro _ ⟨w, s, rfl⟩; rfl)); iexact HO
    isplitl [H0]; · iexact H0
    isplitl [H1]; · iexact H1
    isplitl [H2]; · iexact H2
    isplitl [H3]; · iexact H3
    isplitl [H4]; · iexact H4
    isplitl [H5]; · iexact H5
    iexact H6

end Calls

end Cert.KernelIdeal.Edge
-- ==== Proof.Main.lean ====
/- The TensorCore's program and the whole run: the rows and shares dealt to the tiles and taken back, the two TensorCore calls
   entered, the copies of the host, and what is read off the last memory. -/
module

public import proofs.«01_k».proof.Proof.Regs

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat Cfg Window BodyObligation cellOf)

variable {F : FTy → Type} [FloatOps F]

local notation "𝕄" => MT nD τ sig (HIx 1) (Elt F) ℕ UU ℕ

/-! ## The ghost state at the launch -/

theorem pin_inj : Function.Injective (Pipeline.cellOf (nD := nD) (τ := τ) (Pipeline.pin (pcfgs (F := F)) adm)) := cellOf_inj

/-- The handshakes' rounds and the pipelines' rounds; no copy is counted yet. -/
def u₀ : UU := (initOf (K (F := F)).hsCells (K (F := F)).hsToks,
  (initOf (Pipeline.cells (nD := nD) (τ := τ) (Pipeline.pin (pcfgs (F := F)) adm) pin_inj) (Pipeline.launchToks (nD := nD) (τ := τ) (Pipeline.pin (pcfgs (F := F)) adm) pin_inj), 1))

theorem ghost_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- A pipeline's ghost state on a device. -/
abbrev pipeG (p : Fin 2) (d : Dev nD) : sProp 𝕄 :=
  iprop(Pipeline.cellsGhost (Pipeline.pin (pcfgs (F := F)) adm) EP p d ∗ Pipeline.toksInit (Pipeline.pin (pcfgs (F := F)) adm) EP p d)

/-- What a device's TensorCore is dealt beside its memory. -/
def Gd (d : Dev nD) : sProp 𝕄 := iprop(pipeG 0 d ∗ pipeG 1 d)

theorem two_eq (Φ : Fin 2 → sProp 𝕄) : bigSep Finset.univ Φ = iprop(Φ 0 ∗ Φ 1) := by
  rw [Idealize.SL.BI.bigSep_univ_eq_bigSepL [0, 1] (by decide) (by decide) _]; rfl

theorem emp_all {I : Type} (s : Finset I) : (bigSep s fun _ => iprop(emp)) = (iprop(emp) : sProp 𝕄) := bigSep_emp_const s

variable (A : Dev nD → FVec F S1280000 .f32) (G : Dev nD → IVec S320000 32)

theorem hu₀ : (ownU (u₀ (F := F)) : sProp 𝕄)
    ⊢ |={Set.univ}=> iprop(BI.own (EH (initOf (K (F := F)).hsCells (K (F := F)).hsToks)) ∗ (bigSep Finset.univ (Gd (F := F)))
        ∗ bigSep Finset.univ fun thr : Thread nD τ => bigSep Finset.univ fun q : Fin 1 => (P A G).x q thr) := by
  unfold u₀
  iintro Hu
  ihave H := (ghost_split _ _) $$ Hu
  icases H with ⟨HH, HP⟩
  imod (Pipeline.fund_ghost (Pipeline.pin (pcfgs (F := F)) adm) EP pin_inj) $$ HP with ⟨Hc, Ht⟩
  imodintro
  isplitl [HH]; · iexact HH
  isplitl [Hc Ht]
  · unfold Gd
    rw [BI.bigSep_congr (Φ := fun d => iprop(pipeG (F := F) 0 d ∗ pipeG 1 d)) (fun d _ => (two_eq (fun p => pipeG (F := F) p d)).symm)]
    simp only [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => emp_all _, emp_all]]
  iempintro

/-! ## The tiles' rows -/

variable (d : Dev nD)

theorem row_A (i : grid1.Coords) (y : S32x256.Idx) : y ∈ (outA i).view.set ↔ (y 0).val = wid i := by
  have e : ∀ x a, ((outA i).view.emb x a).val = k1_off128 i a + 1 * ((Shape.reshapeEquiv (s := S1x256) (s' := S256) (by decide) x) a).val := fun x a => rfl
  have e0 : ∀ x, ((outA i).view.emb x 0).val = wid i := fun x => by
    have h := e x 0
    rw [Shape.reshapeEquiv_cons_one] at h
    rw [h, k1_off128_eq]; show 2 * (i 1).val + (i 0).val + 1 * 0 = _; simp only [wid]; omega
  have e1 : ∀ x, ((outA i).view.emb x 1).val = (x 0).val := fun x => by
    have h := e x 1
    rw [Shape.reshapeEquiv_cons_one] at h
    rw [h, k1_off128_eq]; show 0 + 1 * (x 0).val = _; omega
  constructor
  · intro hy
    obtain ⟨x, -, rfl⟩ := Finset.mem_map.mp hy
    exact e0 x
  · intro hy
    refine Finset.mem_map.mpr ⟨fun a => ⟨(y 1).val, by fin_cases a; exact (y 1).isLt⟩, Finset.mem_univ _, ?_⟩
    funext a
    fin_cases a
    · exact Fin.ext ((e0 _).trans hy.symm)
    · exact Fin.ext (e1 _)

theorem row_C (i : grid1.Coords) (y : S32x128.Idx) : y ∈ (outC i).view.set ↔ (y 0).val = wid i := by
  have e : ∀ x a, ((outC i).view.emb x a).val = k1_off129 i a + 1 * ((Shape.reshapeEquiv (s := S1x128) (s' := S128) (by decide) x) a).val := fun x a => rfl
  have e0 : ∀ x, ((outC i).view.emb x 0).val = wid i := fun x => by
    have h := e x 0
    rw [Shape.reshapeEquiv_cons_one] at h
    rw [h, k1_off129_eq]; show 2 * (i 1).val + (i 0).val + 1 * 0 = _; simp only [wid]; omega
  have e1 : ∀ x, ((outC i).view.emb x 1).val = (x 0).val := fun x => by
    have h := e x 1
    rw [Shape.reshapeEquiv_cons_one] at h
    rw [h, k1_off129_eq]; show 0 + 1 * (x 0).val = _; omega
  constructor
  · intro hy
    obtain ⟨x, -, rfl⟩ := Finset.mem_map.mp hy
    exact e0 x
  · intro hy
    refine Finset.mem_map.mpr ⟨fun a => ⟨(y 1).val, by fin_cases a; exact (y 1).isLt⟩, Finset.mem_univ _, ?_⟩
    funext a
    fin_cases a
    · exact Fin.ext ((e0 _).trans hy.symm)
    · exact Fin.ext (e1 _)

theorem wid_cw (c : Fin 2) (s : Fin 16) : wid (cw c s) = 2 * s.val + c.val := by
  simp only [wid]; rfl

theorem wid_cover (n : Fin 32) : ∃ (c : Fin 2) (s : Fin 16), n.val = wid (cw c s) :=
  ⟨⟨n.val % 2, Nat.mod_lt _ (by decide)⟩, ⟨n.val / 2, by omega⟩, by rw [wid_cw]; show n.val = 2 * (n.val / 2) + n.val % 2; omega⟩

theorem wid_inj (c c' : Fin 2) (s s' : Fin 16) (h : wid (cw c s) = wid (cw c' s')) : c = c' ∧ s = s' := by
  rw [wid_cw, wid_cw] at h
  exact ⟨Fin.ext (by omega), Fin.ext (by omega)⟩

/-- The sums, whole, are the tiles' rows. -/
theorem rows_A (f : FVec F S32x256 .f32) :
    ((SparseCore.T d).loc main_v4_0 ↦{fullShare} f : sProp 𝕄) = bigSep Finset.univ fun c : Fin 2 => bigSep Finset.univ fun s : Fin 16 => ptOA d (cw c s) f :=
  pieces2 (ℓ := (SparseCore.T d).loc main_v4_0) f fullShare (fun (c : Fin 2) (s : Fin 16) => (outA (cw c s)).view.set)
    (fun y => (wid_cover (y 0)).elim fun c h => h.elim fun s h => ⟨c, s, (row_A _ y).mpr h⟩)
    (fun c s c' s' y h h' => wid_inj c c' s s' (((row_A _ y).mp h).symm.trans ((row_A _ y).mp h')))

/-- The counts, whole, are the tiles' rows. -/
theorem rows_C (f : FVec F S32x128 .f32) :
    ((SparseCore.T d).loc main_v4_1 ↦{fullShare} f : sProp 𝕄) = bigSep Finset.univ fun c : Fin 2 => bigSep Finset.univ fun s : Fin 16 => ptOC d (cw c s) f :=
  pieces2 (ℓ := (SparseCore.T d).loc main_v4_1) f fullShare (fun (c : Fin 2) (s : Fin 16) => (outC (cw c s)).view.set)
    (fun y => (wid_cover (y 0)).elim fun c h => h.elim fun s h => ⟨c, s, (row_C _ y).mpr h⟩)
    (fun c s c' s' y h h' => wid_inj c c' s s' (((row_C _ y).mp h).symm.trans ((row_C _ y).mp h')))

/-- A buffer held whole gives each tile its share and keeps the rest. -/
theorem toks2 {ℓ : Loc nD τ sig} (g : Buf (Elt F) ℓ) :
    ((ℓ ↦{fullShare} g : sProp 𝕄)) ⊢ iprop((ℓ ↦{Transfers.shareDrop fullShare 2} g)
      ∗ bigSep Finset.univ fun c : Fin 2 => bigSep Finset.univ fun s : Fin 16 => ℓ ↦{tileTok c s} g) := by
  iintro H
  ihave H := (Transfers.pointsTo_toks_split (ℓ := ℓ) (S := Finset.univ) (f := g) (Val := Elt F) (Ix := HIx 1) (Name := ℕ) (U := UU) (Lvl := ℕ) fullShare 2) $$ H
  icases H with ⟨Hd, Ht⟩
  isplitl [Hd]; · iexact Hd
  have hm : (bigSep Finset.univ fun c : Fin 2 => (ℓ ↦{coreTok c} g : sProp 𝕄)) ⊢ bigSep Finset.univ fun c : Fin 2 => bigSep Finset.univ fun s : Fin 16 => ℓ ↦{tileTok c s} g :=
    bigSep_mono fun c _ => (Transfers.pointsTo_toks_split (ℓ := ℓ) (S := Finset.univ) (f := g) (Val := Elt F) (Ix := HIx 1) (Name := ℕ) (U := UU) (Lvl := ℕ) (coreTok c) 16).trans sep_elim_right
  iapply hm
  iexact Ht

theorem some_of {α : Type} {Φ : α → sProp 𝕄} (a : α) : Φ a ⊢ iprop(∃ x, Φ x) := by
  iintro H; iexists a; iexact H

/-- What the SparseCore call takes: the outputs at any contents, the attributes, and a share of the graph numbers. -/
theorem call_in (fA : FVec F S32x256 .f32) (fC : FVec F S32x128 .f32) :
    iprop(((SparseCore.T d).loc main_v4_0 ↦{fullShare} fA) ∗ ((SparseCore.T d).loc main_v4_1 ↦{fullShare} fC)
      ∗ ((SparseCore.T d).loc main_v3 ↦{fullShare} A d) ∗ ((SparseCore.T d).loc main_arg4 ↦{fullShare} G d))
      ⊢ (iprop(((SparseCore.T d).loc main_arg4 ↦{Transfers.shareDrop fullShare 2} G d)
        ∗ bigSep Finset.univ fun c : Fin ((K (F := F)).nCore 0) => (P A G).st 0 d c) : sProp 𝕄) := by
  rw [rows_A, rows_C]
  show _ ⊢ iprop(_ ∗ bigSep Finset.univ fun c : Fin 2 => bigSep Finset.univ fun s : Fin 16 => goT d A G c s)
  have hA : (bigSep Finset.univ fun c : Fin 2 => bigSep Finset.univ fun s : Fin 16 => ptOA d (cw c s) fA : sProp 𝕄)
      ⊢ bigSep Finset.univ fun c : Fin 2 => bigSep Finset.univ fun s : Fin 16 => iprop(∃ f, ptOA d (cw c s) f) :=
    bigSep_mono fun c _ => bigSep_mono fun s _ => some_of (Φ := fun f => ptOA d (cw c s) f) fA
  have hC : (bigSep Finset.univ fun c : Fin 2 => bigSep Finset.univ fun s : Fin 16 => ptOC d (cw c s) fC : sProp 𝕄)
      ⊢ bigSep Finset.univ fun c : Fin 2 => bigSep Finset.univ fun s : Fin 16 => iprop(∃ f, ptOC d (cw c s) f) :=
    bigSep_mono fun c _ => bigSep_mono fun s _ => some_of (Φ := fun f => ptOC d (cw c s) f) fC
  simp only [bigSep_sep']
  iintro ⟨HA, HC, HV, HG⟩
  ihave HV := (toks2 (ℓ := (SparseCore.T d).loc main_v3) (A d)) $$ HV
  icases HV with ⟨-, HV⟩
  ihave HG := (toks2 (ℓ := (SparseCore.T d).loc main_arg4) (G d)) $$ HG
  icases HG with ⟨Hd, HG⟩
  isplitl [Hd]; · iexact Hd
  isplitl [HA]; · iapply hA; iexact HA
  isplitl [HC]; · iapply hC; iexact HC
  isplitl [HV]; · iexact HV
  iexact HG

/-- What it gives back: the tiles' rows of sums and counts, joined. -/
theorem call_out :
    (bigSep Finset.univ fun c : Fin ((K (F := F)).nCore 0) => (P A G).dn 0 d c : sProp 𝕄)
      = iprop(((SparseCore.T d).loc main_v4_0 ↦{fullShare} outAcc (A d) (G d)) ∗ ((SparseCore.T d).loc main_v4_1 ↦{fullShare} outCnt (F := F) (G d))) := by
  rw [rows_A, rows_C]
  show (bigSep Finset.univ fun c : Fin 2 => bigSep Finset.univ fun s : Fin 16 => tdT d A G c s) = _
  simp only [bigSep_sep']

/-! ## The host's copies -/

/-- A host operation that reads `x` and writes `y`. -/
theorem host_step {x y : Ref sig .tc} (hxy : (Proc.devRef .tc x : DevRef τ sig) ≠ Proc.devRef .tc y) (V₀ : Valuation τ sig (Elt F)) (op : HloOp τ sig (Elt F))
    (hb : op.bufs ⊆ {(Proc.devRef .tc x : DevRef τ sig), Proc.devRef .tc y}) (fn : x.ty.Contents (Elt F) → y.ty.Contents (Elt F))
    (hx : ∀ V, op.result V (Proc.devRef .tc x) = V (Proc.devRef .tc x)) (hy : ∀ V, op.result V (Proc.devRef .tc y) = fn (V (Proc.devRef .tc x)))
    (hf : op.fresh = ∅) (f : x.ty.Contents (Elt F)) (g : y.ty.Contents (Elt F)) (Q : PUnit → sProp 𝕄) :
    iprop(boundary (SparseCore.T d) ∗ ((SparseCore.T d).loc x ↦{fullShare} (f : Buf (Elt F) ((SparseCore.T d).loc x)))
        ∗ ((SparseCore.T d).loc y ↦{fullShare} (g : Buf (Elt F) ((SparseCore.T d).loc y)))
        ∗ (iprop(boundary (SparseCore.T d) ∗ ((SparseCore.T d).loc x ↦{fullShare} (f : Buf (Elt F) ((SparseCore.T d).loc x)))
            ∗ ((SparseCore.T d).loc y ↦{fullShare} (fn f : Buf (Elt F) ((SparseCore.T d).loc y)))) -∗ Q ⟨⟩))
      ⊢ wp frame (wpE ((K (F := F)).defs (D (F := F))) 𝒱 (SparseCore.T d) none) Set.univ (hlo rfl op fun _ => .ret ⟨⟩) Q := by
  have hV : ∀ W : Valuation τ sig (Elt F), (held (SparseCore.T d) {(Proc.devRef .tc x : DevRef τ sig), Proc.devRef .tc y} W : sProp 𝕄)
      = iprop(((SparseCore.T d).loc x ↦{fullShare} (W (Proc.devRef .tc x) : Buf (Elt F) ((SparseCore.T d).loc x)))
        ∗ ((SparseCore.T d).loc y ↦{fullShare} (W (Proc.devRef .tc y) : Buf (Elt F) ((SparseCore.T d).loc y)))) := fun W => by
    unfold held
    rw [SparseCore.bigSep_insert' (by simpa using hxy), bigSep_singleton]
  have hW := wp_hlo_within (hp := rfl) (k := fun _ => .ret ⟨⟩) (Q := Q) 𝒱 (SparseCore.T d) none Set.univ (defs := (K (F := F)).defs (D (F := F))) (op := op) hb
    (V := Function.update (Function.update V₀ (Proc.devRef .tc x) f) (Proc.devRef .tc y) g) hf
  rw [hV, hV, hx, hy, Function.update_self, Function.update_of_ne hxy, Function.update_self] at hW
  iintro ⟨Hb, Hx, Hy, Hk⟩
  iapply hW $$ [Hb Hx Hy]
  · isplitl [Hb]; · iexact Hb
    isplitl [Hx]; · iexact Hx
    iexact Hy
  iintro ⟨Hb, Hx, Hy⟩
  rw [wp_ret]; imodintro
  iapply Hk
  isplitl [Hb]; · iexact Hb
  isplitl [Hx]; · iexact Hx
  iexact Hy

theorem unscoped_eq (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_arg6 ↦{fullShare} W main_arg6)
      ∗ ((SparseCore.T d).loc main_v0 ↦{fullShare} W main_v0)
      ∗ ((SparseCore.T d).loc main_v1_0 ↦{fullShare} W main_v1_0)
      ∗ ((SparseCore.T d).loc main_v1_1 ↦{fullShare} W main_v1_1)
      ∗ ((SparseCore.T d).loc main_v2 ↦{fullShare} W main_v2)
      ∗ ((SparseCore.T d).loc main_v3 ↦{fullShare} W main_v3)
      ∗ ((SparseCore.T d).loc main_v4_0 ↦{fullShare} W main_v4_0)
      ∗ ((SparseCore.T d).loc main_v4_1 ↦{fullShare} W main_v4_1)
      ∗ ((SparseCore.T d).loc main_v5 ↦{fullShare} W main_v5)
      ∗ ((SparseCore.T d).loc main_v6 ↦{fullShare} W main_v6)) := by
  unfold unscopedBufs
  exact bigSep_eq_bigSepL_of_eq [main_arg0, main_arg1, main_arg2, main_arg3, main_arg4, main_arg5, main_arg6,
      main_v0, main_v1_0, main_v1_1, main_v2, main_v3, main_v4_0, main_v4_1, main_v5, main_v6] (by decide) (by decide) _

/-! ## The TensorCore's program -/

section Run
variable (m : (ℓ : Loc nD τ sig) → Buf (Elt F) ℓ) (ρ : Dev nD → PrngReg)

/-- What the TensorCore hands its calls: the batch blocks, the arrays' launch contents, and the attributes column by column. -/
def inB (d : Dev nD) : IVec S10x1x1000 32 := shapeCast S10x1x1000 (m ((SparseCore.T d).loc main_arg1) : IVec S10000 32) shapeCasts_S10000_S10x1x1000
def inX (d : Dev nD) : FVec F S10000x128 .f32 := m ((SparseCore.T d).loc main_arg0)
def inA (d : Dev nD) : FVec F S1280000 .f32 :=
  shapeCast S1280000 (transpose S4x320000 [1, 0] (m ((SparseCore.T d).loc main_arg2) : FVec F S320000x4 .f32) transposes_S320000x4_S4x320000_1_0) shapeCasts_S4x320000_S1280000
def inG (d : Dev nD) : IVec S320000 32 := m ((SparseCore.T d).loc main_arg4)
def inMx (d : Dev nD) : FVec F S1x128 .f32 := m ((SparseCore.T d).loc main_arg5)
def inMe (d : Dev nD) : FVec F S1x4 .f32 := m ((SparseCore.T d).loc main_arg6)

/-- The sums and counts of the tiles. -/
def accOf (d : Dev nD) : FVec F S32x256 .f32 := outAcc (inA m d) (inG m d)
def cntOf (d : Dev nD) : FVec F S32x128 .f32 := outCnt (inG m d)

/-- The kernel's result. -/
def result (d : Dev nD) : FVec F S64 .f32 :=
  shapeCast S64 (combOf (xsOf (inB m) (inX m) d) (xcOf (inB m) (inX m) d) (accOf m d) (cntOf m d) (inMx m d) (inMe m d)) shapeCasts_S1x64_S64

/-- What the TensorCore's program keeps to the end: the arguments at their launch contents, and the result. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{Transfers.shareDrop fullShare 2} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_v6 ↦{fullShare} (result m d : Buf (Elt F) ((SparseCore.T d).loc main_v6))))

/-- A TensorCore call as a step of the TensorCore's program. -/
theorem call_step [∀ e, Nonempty (Elt F e)] (pd : (p : Fin 2) → (c : Dev nD) → Dat τ (Elt F) (HIx 1) ℕ UU ℕ (Pipeline.pin (pcfgs (F := F)) adm p) c)
    (p : Fin 2) (R : Pipeline.RegionSeg (pcfgs (F := F)) adm pd none defs₀ 𝒱₀ (K (F := F)).L (K (F := F)).lev p) (Q : PUnit → sProp 𝕄) :
    iprop(levAts (K (F := F)).L (K (F := F)).lev ∗ boundary (SparseCore.T d) ∗ R.pre d ∗ pipeG p d ∗ (iprop(boundary (SparseCore.T d) ∗ R.post d) -∗ Q ⟨⟩))
      ⊢ wp frame (wpE ((K (F := F)).defs (D (F := F))) 𝒱 (SparseCore.T d) none) Set.univ
          (Prog.lift (.customCall (SparseCore.inner (Pipeline.entry p)) ())) Q := by
  have hl := (K (F := F)).wp_liftProg (D (F := F)) 𝒱 (SparseCore.T d) Set.univ none (Prog.lift (.customCall (Pipeline.entry p) ())) Q
  have h := Pipeline.RegionSeg.wp (pcfgs (F := F)) adm pd none pin_inj EP defs₀ 𝒱₀ (K (F := F)).L (K (F := F)).lev R d none (fun u hu => nomatch hu) (fun _ => .ret ⟨⟩) Q
  rw [wp_ret] at h
  refine BI.Entails.trans (Q := iprop((iprop(boundary (SparseCore.T d) ∗ R.post d) -∗ |={Set.univ}=> Q ⟨⟩) ∗ boundary (SparseCore.T d) ∗ R.pre d ∗ levAts (K (F := F)).L (K (F := F)).lev
    ∗ Pipeline.cellsGhost (Pipeline.pin (pcfgs (F := F)) adm) EP p d ∗ Pipeline.toksInit (Pipeline.pin (pcfgs (F := F)) adm) EP p d)) ?_ (h.trans hl)
  clear h hl
  show (_ : sProp 𝕄) ⊢ _
  iintro ⟨Hl, Hb, Hp, ⟨Hc, Ht⟩, Hk⟩
  isplitl [Hk]
  · iintro H
    imodintro
    iapply Hk; iexact H
  isplitl [Hb]; · iexact Hb
  isplitl [Hp]; · iexact Hp
  isplitl [Hl]; · iexact Hl
  isplitl [Hc]; · iexact Hc
  iexact Ht

/-- Before a call the TensorCore's state is its debts and the rest. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_eq (n : ℕ) : ((K (F := F)).tcSt (EH (F := F)) d n : sProp 𝕄) = iprop(tcOwes d n ∗ tcRest d n) := rfl

/-- The two calls at this launch. -/
def callP := regP (F := F) (inB m) (inX m) (fun d => m ((SparseCore.T d).loc main_v1_0)) (fun d => m ((SparseCore.T d).loc main_v1_1))
  (xsOf (inB m) (inX m)) (xcOf (inB m) (inX m)) (accOf m) (cntOf m) (inMx m) (inMe m) (fun d => m ((SparseCore.T d).loc main_v5))
def callC := regC (F := F) (inB m) (inX m) (fun d => m ((SparseCore.T d).loc main_v1_0)) (fun d => m ((SparseCore.T d).loc main_v1_1))
  (xsOf (inB m) (inX m)) (xcOf (inB m) (inX m)) (accOf m) (cntOf m) (inMx m) (inMe m) (fun d => m ((SparseCore.T d).loc main_v5))

theorem callP_pre : (callP m).pre d = iprop(tcOwes d 0 ∗ ((SparseCore.T d).loc main_v0 ↦{fullShare} (inB m d : Buf (Elt F) ((SparseCore.T d).loc main_v0)))
      ∗ ((SparseCore.T d).loc main_arg0 ↦{fullShare} m ((SparseCore.T d).loc main_arg0))
      ∗ ((SparseCore.T d).loc main_v1_0 ↦{fullShare} m ((SparseCore.T d).loc main_v1_0))
      ∗ ((SparseCore.T d).loc main_v1_1 ↦{fullShare} m ((SparseCore.T d).loc main_v1_1))) := rfl
theorem callP_post : (callP m).post d = iprop(tcOwes d 0 ∗ ((SparseCore.T d).loc main_v0 ↦{fullShare} (inB m d : Buf (Elt F) ((SparseCore.T d).loc main_v0)))
      ∗ ((SparseCore.T d).loc main_arg0 ↦{fullShare} m ((SparseCore.T d).loc main_arg0))
      ∗ ((SparseCore.T d).loc main_v1_0 ↦{fullShare} (xsOf (inB m) (inX m) d : Buf (Elt F) ((SparseCore.T d).loc main_v1_0)))
      ∗ ((SparseCore.T d).loc main_v1_1 ↦{fullShare} (xcOf (inB m) (inX m) d : Buf (Elt F) ((SparseCore.T d).loc main_v1_1)))) := rfl
theorem callC_pre : (callC m).pre d = iprop(tcOwes d 1 ∗ ((SparseCore.T d).loc main_v1_0 ↦{fullShare} (xsOf (inB m) (inX m) d : Buf (Elt F) ((SparseCore.T d).loc main_v1_0)))
      ∗ ((SparseCore.T d).loc main_v1_1 ↦{fullShare} (xcOf (inB m) (inX m) d : Buf (Elt F) ((SparseCore.T d).loc main_v1_1)))
      ∗ ((SparseCore.T d).loc main_v4_0 ↦{fullShare} (outAcc (inA m d) (inG m d) : Buf (Elt F) ((SparseCore.T d).loc main_v4_0)))
      ∗ ((SparseCore.T d).loc main_v4_1 ↦{fullShare} (outCnt (inG m d) : Buf (Elt F) ((SparseCore.T d).loc main_v4_1)))
      ∗ ((SparseCore.T d).loc main_arg5 ↦{fullShare} m ((SparseCore.T d).loc main_arg5))
      ∗ ((SparseCore.T d).loc main_arg6 ↦{fullShare} m ((SparseCore.T d).loc main_arg6))
      ∗ ((SparseCore.T d).loc main_v5 ↦{fullShare} m ((SparseCore.T d).loc main_v5))) := rfl
theorem callC_post : (callC m).post d = iprop(tcOwes d 1 ∗ ((SparseCore.T d).loc main_v1_0 ↦{fullShare} (xsOf (inB m) (inX m) d : Buf (Elt F) ((SparseCore.T d).loc main_v1_0)))
      ∗ ((SparseCore.T d).loc main_v1_1 ↦{fullShare} (xcOf (inB m) (inX m) d : Buf (Elt F) ((SparseCore.T d).loc main_v1_1)))
      ∗ ((SparseCore.T d).loc main_v4_0 ↦{fullShare} (accOf m d : Buf (Elt F) ((SparseCore.T d).loc main_v4_0)))
      ∗ ((SparseCore.T d).loc main_v4_1 ↦{fullShare} (cntOf m d : Buf (Elt F) ((SparseCore.T d).loc main_v4_1)))
      ∗ ((SparseCore.T d).loc main_arg5 ↦{fullShare} m ((SparseCore.T d).loc main_arg5))
      ∗ ((SparseCore.T d).loc main_arg6 ↦{fullShare} m ((SparseCore.T d).loc main_arg6))
      ∗ ((SparseCore.T d).loc main_v5 ↦{fullShare}
          (combOf (xsOf (inB m) (inX m) d) (xcOf (inB m) (inX m) d) (accOf m d) (cntOf m d) (inMx m d) (inMe m d) : Buf (Elt F) ((SparseCore.T d).loc main_v5)))) := rfl

/-- The launch contents, as the host's operations read them. -/
def mV (d : Dev nD) : Valuation τ sig (Elt F) := fun b => m (d, b)

/-- The TensorCore's program on a device, from its launch to the result. -/
theorem hmain [∀ e, Nonempty (Elt F e)] (κ : GSem nD τ sig → ℕ) (d : Dev nD) :
    iprop((K (F := F)).ctx EH (P (inA m) (inG m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd Gd
  rw [unscoped_eq, tcSt_eq]
  simp only [main, wp_bind, wp_pure]
  iintro ⟨#Hctx, ⟨HO, Hst⟩, ⟨Hb, ⟨A0, A1, A2, A3, A4, A5, A6, V0, V10, V11, V2, V3, V40, V41, V5, V6⟩, Hts, -⟩, G0, G1⟩
  ihave #Hlv := (K (F := F)).ctx_levAts $$ Hctx
  -- the batch in blocks
  iapply (host_step d (x := main_arg1) (y := main_v0) (by decide) (mV m d) _ (Finset.Subset.refl _) (fun v => shapeCast S10x1x1000 v shapeCasts_S10000_S10x1x1000)
    (fun V => StableHlo.reshape_result_ne _ _ _ _ _ _ V (by decide)) (fun V => StableHlo.reshape_result _ _ _ _ _ _ V) rfl)
  isplitl [Hb]; · iexact Hb
  isplitl [A1]; · iexact A1
  isplitl [V0]; · iexact V0
  iintro ⟨Hb, A1, V0⟩
  -- the pooling of `x`
  iapply (call_step d _ 0 (callP m))
  isplitr; · iexact Hlv
  isplitl [Hb]; · iexact Hb
  isplitl [HO V0 A0 V10 V11]
  · rw [callP_pre]
    isplitl [HO]; · iexact HO
    isplitl [V0]; · iexact V0
    isplitl [A0]; · iexact A0
    isplitl [V10]; · iexact V10
    iexact V11
  isplitl [G0]; · iexact G0
  rw [callP_post]
  iintro ⟨Hb, HO, V0, A0, V10, V11⟩
  -- the attributes column by column
  iapply (host_step d (x := main_arg2) (y := main_v2) (by decide) (mV m d) _ (Finset.Subset.refl _)
    (fun v => transpose S4x320000 [1, 0] (v : FVec F S320000x4 .f32) transposes_S320000x4_S4x320000_1_0)
    (fun V => StableHlo.unary_result_ne _ _ _ _ _ V (by decide)) (fun V => StableHlo.unary_result _ _ _ _ _ V) rfl)
  isplitl [Hb]; · iexact Hb
  isplitl [A2]; · iexact A2
  isplitl [V2]; · iexact V2
  iintro ⟨Hb, A2, V2⟩
  iapply (host_step d (x := main_v2) (y := main_v3) (by decide) (mV m d) _ (Finset.Subset.refl _) (fun v => shapeCast S1280000 v shapeCasts_S4x320000_S1280000)
    (fun V => StableHlo.reshape_result_ne _ _ _ _ _ _ V (by decide)) (fun V => StableHlo.reshape_result _ _ _ _ _ _ V) rfl)
  isplitl [Hb]; · iexact Hb
  isplitl [V2]; · iexact V2
  isplitl [V3]; · iexact V3
  iintro ⟨Hb, -, V3⟩
  -- the SparseCores' call
  ihave Hin := (call_in (inA m) (inG m) d _ _) $$ [V40 V41 V3 A4]
  · isplitl [V40]; · iexact V40
    isplitl [V41]; · iexact V41
    isplitl [V3]; · iexact V3
    iexact A4
  icases Hin with ⟨A4, Hin⟩
  iapply ((K (F := F)).wp_run (D (F := F)) 𝒱 (EH := EH) (P := P (inA m) (inG m)) κ d 0)
  isplitr; · iexact Hctx
  isplitl [HO Hst]
  · rw [show (0 : Fin 1).val = 0 from rfl, tcSt_eq]
    isplitl [HO]; · iexact HO
    iexact Hst
  isplitl [Hin]; · iexact Hin
  rw [show ((0 : Fin 1).val + 1) = 1 from rfl, tcSt_eq, call_out]
  iintro ⟨⟨HO, Hst⟩, V40, V41⟩
  -- the combination
  iapply (call_step d _ 1 (callC m))
  isplitr; · iexact Hlv
  isplitl [Hb]; · iexact Hb
  isplitl [HO V10 V11 V40 V41 A5 A6 V5]
  · rw [callC_pre]
    isplitl [HO]; · iexact HO
    isplitl [V10]; · iexact V10
    isplitl [V11]; · iexact V11
    isplitl [V40]; · iexact V40
    isplitl [V41]; · iexact V41
    isplitl [A5]; · iexact A5
    isplitl [A6]; · iexact A6
    iexact V5
  isplitl [G1]; · iexact G1
  rw [callC_post]
  iintro ⟨Hb, HO, -, -, -, -, A5, A6, V5⟩
  -- the result
  iapply (host_step d (x := main_v5) (y := main_v6) (by decide) (mV m d) _ (Finset.Subset.refl _) (fun v => shapeCast S64 v shapeCasts_S1x64_S64)
    (fun V => StableHlo.reshape_result_ne _ _ _ _ _ _ V (by decide)) (fun V => StableHlo.reshape_result _ _ _ _ _ _ V) rfl)
  isplitl [Hb]; · iexact Hb
  isplitl [V5]; · iexact V5
  isplitl [V6]; · iexact V6
  iintro ⟨Hb, -, V6⟩
  imodintro
  isplitl [HO Hst]
  · isplitl [HO]; · iexact HO
    iexact Hst
  isplitr [Hb Hts]
  · unfold FIN
    isplitl [A0]; · iexact A0
    isplitl [A1]; · iexact A1
    isplitl [A2]; · iexact A2
    isplitl [A3]; · iexact A3
    isplitl [A4]; · iexact A4
    isplitl [A5]; · iexact A5
    isplitl [A6]; · iexact A6
    iexact V6
  isplitl [Hb] <;> iassumption

/-! ## The last memory -/

/-- A buffer kept is what the last memory holds. -/
theorem kept {ℓ : Loc nD τ sig} {q : PosShare TreeShare} {f : Buf (Elt F) ℓ} (s' : Phys nD τ sig (Elt F)) :
    iprop((ℓ ↦{q} f) ∗ SI s') ⊢ (⌜s'.mem.mem ℓ = f⌝ : sProp 𝕄) := by
  iintro ⟨Hx, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

/-- The arguments are unchanged and the result is `result`. -/
def EndOk (d : Dev nD) (μ : (ℓ : Loc nD τ sig) → Buf (Elt F) ℓ) : Prop :=
  μ ((SparseCore.T d).loc main_arg0) = m ((SparseCore.T d).loc main_arg0)
  ∧ μ ((SparseCore.T d).loc main_arg1) = m ((SparseCore.T d).loc main_arg1)
  ∧ μ ((SparseCore.T d).loc main_arg2) = m ((SparseCore.T d).loc main_arg2)
  ∧ μ ((SparseCore.T d).loc main_arg3) = m ((SparseCore.T d).loc main_arg3)
  ∧ μ ((SparseCore.T d).loc main_arg4) = m ((SparseCore.T d).loc main_arg4)
  ∧ μ ((SparseCore.T d).loc main_arg5) = m ((SparseCore.T d).loc main_arg5)
  ∧ μ ((SparseCore.T d).loc main_arg6) = m ((SparseCore.T d).loc main_arg6)
  ∧ μ ((SparseCore.T d).loc main_v6) = result m d

theorem pure_and {Φ : sProp 𝕄} {A B : Prop} (hA : Φ ⊢ (⌜A⌝ : sProp 𝕄)) (hB : Φ ⊢ (⌜B⌝ : sProp 𝕄)) : Φ ⊢ (⌜A ∧ B⌝ : sProp 𝕄) :=
  fun a ha => ⟨hA a ha, hB a ha⟩

theorem read_one {X Y Z : sProp 𝕄} {A B : Prop} (hA : iprop(X ∗ Z) ⊢ (⌜A⌝ : sProp 𝕄)) (hB : iprop(Y ∗ Z) ⊢ (⌜B⌝ : sProp 𝕄)) :
    iprop((X ∗ Y) ∗ Z) ⊢ (⌜A ∧ B⌝ : sProp 𝕄) :=
  pure_and ((sep_mono_left sep_elim_left).trans hA) ((sep_mono_left sep_elim_right).trans hB)

theorem hfin (d : Dev nD) (s' : Phys nD τ sig (Elt F)) : iprop(FIN m d ∗ SI s') ⊢ (⌜EndOk m d s'.mem.mem⌝ : sProp 𝕄) :=
  read_one (kept s') <| read_one (kept s') <| read_one (kept s') <| read_one (kept s') <| read_one (kept s') <| read_one (kept s') <|
    read_one (kept s') (kept s')

/-- The program runs, its arguments come back unchanged and its result is `result`, where every graph number is in range. -/
theorem run_main [∀ e, Nonempty (Elt F e)] (hG : ∀ d, GOk (inG m d)) :
    θ_run (defs (F := F)) (threads (F := F)) ⟨m, fun _ => 0, ρ⟩ fun r => (∀ d, EndOk m d r.2.mem) ∧ r.2.sem = fun _ => 0 :=
  SparseCore.Cfg.θ_run_sc_quiescent (K := K (F := F)) (D := D (F := F)) (𝒱 := 𝒱) (EH := EH) (P := P (inA m) (inG m)) (A := ∅) facts v₀
    (fun q hq => match q with | 0 => nomatch hq)
    (fun q _ => match q with | 0 => tileObl (inA m) (inG m) hG)
    (fun q _ => match q with | 0 => SparseCore.Cfg.VecSplit.of_plain (vecSplit (inA m) (inG m)))
    m ρ main (Gd (F := F)) (FIN m) (u₀ (F := F)) (sep_elim_left.trans (hu₀ (inA m) (inG m))) (hmain m ρ) (fun d s' => EndOk m d s'.mem.mem) (hfin m) _
    (fun _ h hz => ⟨h, hz⟩)

end Run

end Cert.KernelIdeal.Edge
-- ==== Proof.Ref.lean ====
/- The reference's run. -/
module

public import proofs.«01_k».proof.Defs
public import proofs.«01_k».proof.Proof.Gen.ReferenceIdeal.Run
public import proofs.«01_k».proof.Proof.Gen.ReferenceIdeal.Read

@[expose] public section
-- ==== Proof.Same.lean ====
/- The kernel printed for the words and the kernel printed for the extended reals are one text: each body of the one is the
   same program as the other's, so a run proved over any floats is a run of both. -/
module

public import proofs.«01_k».proof.Proof.Gen.Kernel
public import proofs.«01_k».proof.Proof.Gen.KernelIdeal

@[expose] public section

set_option maxRecDepth 16384

noncomputable section

namespace Cert.Same

open Idealize.ShloMosaic Idealize.SL.Sem
open Cert.Kernel.Gen Cert.KernelIdeal.Gen

variable {F : FTy → Type} [FloatOps F]

/-- The nodes' pooling body. -/
theorem pool_eq : Cert.Kernel.cc0__x_pool_body (F := F) = Cert.KernelIdeal.cc0__x_pool_body (F := F) := rfl

/-- The edges' pooling body. -/
theorem edge_eq : Cert.Kernel.cc1_k (F := F) = Cert.KernelIdeal.cc1_k (F := F) := rfl

/-- The combining body. -/
theorem comb_eq : Cert.Kernel.cc2__combine_body (F := F) = Cert.KernelIdeal.cc2__combine_body (F := F) := rfl

/-- The tables of the bodies. -/
theorem bodies_eq : Cert.Kernel.defs₀ (F := F) = Cert.KernelIdeal.defs₀ (F := F) := by
  funext κ ℓ a
  match κ, ℓ, a with
  | .tc, 0, (t, s) => rfl
  | .tc, 1, a => rfl
  | .tc, 2, (t, s) => rfl
  | .scScalar c, 0, a => rfl
  | .scScalar c, 1, a => rfl
  | .scScalar c, 2, a => rfl
  | .scVector c s, 0, a => rfl
  | .scVector c s, 1, a => rfl
  | .scVector c s, 2, a => rfl

/-- The whole tables. -/
theorem defs_eq : Cert.Kernel.defs (F := F) = Cert.KernelIdeal.defs (F := F) :=
  congrArg (fun b => Cert.KernelIdeal.sc.defs (Pipeline.defs Cert.KernelIdeal.pcfgs b)) bodies_eq

/-- The TensorCore's program. -/
theorem main_eq : Cert.Kernel.main (F := F) = Cert.KernelIdeal.main (F := F) := rfl

end Cert.Same

end
-- ==== Proof.Frames.lean ====
/- What the preconditions say of the words, and the frames: the kernel, word for word and over the extended reals, and the
   reference run to their ends with the arguments unchanged and the semaphores at zero. -/
module

public import proofs.«01_k».proof.Proof.Main
public import proofs.«01_k».proof.Proof.Ref
public import proofs.«01_k».proof.Proof.Same
public import proofs.«01_k».proof.Proof.Gen.Pre_ranges
public import proofs.«01_k».proof.Pre_places
public import Idealize.ShloMosaic.Lib.ReduceAll
public import Idealize.ShloMosaic.Lib.Affine
public import Idealize.ShloMosaic.Lib.Quiescent

@[expose] public section

set_option maxRecDepth 16384

noncomputable section

namespace Cert.Frames

open Idealize.ShloMosaic Idealize.SL.Sem

/-! ## The precondition -/

/-- The shapes of the shorter precondition fit together. -/
instance places_facts : Cert.Pre_places.Facts where
  bcast_S_S320000 := by decide
  reducesTo_S320000_S_d0 := by decide
  h_S_ := by decide

section Pre

variable {F : FTy → Type} [FloatOps F]

/-- Where the shorter precondition is all ones the edges' graph numbers are in 0..63. -/
theorem places_read {a0 : FVec F Cert.Pre_places.S10000x128 .f32} {a1 : IVec Cert.Pre_places.S10000 32} {a2 : FVec F Cert.Pre_places.S320000x4 .f32}
    {a3 : IVec Cert.Pre_places.S2x320000 32} {a4 : IVec Cert.Pre_places.S320000 32} {a5 : FVec F Cert.Pre_places.S1x128 .f32}
    {a6 : FVec F Cert.Pre_places.S1x4 .f32} {j : Cert.Pre_places.S_.Idx} (h : Cert.Pre_places.fn (F := F) a0 a1 a2 a3 a4 a5 a6 j = 1#1) :
    ∀ i, 0 ≤ (a4 i).toInt ∧ (a4 i).toInt < 64 := by
  obtain ⟨h2, h5⟩ := IntOp.andi_eq_one.1 h
  exact fun i => ⟨IntOp.cmpi_sge.1 (Host.reduce_andi_all _ _ _ _ j h2 i), IntOp.cmpi_slt.1 (Host.reduce_andi_all _ _ _ _ j h5 i)⟩

open Cert.Pre_ranges Cert.Pre_ranges.Gen

/-- Where the longer precondition is all ones the edges' graph numbers are in 0..63 and no edge starts at a negative number. -/
theorem ranges_read {a0 : FVec F S10000x128 .f32} {a1 : IVec S10000 32} {a2 : FVec F S320000x4 .f32} {a3 : IVec S2x320000 32}
    {a4 : IVec S320000 32} {a5 : FVec F S1x128 .f32} {a6 : FVec F S1x4 .f32} {j : S_.Idx}
    (h : Cert.Pre_ranges.fn (F := F) a0 a1 a2 a3 a4 a5 a6 j = 1#1) :
    (∀ i, 0 ≤ (a4 i).toInt ∧ (a4 i).toInt < 64) ∧ ∀ i, 0 ≤ (Cert.ReferenceIdeal.Read.val_main_v37 (F := F) a3 i : BitVec 32).toInt := by
  obtain ⟨h, h11⟩ := IntOp.andi_eq_one.1 h
  obtain ⟨h2, h5⟩ := IntOp.andi_eq_one.1 h
  exact ⟨fun i => ⟨IntOp.cmpi_sge.1 (Host.reduce_andi_all _ _ _ _ j h2 i), IntOp.cmpi_slt.1 (Host.reduce_andi_all _ _ _ _ j h5 i)⟩,
    fun i => IntOp.cmpi_sge.1 (Host.reduce_andi_all _ _ _ _ j h11 i)⟩

end Pre

/-- A word whose signed value is in 0..63 is below 64 read unsigned. -/
theorem toNat_lt {v : BitVec 32} (h : 0 ≤ v.toInt ∧ v.toInt < 64) : v.toNat < 64 := by
  have := BitVec.toInt_eq_toNat_cond v
  have := v.isLt
  split at * <;> omega

section Runs

open Cert.KernelIdeal.Edge

/-- Under the shorter precondition the graph numbers are below 64: over the words, and over the extended reals. -/
theorem gok_bits (m : (ℓ : Loc Cert.Kernel.nD Cert.Kernel.τ Cert.Kernel.sig) → Buf (Elt Bits) ℓ) (h : Cert.Pre_Kernel m) (d : Dev Cert.KernelIdeal.nD) :
    GOk (inG (F := Bits) m d) :=
  fun e => toNat_lt (places_read (congrFun (h d) (Shape.Idx.first (by decide))) e)

theorem gok_ideal (m : (ℓ : Loc Cert.KernelIdeal.nD Cert.KernelIdeal.τ Cert.KernelIdeal.sig) → Buf (Elt Ideal) ℓ) (h : Cert.Pre_KernelIdeal m)
    (d : Dev Cert.KernelIdeal.nD) : GOk (inG (F := Ideal) m d) :=
  fun e => toNat_lt (places_read (congrFun (h d) (Shape.Idx.first (by decide))) e)

/-- And under the longer one. -/
theorem gok_ranges (m : (ℓ : Loc Cert.KernelIdeal.nD Cert.KernelIdeal.τ Cert.KernelIdeal.sig) → Buf (Elt Ideal) ℓ) (h : Cert.Pre_KernelIdeal_ranges m)
    (d : Dev Cert.KernelIdeal.nD) : GOk (inG (F := Ideal) m d) :=
  fun e => toNat_lt ((ranges_read (congrFun (h d) (Shape.Idx.first (by decide)))).1 e)

/-- The arguments' part of how the kernel ends. -/
theorem end_args {F : FTy → Type} [FloatOps F] {m μ : (ℓ : Loc Cert.KernelIdeal.nD Cert.KernelIdeal.τ Cert.KernelIdeal.sig) → Buf (Elt F) ℓ}
    {d : Dev Cert.KernelIdeal.nD} (h : EndOk m d μ) :
    μ ((SparseCore.T d).loc Cert.KernelIdeal.main_arg0) = m ((SparseCore.T d).loc Cert.KernelIdeal.main_arg0)
    ∧ μ ((SparseCore.T d).loc Cert.KernelIdeal.main_arg1) = m ((SparseCore.T d).loc Cert.KernelIdeal.main_arg1)
    ∧ μ ((SparseCore.T d).loc Cert.KernelIdeal.main_arg2) = m ((SparseCore.T d).loc Cert.KernelIdeal.main_arg2)
    ∧ μ ((SparseCore.T d).loc Cert.KernelIdeal.main_arg3) = m ((SparseCore.T d).loc Cert.KernelIdeal.main_arg3)
    ∧ μ ((SparseCore.T d).loc Cert.KernelIdeal.main_arg4) = m ((SparseCore.T d).loc Cert.KernelIdeal.main_arg4)
    ∧ μ ((SparseCore.T d).loc Cert.KernelIdeal.main_arg5) = m ((SparseCore.T d).loc Cert.KernelIdeal.main_arg5)
    ∧ μ ((SparseCore.T d).loc Cert.KernelIdeal.main_arg6) = m ((SparseCore.T d).loc Cert.KernelIdeal.main_arg6) :=
  ⟨h.1, h.2.1, h.2.2.1, h.2.2.2.1, h.2.2.2.2.1, h.2.2.2.2.2.1, h.2.2.2.2.2.2.1⟩

/-- The kernel over the extended reals runs to its end, its arguments unchanged. -/
theorem frame_ideal : Cert.quiescent_KernelIdeal :=
  fun m ρ h => (θ_run (Cert.KernelIdeal.defs (F := Ideal)) _ _).mono (fun _ e => ⟨fun d => end_args (e.1 d), e.2⟩)
    (run_main (F := Ideal) m ρ (gok_ideal m h))

/-- The same from a memory of which the longer precondition holds. -/
theorem frame_ideal_ranges : Cert.quiescent_KernelIdeal_pre_ranges :=
  fun m ρ h => (θ_run (Cert.KernelIdeal.defs (F := Ideal)) _ _).mono (fun _ e => ⟨fun d => end_args (e.1 d), e.2⟩)
    (run_main (F := Ideal) m ρ (gok_ranges m h))

/-- The kernel over the words runs to its end, its arguments unchanged: its text is the other's. -/
theorem frame_kernel : Cert.quiescent_Kernel := by
  intro m ρ h
  have k : ∀ D, D = Cert.KernelIdeal.defs (F := Bits) → ∀ M, M = Cert.KernelIdeal.main (F := Bits) →
      θ_run D (Cert.KernelIdeal.sc.threads M) ⟨m, fun _ => 0, ρ⟩ fun r => (∀ d, EndOk (F := Bits) m d r.2.mem) ∧ r.2.sem = fun _ => 0 := by
    rintro _ rfl _ rfl
    exact run_main (F := Bits) m ρ (gok_bits m h)
  exact (θ_run (Cert.Kernel.defs (F := Bits)) _ _).mono (fun _ e => ⟨fun d => end_args (e.1 d), e.2⟩)
    (k _ Cert.Same.defs_eq _ Cert.Same.main_eq)

end Runs

/-- The reference runs to its end from any memory. -/
theorem frame_ref : Cert.quiescent_ReferenceIdeal :=
  fun m ρ _ => (θ_run (Cert.ReferenceIdeal.defs (F := Ideal)) _ _).mono (fun r e => ⟨fun d => (e d).2, sem_eq_zero_of_no_sems rfl r.2⟩)
    (Cert.ReferenceIdeal.Value.run (F := Ideal) m ρ)

/-- The same from a memory of which the longer precondition holds. -/
theorem frame_ref_ranges : Cert.quiescent_ReferenceIdeal_pre_ranges := fun m ρ _ => frame_ref m ρ trivial

end Cert.Frames

end
-- ==== Proof.AlgSum.lean ====
/- Sums over the extended reals: how sums over groups, stripes and tiles are sums over the edges, and what a scatter adds. -/
module

public import proofs.«01_k».proof.Proof.TileVal
public import Idealize.ShloMosaic.PureOps.Ideal.Laws

@[expose] public section

set_option maxRecDepth 16384

noncomputable section

namespace Cert.KernelIdeal.Edge

open Idealize.ShloMosaic Idealize.SL.Sem
open Cert.KernelIdeal Cert.KernelIdeal.Gen
open Finset (range)

/-! ## Sums by blocks -/

/-- A sum over `a` blocks of `b` numbers is the sum over all of them. -/
theorem sum_blocks (a b : ℕ) (f : ℕ → EReal) : ∑ i ∈ range a, ∑ j ∈ range b, f (b * i + j) = ∑ n ∈ range (b * a), f n := by
  induction a with
  | zero => rfl
  | succ a ih => rw [Finset.sum_range_succ, ih, Nat.mul_succ, Finset.sum_range_add]

/-- Where each number of a group is put into the group's own stripe, the stripes' sum at a place counts the numbers put there. -/
theorem sum_stripes (W G y : ℕ) (hy : y < W) (t : ℕ → ℕ) (ht : ∀ e, t e < W) (val : ℕ → EReal) :
    ∑ q ∈ range 16, ∑ h ∈ range G, ∑ k ∈ range 16, (if W * q + y = W * k + t (16 * h + k) then val (16 * h + k) else 0)
      = ∑ e ∈ range (16 * G), if y = t e then val e else 0 := by
  rw [← sum_blocks G 16 (fun e => if y = t e then val e else 0), Finset.sum_comm]
  refine Finset.sum_congr rfl fun h _ => ?_
  rw [Finset.sum_comm]
  refine Finset.sum_congr rfl fun k hk => ?_
  have e : ∀ q, (W * q + y = W * k + t (16 * h + k)) ↔ (q = k ∧ y = t (16 * h + k)) := by
    intro q
    constructor
    · intro h1
      have h2 := ht (16 * h + k)
      have hW : 0 < W := by omega
      have a1 : (W * q + y) / W = q := by rw [Nat.mul_add_div hW, Nat.div_eq_of_lt hy, Nat.add_zero]
      have a2 : (W * k + t (16 * h + k)) / W = k := by rw [Nat.mul_add_div hW, Nat.div_eq_of_lt h2, Nat.add_zero]
      have hq : q = k := by rw [← a1, h1, a2]
      subst hq
      exact ⟨rfl, by omega⟩
    · rintro ⟨rfl, h2⟩; omega
  simp only [e]
  rw [Finset.sum_eq_single k]
  · simp
  · intro q _ hq; rw [if_neg (fun h => hq h.1)]
  · intro h; exact absurd hk h

/-- A sum over `Fin n` of a function of numbers. -/
theorem sum_fin (n : ℕ) (f : ℕ → EReal) : ∑ k : Fin n, f k.val = ∑ k ∈ range n, f k := Fin.sum_univ_eq_sum_range f n

/-! ## One scatter -/

theorem foldl_add {ι : Type} {n : ℕ} (l : List ι) (p : ι → ℕ) (v : ι → EReal) (f : (⟨1, ![n]⟩ : Shape).Idx → EReal) (y : (⟨1, ![n]⟩ : Shape).Idx)
    (step : ((⟨1, ![n]⟩ : Shape).Idx → EReal) → ι → (⟨1, ![n]⟩ : Shape).Idx → EReal)
    (hs : ∀ g k z, step g k z = g z + if (z 0).val = p k then v k else 0) :
    l.foldl step f y = f y + (l.map fun k => if (y 0).val = p k then v k else 0).sum := by
  induction l generalizing f with
  | nil => simp
  | cons k l ih => rw [List.foldl_cons, ih, hs, List.map_cons, List.sum_cons, add_assoc]

/-- Lane `k` of sixteen. -/
abbrev lane (k : Fin 16) : S16.Idx := Shape.ofLane (d := ![16]) k

/-- A scatter adds at each place the values of the lanes that name it. -/
theorem scat_apply {n : ℕ} (f : FVec Ideal (⟨1, ![n]⟩ : Shape) .f32) (idx : IVec S16 32) (v : FVec Ideal S16 .f32)
    (h : ∀ x, (idx x).toNat < n) (y : (⟨1, ![n]⟩ : Shape).Idx) :
    scat f idx v y = (f y + ∑ k : Fin 16, if (y 0).val = (idx (lane k)).toNat then v (lane k) else 0 : EReal) := by
  have h' : ∀ a x, ((![idx] : Fin 1 → IVec S16 32) a x).toNat < (⟨1, ![n]⟩ : Shape).size a := by
    intro a x; fin_cases a; exact h x
  unfold scat
  rw [dif_pos h', Fin.sum_univ_def]
  unfold storeIdx
  refine foldl_add (List.finRange 16) (fun k => (idx (lane k)).toNat) (fun k => v (lane k)) f y _ ?_
  intro g k z
  by_cases hz : (z 0).val = (idx (lane k)).toNat
  · have ez : idxAt (s := ⟨1, ![n]⟩) (![idx] : Fin 1 → IVec S16 32) h' (lane k) = z := by
      funext a; fin_cases a; exact Fin.ext hz.symm
    rw [if_pos hz]
    refine (congrFun (if_pos (show (1#1 : BitVec 1) = 1 from rfl)) z).trans ((if_pos ?_).trans ?_)
    · intro a; exact congrArg (fun i => ((i a : Fin _) : ℕ)) ez.symm
    · show g _ + v _ = g z + v (lane k)
      exact congrArg (fun i => (g i : EReal) + v (lane k)) ez
  · rw [if_neg hz]
    refine (congrFun (if_pos (show (1#1 : BitVec 1) = 1 from rfl)) z).trans ((if_neg ?_).trans (add_zero _).symm)
    intro hc
    exact hz (hc 0)

end Cert.KernelIdeal.Edge

end
-- ==== Proof.AlgTile.lean ====
/- The rows a tile computes, as sums over its edges. -/
module

public import proofs.«01_k».proof.Proof.AlgSum
public import proofs.«01_k».proof.Proof.TileCopy
public import Idealize.ShloMosaic.Lib.IdealHost

@[expose] public section

set_option maxRecDepth 16384

noncomputable section

namespace Cert.KernelIdeal.Edge

open Idealize.ShloMosaic Idealize.SL.Sem
open Cert.KernelIdeal Cert.KernelIdeal.Gen
open Finset (range)

/-- A place in a vector, by its number (taken round, were it too large). -/
abbrev at1 (n : ℕ) [NeZero n] (o : ℕ) : (⟨1, ![n]⟩ : Shape).Idx := fun a => ⟨o % n, by fin_cases a; exact Nat.mod_lt _ (NeZero.pos n)⟩

/-- The graph of a tile's edge, as a number. -/
def seg (sv : Vec Ideal S10000 .i32) (e : ℕ) : ℕ := (sv (at1 10000 e) : BitVec 32).toNat

theorem rd_lane {n : ℕ} [NeZero n] {α : Type} (v : (⟨1, ![n]⟩ : Shape).Idx → α) (o : ℕ) (k : Fin 16) : rd v o (lane k) = v (at1 n (o + k.val)) := rfl

theorem one_bits : (Scalar.ofBits (F := Ideal) .f32 0x3F800000#32 : EReal) = 1 := by
  show Ideal.ofBits .f32 0x3F800000#32 = 1
  exact Ideal.ofBits_one_f32

variable (sv : Vec Ideal S10000 .i32) (av : Vec Ideal S40000 .f32)

/-- The count stripes after `G` groups. -/
theorem cntS_apply (hs : SegOk (F := Ideal) sv) (G : ℕ) (z : S2064.Idx) :
    cntS (F := Ideal) sv G z = (∑ h ∈ range G, ∑ k ∈ range 16, if (z 0).val = 129 * k + seg sv (16 * h + k) then (1 : EReal) else 0 : EReal) := by
  induction G with
  | zero => exact Ideal.ofBits_zero_f32
  | succ G ih =>
    rw [Finset.sum_range_succ, ← ih]
    refine (scat_apply (n := 2064) (cntS (F := Ideal) sv G) (idxC (F := Ideal) sv G) ones16 (fun x => idxC_lt (F := Ideal) sv hs G 0 x) z).trans ?_
    refine congrArg (fun t : EReal => (cntS (F := Ideal) sv G z : EReal) + t) ?_
    rw [← sum_fin 16 fun k => if (z 0).val = 129 * k + seg sv (16 * G + k) then (1 : EReal) else 0]
    refine Finset.sum_congr rfl fun k _ => ?_
    rw [idxC_val (F := Ideal) sv hs, rd_lane]
    refine if_congr Iff.rfl ?_ rfl
    exact one_bits

/-- One attribute of a group added into the stripes. -/
theorem accS1_apply (hs : SegOk (F := Ideal) sv) (G f : ℕ) (hf : f < 4) (L : FVec Ideal S4112 .f32) (z : S4112.Idx) :
    accS1 (F := Ideal) av sv G f L z = (L z + ∑ k ∈ range 16, if (z 0).val = 257 * k + (4 * seg sv (16 * G + k) + f) then (av (at1 40000 (10000 * f + (16 * G + k))) : EReal) else 0 : EReal) := by
  refine (scat_apply (n := 4112) L (idxA (F := Ideal) sv G f) (rd av (10000 * f + 16 * G)) (fun x => idxA_lt (F := Ideal) sv hs G f hf 0 x) z).trans ?_
  refine congrArg (fun t : EReal => (L z : EReal) + t) ?_
  rw [← sum_fin 16 fun k => if (z 0).val = 257 * k + (4 * seg sv (16 * G + k) + f) then (av (at1 40000 (10000 * f + (16 * G + k))) : EReal) else 0]
  refine Finset.sum_congr rfl fun k _ => ?_
  rw [idxA_val (F := Ideal) sv hs G f hf, rd_lane, rd_lane, Nat.add_assoc (10000 * f)]
  refine if_congr ?_ rfl rfl
  show _ = 257 * k.val + 4 * seg sv (16 * G + k.val) + f ↔ _
  omega

/-- The attribute stripes after `G` groups. -/
theorem accS_apply (hs : SegOk (F := Ideal) sv) (G : ℕ) (z : S4112.Idx) :
    accS (F := Ideal) av sv G z = (∑ f ∈ range 4, ∑ h ∈ range G, ∑ k ∈ range 16, if (z 0).val = 257 * k + (4 * seg sv (16 * h + k) + f) then (av (at1 40000 (10000 * f + (16 * h + k))) : EReal) else 0 : EReal) := by
  induction G with
  | zero => simp only [Finset.range_zero, Finset.sum_empty, Finset.sum_const_zero]; exact Ideal.ofBits_zero_f32
  | succ G ih =>
    show accS1 (F := Ideal) av sv G 3 (accS1 av sv G 2 (accS1 av sv G 1 (accS1 av sv G 0 (accS av sv G)))) z = _
    rw [accS1_apply sv av hs G 3 (by omega), accS1_apply sv av hs G 2 (by omega), accS1_apply sv av hs G 1 (by omega), accS1_apply sv av hs G 0 (by omega), ih]
    simp only [Finset.sum_range_succ _ G, Finset.sum_add_distrib]
    rw [add_assoc, add_assoc, add_assoc]
    refine congrArg _ ?_
    simp only [Finset.sum_range_succ _ 3, Finset.sum_range_succ _ 2, Finset.sum_range_succ _ 1, Finset.sum_range_one, add_assoc]

/-- The sum of the first stripes. -/
theorem psum_apply {n : ℕ} [NeZero n] (w b : ℕ) (L : FVec Ideal (⟨1, ![n]⟩ : Shape) .f32) (r : ℕ) (x : S16.Idx) :
    psum (F := Ideal) w L b r x = (∑ q ∈ range (r + 1), (L (at1 n (w * q + (16 * b + (x 0).val))) : EReal) : EReal) := by
  induction r with
  | zero =>
    rw [Finset.sum_range_one]
    show L (at1 n (16 * b + (x 0).val)) = _
    rw [Nat.mul_zero, Nat.zero_add]
  | succ r ih =>
    rw [Finset.sum_range_succ, ← ih, ← Nat.add_assoc (w * (r + 1))]
    rfl

theorem foldS_apply {n m : ℕ} [NeZero n] (w : ℕ) (L : FVec Ideal (⟨1, ![n]⟩ : Shape) .f32) (y : (⟨1, ![m]⟩ : Shape).Idx) :
    foldS (F := Ideal) w L y = (∑ q ∈ range 16, (L (at1 n (w * q + (y 0).val)) : EReal) : EReal) := by
  refine (psum_apply w _ L 15 _).trans ?_
  refine Finset.sum_congr rfl fun q _ => ?_
  show L (at1 n (w * q + (16 * ((y 0).val / 16) + (y 0).val % 16))) = _
  rw [Nat.div_add_mod]

theorem seg_lt (hs : SegOk (F := Ideal) sv) (e : ℕ) : seg sv e < 64 := hs _

/-- A tile's row of counts: how many of its edges are in each graph. -/
theorem rowC_apply (hs : SegOk (F := Ideal) sv) (y : S128.Idx) :
    rowC (F := Ideal) sv y = (∑ e ∈ range 10000, if (y 0).val = seg sv e then (1 : EReal) else 0 : EReal) := by
  have hy : (y 0).val < 128 := (y 0).isLt
  refine (foldS_apply 129 _ y).trans ?_
  rw [← sum_stripes 129 625 (y 0).val (by omega) (seg sv) (fun e => (seg_lt sv hs e).trans (by omega)) (fun _ => 1)]
  refine Finset.sum_congr rfl fun q hq => ?_
  have hq : q < 16 := Finset.mem_range.1 hq
  refine (cntS_apply sv hs 625 _).trans ?_
  have e : ((at1 2064 (129 * q + (y 0).val)) 0).val = 129 * q + (y 0).val := Nat.mod_eq_of_lt (by omega)
  rw [e]

/-- A tile's row of attribute sums. -/
theorem rowA_apply (hs : SegOk (F := Ideal) sv) (y : S256.Idx) :
    rowA (F := Ideal) av sv y = (∑ f ∈ range 4, ∑ e ∈ range 10000, if (y 0).val = 4 * seg sv e + f then (av (at1 40000 (10000 * f + e)) : EReal) else 0 : EReal) := by
  have hy : (y 0).val < 256 := (y 0).isLt
  refine (foldS_apply 257 _ y).trans ?_
  have e : ∀ q ∈ range 16, accS (F := Ideal) av sv 625 (at1 4112 (257 * q + (y 0).val)) = (∑ f ∈ range 4, ∑ h ∈ range 625, ∑ k ∈ range 16, if 257 * q + (y 0).val = 257 * k + (4 * seg sv (16 * h + k) + f) then (av (at1 40000 (10000 * f + (16 * h + k))) : EReal) else 0 : EReal) := by
    intro q hq
    have hq : q < 16 := Finset.mem_range.1 hq
    refine (accS_apply sv av hs 625 _).trans ?_
    have e : ((at1 4112 (257 * q + (y 0).val)) 0).val = 257 * q + (y 0).val := Nat.mod_eq_of_lt (by omega)
    rw [e]
  rw [Finset.sum_congr rfl e, Finset.sum_comm]
  refine Finset.sum_congr rfl fun f hf => ?_
  have hf : f < 4 := Finset.mem_range.1 hf
  exact sum_stripes 257 625 (y 0).val (by omega) (fun e => 4 * seg sv e + f) (fun e => by have := seg_lt sv hs e; show 4 * seg sv e + f < 257; omega) (fun e => av (at1 40000 (10000 * f + e)))

/-- A sum over the attributes that a place fixes. -/
theorem sum_attr (g f : ℕ) (hf : f < 4) (N : ℕ) (s : ℕ → ℕ) (v : ℕ → ℕ → EReal) :
    (∑ f' ∈ range 4, ∑ e ∈ range N, if 4 * g + f = 4 * s e + f' then v f' e else 0) = ∑ e ∈ range N, if g = s e then v f e else 0 := by
  rw [Finset.sum_eq_single f]
  · refine Finset.sum_congr rfl fun e _ => if_congr (by omega) rfl rfl
  · intro f' hf' hne
    have := Finset.mem_range.1 hf'
    exact Finset.sum_eq_zero fun e _ => if_neg (by omega)
  · intro h; exact absurd (Finset.mem_range.2 hf) h

end Cert.KernelIdeal.Edge

end
-- ==== Proof.AlgScat.lean ====
/- What a scatter-add of rows by one index column leaves, at an entry: the sum of the rows whose index names it. -/
module

public import Idealize.ShloMosaic.PureOps.Ideal.Laws
public import Idealize.ShloMosaic.Lib.ValueIdxCore
public import Idealize.ShloMosaic.Lib.IdealHost

@[expose] public section

set_option maxRecDepth 16384

noncomputable section

namespace Cert.Scat

open Idealize.ShloMosaic Idealize.ShloMosaic.ValueIdx
open Finset (range)

/-- A sum over the places of a vector. -/
theorem sum_vec {N : ℕ} (f : (⟨1, ![N]⟩ : Shape).Idx → EReal) : ∑ i, f i = ∑ n : Fin N, f (ix1 n) :=
  (Fintype.sum_equiv ⟨fun n => ix1 n, fun i => i 0, fun _ => rfl, fun i => (eq_ix1 i).symm⟩ (fun n => f (ix1 n)) f fun _ => rfl).symm

/-- One update per index: it lands where its index says. -/
theorem lands_vec {R N : ℕ} (d : ScatterDims ⟨1, ![R]⟩ ⟨2, ![N, 1]⟩ ⟨1, ![N]⟩) (hu : d.updateWindowDims = []) (hi : d.insertedWindowDims = [0])
    (hs : d.scatterDimsToOperandDims = [0]) (hv : d.indexVectorDim = 1) (idx : IVec ⟨2, ![N, 1]⟩ 32) (n : Fin N) (r : Fin R) :
    d.resultIdx? (ix1 n) idx = some (ix1 r) ↔ (idx (ix2 n 0)).toInt = r.val := by
  obtain ⟨u, iw, sd, iv, wf⟩ := d
  dsimp only at hu hi hs hv
  subst hu hi hs hv
  set d : ScatterDims ⟨1, ![R]⟩ ⟨2, ![N, 1]⟩ ⟨1, ![N]⟩ := ⟨[], [0], [0], 1, wf⟩ with hd
  have hst : d.start (ix1 n) idx 0 = (idx (ix2 n 0)).toInt := by
    unfold ScatterDims.start
    rw [dif_pos (show (0 : Fin 1) ∈ d.scatterDimsToOperandDims from List.mem_singleton.2 rfl)]
    refine congrArg (fun q => (idx q).toInt) (funext fun b => ?_)
    match b with
    | ⟨0, _⟩ => rfl
    | ⟨1, _⟩ => exact Subsingleton.elim (α := Fin 1) _ _
  have hw : d.window (ix1 n) 0 = 0 := by
    unfold ScatterDims.window
    exact dif_neg (show (0 : Fin 1) ∉ (List.finRange 1).filter (· ∉ [(0 : Fin 1)]) by decide)
  unfold ScatterDims.resultIdx?
  split
  · next h =>
    have h0 := h 0
    rw [hst, hw] at h0
    rw [Option.some.injEq]
    constructor
    · intro e
      have e0 : (d.start (ix1 n) idx 0 + d.window (ix1 n) 0).toNat = r.val := congrArg (fun q => ((q 0 : Fin _) : ℕ)) e
      rw [hst, hw] at e0
      omega
    · intro e
      funext a
      obtain rfl : a = 0 := Fin.fin_one_eq_zero a
      refine Fin.ext ?_
      show (d.start (ix1 n) idx 0 + d.window (ix1 n) 0).toNat = r.val
      rw [hst, hw]
      omega
  · next h =>
    refine ⟨fun e => (by cases e), fun e => absurd (fun a => ?_) h⟩
    obtain rfl : a = 0 := Fin.fin_one_eq_zero a
    rw [hst, hw, e]
    have := r.isLt
    exact ⟨by omega, by show (r.val : ℤ) + ((0 : ℕ) : ℤ) < ((R : ℕ) : ℤ); omega⟩

/-- One row of updates per index: it lands in the row its index says, column by column. -/
theorem lands_rows {R C N : ℕ} (d : ScatterDims ⟨2, ![R, C]⟩ ⟨2, ![N, 1]⟩ ⟨2, ![N, C]⟩) (hu : d.updateWindowDims = [1]) (hi : d.insertedWindowDims = [0])
    (hs : d.scatterDimsToOperandDims = [0]) (hv : d.indexVectorDim = 1) (idx : IVec ⟨2, ![N, 1]⟩ 32) (n : Fin N) (k : Fin C) (r : Fin R) (c : Fin C) :
    d.resultIdx? (ix2 n k) idx = some (ix2 r c) ↔ (idx (ix2 n 0)).toInt = r.val ∧ k = c := by
  obtain ⟨u, iw, sd, iv, wf⟩ := d
  dsimp only at hu hi hs hv
  subst hu hi hs hv
  set d : ScatterDims ⟨2, ![R, C]⟩ ⟨2, ![N, 1]⟩ ⟨2, ![N, C]⟩ := ⟨[1], [0], [0], 1, wf⟩ with hd
  have hst : d.start (ix2 n k) idx 0 = (idx (ix2 n 0)).toInt := by
    unfold ScatterDims.start
    rw [dif_pos (show (0 : Fin 2) ∈ d.scatterDimsToOperandDims from List.mem_singleton.2 rfl)]
    refine congrArg (fun q => (idx q).toInt) (funext fun b => ?_)
    match b with
    | ⟨0, _⟩ => rfl
    | ⟨1, _⟩ => exact Subsingleton.elim (α := Fin 1) _ _
  have hst1 : d.start (ix2 n k) idx 1 = 0 := by
    unfold ScatterDims.start
    exact dif_neg (show (1 : Fin 2) ∉ [(0 : Fin 2)] by decide)
  have hw : d.window (ix2 n k) 0 = 0 := by
    unfold ScatterDims.window
    exact dif_neg (show (0 : Fin 2) ∉ (List.finRange 2).filter (· ∉ [(0 : Fin 2)]) by decide)
  have hw1 : d.window (ix2 n k) 1 = k.val := by
    unfold ScatterDims.window
    have hm : (1 : Fin (⟨2, ![R, C]⟩ : Shape).rank) ∈ d.sKept := show (1 : Fin 2) ∈ (List.finRange 2).filter (· ∉ [(0 : Fin 2)]) by decide
    rw [dif_pos hm]
    rfl
  unfold ScatterDims.resultIdx?
  split
  · next h =>
    have h0 := h 0
    rw [hst, hw] at h0
    rw [Option.some.injEq]
    constructor
    · intro e
      have e0 : (d.start (ix2 n k) idx 0 + d.window (ix2 n k) 0).toNat = r.val := congrArg (fun q => ((q 0 : Fin _) : ℕ)) e
      have e1 : (d.start (ix2 n k) idx 1 + d.window (ix2 n k) 1).toNat = c.val := congrArg (fun q => ((q 1 : Fin _) : ℕ)) e
      rw [hst, hw] at e0
      rw [hst1, hw1] at e1
      exact ⟨by omega, Fin.ext (by omega)⟩
    · rintro ⟨e, rfl⟩
      funext a
      match a with
      | ⟨0, _⟩ =>
        refine Fin.ext ?_
        show (d.start (ix2 n k) idx 0 + d.window (ix2 n k) 0).toNat = r.val
        rw [hst, hw]
        omega
      | ⟨1, _⟩ =>
        refine Fin.ext ?_
        show (d.start (ix2 n k) idx 1 + d.window (ix2 n k) 1).toNat = k.val
        rw [hst1, hw1]
        omega
  · next h =>
    refine ⟨fun e => (by cases e), fun e => absurd (fun a => ?_) h⟩
    match a with
    | ⟨0, _⟩ =>
      have := r.isLt
      show 0 ≤ d.start (ix2 n k) idx 0 + d.window (ix2 n k) 0 ∧ d.start (ix2 n k) idx 0 + d.window (ix2 n k) 0 < ((R : ℕ) : ℤ)
      rw [hst, hw, e.1]
      omega
    | ⟨1, _⟩ =>
      have := k.isLt
      show 0 ≤ d.start (ix2 n k) idx 1 + d.window (ix2 n k) 1 ∧ d.start (ix2 n k) idx 1 + d.window (ix2 n k) 1 < ((C : ℕ) : ℤ)
      rw [hst1, hw1]
      omega

/-- A scatter-add of numbers. -/
theorem scatter_vec {R N : ℕ} (d : ScatterDims ⟨1, ![R]⟩ ⟨2, ![N, 1]⟩ ⟨1, ![N]⟩) (hu : d.updateWindowDims = []) (hi : d.insertedWindowDims = [0])
    (hs : d.scatterDimsToOperandDims = [0]) (hv : d.indexVectorDim = 1) (x : FVec Ideal ⟨1, ![R]⟩ .f32) (idx : IVec ⟨2, ![N, 1]⟩ 32)
    (upd : FVec Ideal ⟨1, ![N]⟩ .f32) (r : Fin R) :
    Host.scatterAdd (F := Ideal) d x idx upd (ix1 r) = (x (ix1 r) + ∑ n : Fin N, if (idx (ix2 n 0)).toInt = r.val then upd (ix1 n) else 0 : EReal) := by
  show (x (ix1 r) + ∑ j ∈ Finset.univ.filter (fun j => d.resultIdx? j idx = some (ix1 r)), upd j : EReal) = _
  rw [Finset.sum_filter, sum_vec]
  refine congrArg (fun t : EReal => (x (ix1 r) : EReal) + t) (Finset.sum_congr rfl fun n _ => ?_)
  exact if_congr (lands_vec d hu hi hs hv idx n r) rfl rfl

/-- A scatter-add of rows. -/
theorem scatter_rows {R C N : ℕ} (d : ScatterDims ⟨2, ![R, C]⟩ ⟨2, ![N, 1]⟩ ⟨2, ![N, C]⟩) (hu : d.updateWindowDims = [1]) (hi : d.insertedWindowDims = [0])
    (hs : d.scatterDimsToOperandDims = [0]) (hv : d.indexVectorDim = 1) (x : FVec Ideal ⟨2, ![R, C]⟩ .f32) (idx : IVec ⟨2, ![N, 1]⟩ 32)
    (upd : FVec Ideal ⟨2, ![N, C]⟩ .f32) (r : Fin R) (c : Fin C) :
    Host.scatterAdd (F := Ideal) d x idx upd (ix2 r c) = (x (ix2 r c) + ∑ n : Fin N, if (idx (ix2 n 0)).toInt = r.val then upd (ix2 n c) else 0 : EReal) := by
  show (x (ix2 r c) + ∑ j ∈ Finset.univ.filter (fun j => d.resultIdx? j idx = some (ix2 r c)), upd j : EReal) = _
  rw [Finset.sum_filter, sum_idx2]
  refine congrArg (fun t : EReal => (x (ix2 r c) : EReal) + t) (Finset.sum_congr rfl fun n _ => ?_)
  rw [Finset.sum_eq_single c]
  · exact if_congr ((lands_rows d hu hi hs hv idx n c r c).trans (and_iff_left rfl)) rfl rfl
  · intro k _ hk
    exact if_neg fun e => hk ((lands_rows d hu hi hs hv idx n k r c).1 e).2
  · intro h; exact absurd (Finset.mem_univ c) h

/-- A signed reading of a word is a small number when its unsigned one is. -/
theorem toInt_eq (w : BitVec 32) (g : ℕ) (hg : g < 64) : w.toInt = g ↔ w.toNat = g := by
  have := w.isLt
  rw [BitVec.toInt_eq_toNat_cond]
  split <;> omega

end Cert.Scat

end
-- ==== Proof.AlgRef.lean ====
/- What the reference computes, at an entry of its result: sums over nodes and edges and a few operations on them. -/
module

public import proofs.«01_k».proof.Proof.AlgScat
public import proofs.«01_k».proof.Proof.Ref

@[expose] public section

set_option maxRecDepth 16384

noncomputable section

namespace Cert.Spec

open Idealize.ShloMosaic Idealize.ShloMosaic.ValueIdx

/-- The sum of the rows of `x` that `b` puts into group `g`, at column `c`. -/
def pool {N C : ℕ} (b : IVec ⟨1, ![N]⟩ 32) (x : FVec Ideal ⟨2, ![N, C]⟩ .f32) (g : Fin 64) (c : Fin C) : EReal :=
  ∑ n : Fin N, if (b (ix1 n)).toNat = g.val then x (ix2 n c) else 0
/-- How many numbers of `b` are `g`. -/
def count {N : ℕ} (b : IVec ⟨1, ![N]⟩ 32) (g : Fin 64) : EReal := ∑ n : Fin N, if (b (ix1 n)).toNat = g.val then 1 else 0

/-- A mean's squared distance from a given number, the mean taken of at least one. -/
def dist2 (s n m : EReal) : EReal := (Ideal.div s (max n 1) - m) * (Ideal.div s (max n 1) - m)
/-- The count's penalty. -/
def penalty (n : EReal) : EReal :=
  let r : EReal := n - Ideal.ofBits .f32 0x41A80000#32
  let q : EReal := Scalar.select (FloatOps.cmpf (F := Ideal) (φ := .f32) .oge r (0 : EReal)) r (Ideal.ofBits .f32 0x3E99999A#32 * r)
  q * q

/-- The result for graph `g`. -/
def value (x : FVec Ideal ⟨2, ![10000, 128]⟩ .f32) (b : IVec ⟨1, ![10000]⟩ 32) (a : FVec Ideal ⟨2, ![320000, 4]⟩ .f32) (G : IVec ⟨1, ![320000]⟩ 32)
    (mx : FVec Ideal ⟨2, ![1, 128]⟩ .f32) (me : FVec Ideal ⟨2, ![1, 4]⟩ .f32) (g : Fin 64) : EReal :=
  -((Ideal.ofBits .f32 0x40400000#32 * ∑ c : Fin 128, dist2 (pool b x g c) (count b g) (mx (ix2 0 c)))
      + (Ideal.ofBits .f32 0x40400000#32 * ∑ f : Fin 4, dist2 (pool G a g f) (count G g) (me (ix2 0 f)))
      + penalty (count G g))

end Cert.Spec

namespace Cert.ReferenceIdeal.Read

open Idealize.ShloMosaic Idealize.ShloMosaic.ValueIdx Cert.ReferenceIdeal Cert.ReferenceIdeal.Gen Cert.Spec Cert.Scat

variable (x0 : (⟨S10000x128, .f32⟩ : BufTy).Contents (Elt Ideal)) (x1 : (⟨S10000, .i32⟩ : BufTy).Contents (Elt Ideal))
  (x2 : (⟨S320000x4, .f32⟩ : BufTy).Contents (Elt Ideal)) (x3 : (⟨S2x320000, .i32⟩ : BufTy).Contents (Elt Ideal))
  (x4 : (⟨S320000, .i32⟩ : BufTy).Contents (Elt Ideal)) (x5 : (⟨S1x128, .f32⟩ : BufTy).Contents (Elt Ideal)) (x6 : (⟨S1x4, .f32⟩ : BufTy).Contents (Elt Ideal))

/-- The nodes' sums. -/
theorem v2_eq (g : Fin 64) (c : Fin 128) : val_main_v2 (F := Ideal) x0 x1 (ix2 g c) = pool (N := 10000) (C := 128) x1 x0 g c := by
  refine (scatter_rows scatter_S64x128_S10000x1_S10000x128_1_0_0_1 rfl rfl rfl rfl _ _ _ g c).trans ?_
  rw [val_main_v0_apply, val_main_cst_apply]
  refine (congrArg (fun t : EReal => t + _) Ideal.ofBits_zero_f32).trans ((zero_add _).trans ?_)
  refine Finset.sum_congr rfl fun n _ => ?_
  rw [val_main_v1_apply]
  exact if_congr ((toInt_eq _ g.val g.isLt).trans (iff_of_eq (congrArg (fun q => BitVec.toNat (x1 q) = g.val) (funext fun a => match a with | ⟨0, _⟩ => rfl)))) rfl rfl

/-- The nodes' counts. -/
theorem v6_eq (g : Fin 64) : val_main_v6 (F := Ideal) x1 (ix1 g) = count (N := 10000) x1 g := by
  refine (scatter_vec scatter_S64_S10000x1_S10000_n_0_0_1 rfl rfl rfl rfl _ _ _ g).trans ?_
  rw [val_main_v4_apply, val_main_cst_1_apply]
  refine (congrArg (fun t : EReal => t + _) Ideal.ofBits_zero_f32).trans ((zero_add _).trans ?_)
  refine Finset.sum_congr rfl fun n _ => ?_
  rw [val_main_v5_apply, val_main_v3_apply, val_main_cst_0_apply]
  exact if_congr ((toInt_eq _ g.val g.isLt).trans (iff_of_eq (congrArg (fun q => BitVec.toNat (x1 q) = g.val) (funext fun a => match a with | ⟨0, _⟩ => rfl)))) Ideal.ofBits_one_f32 rfl

/-- The edges' sums. -/
theorem v20_eq (g : Fin 64) (f : Fin 4) : val_main_v20 (F := Ideal) x2 x4 (ix2 g f) = pool (N := 320000) (C := 4) x4 x2 g f := by
  refine (scatter_rows scatter_S64x4_S320000x1_S320000x4_1_0_0_1 rfl rfl rfl rfl _ _ _ g f).trans ?_
  rw [val_main_v18_apply, val_main_cst_5_apply]
  refine (congrArg (fun t : EReal => t + _) Ideal.ofBits_zero_f32).trans ((zero_add _).trans ?_)
  refine Finset.sum_congr rfl fun n _ => ?_
  rw [val_main_v19_apply]
  exact if_congr ((toInt_eq _ g.val g.isLt).trans (iff_of_eq (congrArg (fun q => BitVec.toNat (x4 q) = g.val) (funext fun a => match a with | ⟨0, _⟩ => rfl)))) rfl rfl

/-- The edges' counts. -/
theorem v24_eq (g : Fin 64) : val_main_v24 (F := Ideal) x4 (ix1 g) = count (N := 320000) x4 g := by
  refine (scatter_vec scatter_S64_S320000x1_S320000_n_0_0_1 rfl rfl rfl rfl _ _ _ g).trans ?_
  rw [val_main_v22_apply, val_main_cst_7_apply]
  refine (congrArg (fun t : EReal => t + _) Ideal.ofBits_zero_f32).trans ((zero_add _).trans ?_)
  refine Finset.sum_congr rfl fun n _ => ?_
  rw [val_main_v23_apply, val_main_v21_apply, val_main_cst_6_apply]
  exact if_congr ((toInt_eq _ g.val g.isLt).trans (iff_of_eq (congrArg (fun q => BitVec.toNat (x4 q) = g.val) (funext fun a => match a with | ⟨0, _⟩ => rfl)))) Ideal.ofBits_one_f32 rfl

/-- An edge whose first end is a node number counts one. -/
theorem v40_eq (h : ∀ i, 0 ≤ (val_main_v37 (F := Ideal) x3 i : BitVec 32).toInt) (i : S320000.Idx) : val_main_v40 (F := Ideal) x3 i = (1 : EReal) := by
  rw [val_main_v40_apply, val_main_v39_apply, val_main_v38_apply, val_main_c_apply]
  have e : IntOp.cmpi .sgt (val_main_v37 (F := Ideal) x3 i : BitVec 32) 4294967295#32 = 1#1 := by
    have h' := h i
    have e2 : (4294967295#32 : BitVec 32).toInt = -1 := by decide
    unfold IntOp.cmpi
    simp only [BitVec.slt, e2]
    have : (-1 : ℤ) < (val_main_v37 (F := Ideal) x3 i : BitVec 32).toInt := by omega
    simp [this]
  rw [e]
  show ((((1#1 : BitVec 1).toNat : ℝ)) : EReal) = 1
  simp

/-- The counts of the edges whose first end is a node number: all of them. -/
theorem v43_eq (h : ∀ i, 0 ≤ (val_main_v37 (F := Ideal) x3 i : BitVec 32).toInt) (g : Fin 64) : val_main_v43 (F := Ideal) x3 x4 (ix1 g) = count (N := 320000) x4 g := by
  refine (scatter_vec scatter_S64_S320000x1_S320000_n_0_0_1 rfl rfl rfl rfl _ _ _ g).trans ?_
  rw [val_main_v41_apply, val_main_cst_11_apply]
  refine (congrArg (fun t : EReal => t + _) Ideal.ofBits_zero_f32).trans ((zero_add _).trans ?_)
  refine Finset.sum_congr rfl fun n _ => ?_
  rw [val_main_v42_apply, v40_eq x3 h]
  exact if_congr ((toInt_eq _ g.val g.isLt).trans (iff_of_eq (congrArg (fun q => BitVec.toNat (x4 q) = g.val) (funext fun a => match a with | ⟨0, _⟩ => rfl)))) rfl rfl

/-- The nodes' part. -/
theorem v14_eq (g : Fin 64) (c : Fin 128) : val_main_v14 (F := Ideal) x0 x1 x5 (ix2 g c) = dist2 (pool (N := 10000) (C := 128) x1 x0 g c) (count (N := 10000) x1 g) (x5 (ix2 0 c)) := by
  rw [val_main_v14_apply, val_main_v13_apply, val_main_v11_apply, val_main_v12_apply, val_main_v10_apply, val_main_v9_apply, val_main_v8_apply, v2_eq,
    val_main_v7_apply, val_main_cst_2_apply]
  have e : idx_main_v9 (idx_main_v10 (ix2 g c)) = ix1 g := funext fun a => match a with | ⟨0, _⟩ => rfl
  have e2 : idx_main_v12 (ix2 g c) = ix2 (0 : Fin 1) c := funext fun a => match a with | ⟨0, _⟩ => rfl | ⟨1, _⟩ => rfl
  rw [e, e2, v6_eq]
  show (Ideal.div _ (max _ (Ideal.ofBits .f32 0x3F800000#32)) - _) * (Ideal.div _ (max _ (Ideal.ofBits .f32 0x3F800000#32)) - _) = _
  rw [Ideal.ofBits_one_f32]
  rfl

/-- The edges' part. -/
theorem v32_eq (g : Fin 64) (f : Fin 4) : val_main_v32 (F := Ideal) x2 x4 x6 (ix2 g f) = dist2 (pool (N := 320000) (C := 4) x4 x2 g f) (count (N := 320000) x4 g) (x6 (ix2 0 f)) := by
  rw [val_main_v32_apply, val_main_v31_apply, val_main_v29_apply, val_main_v30_apply, val_main_v28_apply, val_main_v27_apply, val_main_v26_apply, v20_eq,
    val_main_v25_apply, val_main_cst_8_apply]
  have e : idx_main_v27 (idx_main_v28 (ix2 g f)) = ix1 g := funext fun a => match a with | ⟨0, _⟩ => rfl
  have e2 : idx_main_v30 (ix2 g f) = ix2 (0 : Fin 1) f := funext fun a => match a with | ⟨0, _⟩ => rfl | ⟨1, _⟩ => rfl
  rw [e, e2, v24_eq]
  show (Ideal.div _ (max _ (Ideal.ofBits .f32 0x3F800000#32)) - _) * (Ideal.div _ (max _ (Ideal.ofBits .f32 0x3F800000#32)) - _) = _
  rw [Ideal.ofBits_one_f32]
  rfl

/-- The counts' part. -/
theorem v49_eq (h : ∀ i, 0 ≤ (val_main_v37 (F := Ideal) x3 i : BitVec 32).toInt) (g : Fin 64) : val_main_v49 (F := Ideal) x3 x4 (ix1 g) = penalty (count (N := 320000) x4 g) := by
  rw [val_main_v49_apply, val_main_v48_apply, val_main_cst_14_apply, val_main_v47_apply, val_main_v46_apply, val_main_call0_v1_apply, val_main_call0_v4_apply,
    val_main_call0_v0_apply, val_main_call0_v3_apply, val_main_call0_v2_apply, val_main_call0_cst_apply, val_main_cst_13_apply, val_main_v45_apply, v43_eq x3 x4 h,
    val_main_v44_apply, val_main_cst_12_apply]
  have z : (FloatOps.ofBits (F := Ideal) .f32 0x00000000#32 : EReal) = 0 := Ideal.ofBits_zero_f32
  have o : (FloatOps.ofBits (F := Ideal) .f32 0x3F800000#32 : EReal) = 1 := Ideal.ofBits_one_f32
  rw [z, o]
  exact mul_one (penalty (count (N := 320000) x4 g))

/-- The reference's result for graph `g`. -/
theorem ref_eq (h : ∀ i, 0 ≤ (val_main_v37 (F := Ideal) x3 i : BitVec 32).toInt) (g : Fin 64) :
    val_main_v52 (F := Ideal) x0 x1 x2 x3 x4 x5 x6 (ix1 g) = value x0 x1 x2 x4 x5 x6 g := by
  rw [val_main_v52_apply, val_main_v51_apply, val_main_v50_apply, v49_eq x3 x4 h, val_main_v17_apply, val_main_v35_apply, val_main_v15_apply, val_main_v33_apply,
    val_main_v16_apply, val_main_v34_apply, val_main_cst_3_apply, val_main_cst_4_apply, val_main_cst_9_apply, val_main_cst_10_apply]
  have e1 : ∀ c : Fin 128, val_main_v14 (F := Ideal) x0 x1 x5 (idx_main_v15 (ix1 g) c) = dist2 (pool (N := 10000) (C := 128) x1 x0 g c) (count (N := 10000) x1 g) (x5 (ix2 0 c)) :=
    fun c => (congrArg _ (funext fun a => match a with | ⟨0, _⟩ => rfl | ⟨1, _⟩ => rfl)).trans (v14_eq x0 x1 x5 g c)
  have e2 : ∀ f : Fin 4, val_main_v32 (F := Ideal) x2 x4 x6 (idx_main_v33 (ix1 g) f) = dist2 (pool (N := 320000) (C := 4) x4 x2 g f) (count (N := 320000) x4 g) (x6 (ix2 0 f)) :=
    fun f => (congrArg _ (funext fun a => match a with | ⟨0, _⟩ => rfl | ⟨1, _⟩ => rfl)).trans (v32_eq x2 x4 x6 g f)
  have z : (FloatOps.ofBits (F := Ideal) .f32 0x00000000#32 : EReal) = 0 := Ideal.ofBits_zero_f32
  rw [z]
  simp only [e1, e2]
  unfold value
  rw [mul_comm (Ideal.ofBits .f32 0x40400000#32), mul_comm (Ideal.ofBits .f32 0x40400000#32), zero_add, zero_add]
  rfl

end Cert.ReferenceIdeal.Read

end
-- ==== Proof.AlgPool.lean ====
/- The pooling of the nodes: the two results of the first call are the sums and the counts of each graph's nodes. -/
module

public import proofs.«01_k».proof.Proof.Pool
public import proofs.«01_k».proof.Proof.AlgTile
public import proofs.«01_k».proof.Proof.AlgRef
public import Idealize.ShloMosaic.Lib.MatmulPlain

@[expose] public section

set_option maxRecDepth 16384

noncomputable section

namespace Cert.KernelIdeal.Edge

open Idealize.ShloMosaic Idealize.ShloMosaic.ValueIdx Idealize.ShloMosaic.Tactic Idealize.SL.Sem
open Cert.KernelIdeal Cert.KernelIdeal.Gen
open Finset (range)

/-! ## One-hot numbers -/

/-- The float of a widened equality bit is one where the words are equal, else nought. -/
theorem oneHot (a b : BitVec 32) : (FloatOps.sitofp (F := Ideal) .f32 ((IntOp.cmpi .eq a b).setWidth 32) : EReal) = if a = b then 1 else 0 := by
  show ((((IntOp.cmpi .eq a b).setWidth 32 : BitVec 32).toInt : ℝ) : EReal) = _
  by_cases h : a = b
  · have e : IntOp.cmpi .eq a b = 1#1 := by unfold IntOp.cmpi; simp [h]
    rw [e, if_pos h]
    have : ((1#1 : BitVec 1).setWidth 32 : BitVec 32).toInt = 1 := by decide
    rw [this]; simp
  · have e : IntOp.cmpi .eq a b = 0#1 := by
      unfold IntOp.cmpi
      exact congrArg BitVec.ofBool (beq_eq_false_iff_ne.2 h)
    rw [e, if_neg h]
    have : ((0#1 : BitVec 1).setWidth 32 : BitVec 32).toInt = 0 := by decide
    rw [this]; simp

/-- A word is a small number when its unsigned reading is. -/
theorem eq_ofNat (a : BitVec 32) (g : ℕ) (hg : g < 64) : a = BitVec.ofNat 32 g ↔ a.toNat = g := by
  have := a.isLt
  rw [← BitVec.toNat_inj, BitVec.toNat_ofNat, Nat.mod_eq_of_lt (by omega)]

theorem one_hot_mul (p : Prop) [Decidable p] (x : EReal) : (if p then (1 : EReal) else 0) * x = if p then x else 0 := by
  split
  · exact one_mul x
  · exact zero_mul x

/-! ## The payloads of the pooling -/

theorem pay3_apply (v : Vec Ideal S1x1x1000 .i32) (g : Fin 64) (n : Fin 1000) :
    k0_pay3 (F := Ideal) v (ix2 g n) = (if (v (ix3 0 0 n) : BitVec 32).toNat = g.val then 1 else 0 : EReal) := by
  have e : broadcastTo S64x1000 (shapeCast S1x1000 (shapeCast S1000 v shapeCasts_S1x1x1000_S1000) shapeCasts_S1000_S1x1000) broadcasts_S1x1000_S64x1000 (ix2 g n) = v (ix3 0 0 n) := by
    refine (broadcastTo_apply _ _ (ix2 g n) (ix2 (0 : Fin 1) n) (fun a => match a with
      | ⟨0, _⟩ => by show 0 = if (1 : ℕ) = 1 then 0 else _; rw [if_pos rfl]
      | ⟨1, _⟩ => by show n.val = if (1000 : ℕ) = 1 then 0 else n.val; rw [if_neg (by decide)])).trans ?_
    refine (shapeCast_apply _ _ (ix2 (0 : Fin 1) n) (ix1 n) ?_).trans ?_
    · rw [Shape.rowMajor_val_two, Shape.rowMajor_val_one]; show n.val = 0 * 1000 + n.val; omega
    refine shapeCast_apply _ _ (ix1 n) (ix3 (0 : Fin 1) (0 : Fin 1) n) ?_
    rw [Shape.rowMajor_val_three, Shape.rowMajor_val_one]; show (0 * 1 + 0) * 1000 + n.val = n.val; omega
  refine (oneHot _ _).trans (if_congr ?_ rfl rfl)
  refine Iff.trans (iff_of_eq (congrArg₂ (fun a b : BitVec 32 => a = b) e ?_)) (eq_ofNat _ g.val g.isLt)
  show BitVec.ofNat 32 (0 * 64 + g.val) = _
  rw [Nat.zero_mul, Nat.zero_add]

theorem pay4_apply (v : Vec Ideal S1x1x1000 .i32) (a : Vec Ideal S64x128 .f32) (x : Vec Ideal S1000x128 .f32) (g : Fin 64) (c : Fin 128) :
    k0_pay4 (F := Ideal) v a x (ix2 g c) = (a (ix2 g c) + ∑ n : Fin 1000, if (v (ix3 0 0 n) : BitVec 32).toNat = g.val then (x (ix2 n c) : EReal) else 0 : EReal) := by
  unfold k0_pay4
  rw [shapeCast_self]
  refine congrArg (fun t : EReal => (a (ix2 g c) : EReal) + t) ?_
  refine (Ideal.matmul_plain_apply (M := 64) (K := 1000) (N := 128) none (k0_pay3 (F := Ideal) v) x (constant S64x128 .f32 0x00000000#32) g c).trans ?_
  refine (congrArg (fun t : EReal => t + _) Ideal.ofBits_zero_f32).trans ((zero_add _).trans ?_)
  refine Finset.sum_congr rfl fun n _ => ?_
  rw [pay3_apply, one_hot_mul]

theorem pay5_apply (v : Vec Ideal S1x1x1000 .i32) (a : Vec Ideal S64x1 .f32) (g : Fin 64) :
    k0_pay5 (F := Ideal) v a (ix2 g 0) = (a (ix2 g 0) + ∑ n : Fin 1000, if (v (ix3 0 0 n) : BitVec 32).toNat = g.val then (1 : EReal) else 0 : EReal) := by
  unfold k0_pay5
  rw [shapeCast_self]
  refine congrArg (fun t : EReal => (a (ix2 g 0) : EReal) + t) ?_
  refine (shapeCast_apply _ _ (ix2 g (0 : Fin 1)) (ix1 g) ?_).trans ?_
  · rw [Shape.rowMajor_val_two, Shape.rowMajor_val_one]; show g.val = g.val * 1 + 0; omega
  refine (Ideal.multiReduction_add_single _ _ reduces_S64x1000_S64 _ _ (ix1 g)).trans ?_
  refine Finset.sum_congr rfl fun n _ => ?_
  refine Eq.trans (congrArg (k0_pay3 (F := Ideal) v) ?_) (pay3_apply v g n)
  funext b
  match b with
  | ⟨0, _⟩ => rfl
  | ⟨1, _⟩ => rfl

/-! ## The blocks -/

variable (B : Dev nD → IVec S10x1x1000 32) (X : Dev nD → FVec Ideal S10000x128 .f32)

theorem blkB_apply (c : Dev nD) (t : Fin cfg0.N) (n : Fin 1000) (ht : t.val < 10) :
    blkB (F := Ideal) B c t (ix3 0 0 n) = B c (ix3 ⟨t.val, ht⟩ 0 n) := by
  refine congrArg (B c) ?_
  have e := (by decide +kernel : ∀ t : Fin grid0.N, win0_0.index t = ![t.val, 0, 0]) t
  blk_ext [e]

theorem blkX_apply (c : Dev nD) (t : Fin cfg0.N) (n : Fin 1000) (k : Fin 128) (ht : t.val < 10) :
    blkX (F := Ideal) X c t (ix2 n k) = X c (ix2 ⟨1000 * t.val + n.val, by have := n.isLt; omega⟩ k) := by
  refine congrArg (X c) ?_
  have e := (by decide +kernel : ∀ t : Fin grid0.N, win0_1.index t = ![t.val, 0]) t
  blk_ext [e]
  show t.val * 1000 + n.val = 1000 * t.val + n.val
  omega

/-! ## The sums -/

/-- A node's number taken round, were it too large. -/
abbrev node (e : ℕ) : Fin 10000 := ⟨e % 10000, Nat.mod_lt _ (by decide)⟩

theorem node_block (t : ℕ) (ht : t < 10) (n : Fin 1000) : (⟨1000 * t + n.val, by have := n.isLt; omega⟩ : Fin 10000) = node (1000 * t + n.val) :=
  Fin.ext (Nat.mod_eq_of_lt (by have := n.isLt; omega)).symm

variable (b : Dev nD → IVec S10000 32) (c : Dev nD)

/-- The blocks of graph numbers are the graph numbers in order. -/
theorem blk_cast (t : ℕ) (ht : t < 10) (n : Fin 1000) :
    shapeCast S10x1x1000 (b c) shapeCasts_S10000_S10x1x1000 (ix3 ⟨t, ht⟩ 0 n) = b c (ix1 (node (1000 * t + n.val))) := by
  refine shapeCast_apply _ _ (ix3 (⟨t, ht⟩ : Fin 10) (0 : Fin 1) n) (ix1 (node (1000 * t + n.val))) ?_
  rw [Shape.rowMajor_val_three, Shape.rowMajor_val_one, ← node_block t ht n]
  show 1000 * t + n.val = (t * 1 + 0) * 1000 + n.val
  omega

/-- What one block adds to a graph's sum, and to its count. -/
theorem block_sum (h : ∀ c, B c = shapeCast S10x1x1000 (b c) shapeCasts_S10000_S10x1x1000) (t : Fin cfg0.N) (g : Fin 64) (f : Fin 1000 → EReal) (F' : ℕ → EReal)
    (hF : ∀ n, f n = F' (1000 * t.val + n.val)) :
    (∑ n : Fin 1000, if (blkB (F := Ideal) B c t (ix3 0 0 n) : BitVec 32).toNat = g.val then f n else 0)
      = ∑ k ∈ range 1000, if (b c (ix1 (node (1000 * t.val + k))) : BitVec 32).toNat = g.val then F' (1000 * t.val + k) else 0 := by
  have ht : t.val < 10 := lt_of_lt_of_eq t.isLt (show cfg0.N = 10 from N_0)
  rw [← sum_fin 1000 fun k => if (b c (ix1 (node (1000 * t.val + k))) : BitVec 32).toNat = g.val then F' (1000 * t.val + k) else 0]
  refine Finset.sum_congr rfl fun n _ => ?_
  rw [blkB_apply B c t n ht, h c, blk_cast b c t.val ht n, hF]

theorem zero_bits : (Scalar.ofBits (F := Ideal) .f32 0x00000000#32 : EReal) = 0 := Ideal.ofBits_zero_f32

/-- The two results after each point. -/
theorem poolAt_apply (h : ∀ c, B c = shapeCast S10x1x1000 (b c) shapeCasts_S10000_S10x1x1000) (g : Fin 64) (j : Fin 128) (n : ℕ) (hn : n < cfg0.N) :
    (poolAt (F := Ideal) B X c n hn).1 (ix2 g j)
        = (∑ t ∈ range (n + 1), ∑ k ∈ range 1000, if (b c (ix1 (node (1000 * t + k))) : BitVec 32).toNat = g.val then (X c (ix2 (node (1000 * t + k)) j) : EReal) else 0 : EReal)
      ∧ (poolAt (F := Ideal) B X c n hn).2 (ix2 g 0)
        = (∑ t ∈ range (n + 1), ∑ k ∈ range 1000, if (b c (ix1 (node (1000 * t + k))) : BitVec 32).toNat = g.val then (1 : EReal) else 0 : EReal) := by
  have hX : ∀ t : Fin cfg0.N, ∀ k : Fin 1000, (blkX (F := Ideal) X c t (ix2 k j) : EReal) = X c (ix2 (node (1000 * t.val + k.val)) j) := by
    intro t k
    have ht : t.val < 10 := lt_of_lt_of_eq t.isLt (show cfg0.N = 10 from N_0)
    rw [blkX_apply X c t k j ht, node_block t.val ht k]
  induction n with
  | zero =>
    rw [Finset.sum_range_one, Finset.sum_range_one]
    constructor
    · refine (pay4_apply _ _ _ g j).trans ?_
      refine (congrArg (fun t : EReal => t + _) zero_bits).trans ((zero_add _).trans ?_)
      exact block_sum B b c h ⟨0, hn⟩ g _ (fun e => X c (ix2 (node e) j)) (hX ⟨0, hn⟩)
    · refine (pay5_apply _ _ g).trans ?_
      refine (congrArg (fun t : EReal => t + _) zero_bits).trans ((zero_add _).trans ?_)
      exact block_sum B b c h ⟨0, hn⟩ g _ (fun _ => 1) fun _ => rfl
  | succ n ih =>
    obtain ⟨i1, i2⟩ := ih (Nat.lt_of_succ_lt hn)
    rw [Finset.sum_range_succ _ (n + 1), Finset.sum_range_succ _ (n + 1), ← i1, ← i2]
    constructor
    · refine (pay4_apply _ _ _ g j).trans ?_
      exact congrArg (fun t : EReal => _ + t) (block_sum B b c h ⟨n + 1, hn⟩ g _ (fun e => X c (ix2 (node e) j)) (hX ⟨n + 1, hn⟩))
    · refine (pay5_apply _ _ g).trans ?_
      exact congrArg (fun t : EReal => _ + t) (block_sum B b c h ⟨n + 1, hn⟩ g _ (fun _ => 1) fun _ => rfl)

theorem node_val (n : Fin 10000) : node n.val = n := Fin.ext (Nat.mod_eq_of_lt n.isLt)

/-- The first call's sums. -/
theorem xs_eq (h : ∀ c, B c = shapeCast S10x1x1000 (b c) shapeCasts_S10000_S10x1x1000) (g : Fin 64) (j : Fin 128) :
    xsOf (F := Ideal) B X c (ix2 g j) = Spec.pool (N := 10000) (C := 128) (b c) (X c) g j := by
  refine ((poolAt_apply B X b c h g j 9 _).1).trans ?_
  rw [sum_blocks 10 1000 (fun e => if (b c (ix1 (node e)) : BitVec 32).toNat = g.val then (X c (ix2 (node e) j) : EReal) else 0), ← sum_fin]
  unfold Spec.pool
  refine Finset.sum_congr rfl fun n _ => ?_
  rw [node_val]

/-- The first call's counts. -/
theorem xc_eq (h : ∀ c, B c = shapeCast S10x1x1000 (b c) shapeCasts_S10000_S10x1x1000) (g : Fin 64) :
    xcOf (F := Ideal) B X c (ix2 g 0) = Spec.count (N := 10000) (b c) g := by
  refine ((poolAt_apply B X b c h g 0 9 _).2).trans ?_
  rw [sum_blocks 10 1000 (fun e => if (b c (ix1 (node e)) : BitVec 32).toNat = g.val then (1 : EReal) else 0), ← sum_fin]
  unfold Spec.count
  refine Finset.sum_congr rfl fun n _ => ?_
  rw [node_val]

end Cert.KernelIdeal.Edge

end
-- ==== Proof.AlgEdge.lean ====
/- The pooling of the edges: the sums of the tiles' rows are the sums and the counts of each graph's edges. -/
module

public import proofs.«01_k».proof.Proof.Comb
public import proofs.«01_k».proof.Proof.TileObl
public import proofs.«01_k».proof.Proof.AlgTile
public import proofs.«01_k».proof.Proof.AlgRef

@[expose] public section

set_option maxRecDepth 16384

noncomputable section

namespace Cert.KernelIdeal.Edge

open Idealize.ShloMosaic Idealize.ShloMosaic.ValueIdx Idealize.SL.Sem
open Cert.KernelIdeal Cert.KernelIdeal.Gen
open Finset (range)

/-! ## The sums of the rows -/

/-- A sum of thirty-two numbers, added one after the other. -/
theorem sum_rows (r : Fin 32 → EReal) :
    r 0 + r 1 + r 2 + r 3 + r 4 + r 5 + r 6 + r 7 + r 8 + r 9 + r 10 + r 11 + r 12 + r 13 + r 14 + r 15 + r 16 + r 17 + r 18 + r 19 + r 20 + r 21
      + r 22 + r 23 + r 24 + r 25 + r 26 + r 27 + r 28 + r 29 + r 30 + r 31 = ∑ k : Fin 32, r k := by
  simp only [Fin.sum_univ_castSucc, Fin.sum_univ_zero, zero_add]
  rfl

theorem sumE_apply (r : Fin 32 → Vec Ideal S1x256 .f32) (j : S1x256.Idx) : sumE (F := Ideal) r j = (∑ k : Fin 32, (r k j : EReal) : EReal) := by
  rw [← sum_rows fun k => r k j]
  unfold sumE k2_pay12 k2_pay10 k2_pay8 k2_pay6 k2_pay4 k2_pay2
  simp only [shapeCast_self]
  rfl

theorem sumN_apply (r : Fin 32 → Vec Ideal S1x128 .f32) (g : Fin 64) :
    sumN (F := Ideal) r (ix2 0 g) = (∑ k : Fin 32, (r k (ix2 (0 : Fin 1) (⟨g.val, by have := g.isLt; omega⟩ : Fin 128)) : EReal) : EReal) := by
  rw [← sum_rows fun k => r k (ix2 (0 : Fin 1) (⟨g.val, by have := g.isLt; omega⟩ : Fin 128))]
  unfold sumN k2_pay13 k2_pay11 k2_pay9 k2_pay7 k2_pay5 k2_pay3
  simp only [shapeCast_self]
  refine (extractStridedSlice_apply ![0, 0] _ slices_S1x128_o0_0_S1x64 (ix2 0 g) (ix2 (0 : Fin 1) (⟨g.val, by have := g.isLt; omega⟩ : Fin 128)) (fun a => match a with
    | ⟨0, _⟩ => by show 0 = 0 + 0; rfl
    | ⟨1, _⟩ => by show g.val = 0 + g.val; omega)).trans ?_
  rfl

theorem rowE_apply (ea : Vec Ideal S32x256 .f32) (k : Fin 32) (j : Fin 256) : rowE (F := Ideal) ea k (ix2 0 j) = ea (ix2 k j) := by
  refine congrArg ea (Rect.emb_eq_of_coords _ _ _ fun a => ?_)
  match a with
  | ⟨0, _⟩ => show k.val = k.val + 1 * 0; omega
  | ⟨1, _⟩ => show j.val = 0 + 1 * j.val; omega

theorem rowN_apply (ec : Vec Ideal S32x128 .f32) (k : Fin 32) (j : Fin 128) : rowN (F := Ideal) ec k (ix2 0 j) = ec (ix2 k j) := by
  refine congrArg ec (Rect.emb_eq_of_coords _ _ _ fun a => ?_)
  match a with
  | ⟨0, _⟩ => show k.val = k.val + 1 * 0; omega
  | ⟨1, _⟩ => show j.val = 0 + 1 * j.val; omega

/-! ## The tiles' rows -/

/-- An edge's number taken round, were it too large. -/
abbrev edge (e : ℕ) : Fin 320000 := ⟨e % 320000, Nat.mod_lt _ (by decide)⟩

theorem edge_val (e : Fin 320000) : edge e.val = e := Fin.ext (Nat.mod_eq_of_lt e.isLt)

variable (G : IVec S320000 32)

theorem seg_edge (w e : ℕ) (he : e < 10000) : seg (svOf G w) e = (G (ix1 (edge (10000 * w + e))) : BitVec 32).toNat := by
  refine congrArg (fun q => BitVec.toNat (G q)) (funext fun a => ?_)
  match a with
  | ⟨0, _⟩ =>
    refine Fin.ext ?_
    show (w * 10000 + e % 10000) % 320000 = (10000 * w + e) % 320000
    rw [Nat.mod_eq_of_lt he, Nat.mul_comm]

/-- A tile's counts, over the edges it has. -/
theorem outCnt_apply (hG : GOk G) (w : Fin 32) (g : Fin 64) :
    outCnt (F := Ideal) G (ix2 w (⟨g.val, by have := g.isLt; omega⟩ : Fin 128))
      = (∑ e ∈ range 10000, if (G (ix1 (edge (10000 * w.val + e))) : BitVec 32).toNat = g.val then (1 : EReal) else 0 : EReal) := by
  refine (rowC_apply (svOf G w.val) (hG.seg w.val) _).trans ?_
  refine Finset.sum_congr rfl fun e he => ?_
  rw [seg_edge G w.val e (Finset.mem_range.1 he)]
  exact if_congr eq_comm rfl rfl

/-- The counts of all the tiles: how many edges each graph has. -/
theorem cnt_eq (hG : GOk G) (g : Fin 64) : sumN (F := Ideal) (rowN (outCnt (F := Ideal) G)) (ix2 0 g) = Spec.count (N := 320000) G g := by
  refine (sumN_apply _ g).trans ?_
  have e : ∀ k : Fin 32, (rowN (F := Ideal) (outCnt (F := Ideal) G) k (ix2 (0 : Fin 1) (⟨g.val, by have := g.isLt; omega⟩ : Fin 128)) : EReal)
      = ∑ e ∈ range 10000, if (G (ix1 (edge (10000 * k.val + e))) : BitVec 32).toNat = g.val then (1 : EReal) else 0 :=
    fun k => (rowN_apply _ k _).trans (outCnt_apply G hG k g)
  simp only [e]
  rw [sum_fin 32 fun k => ∑ e ∈ range 10000, if (G (ix1 (edge (10000 * k + e))) : BitVec 32).toNat = g.val then (1 : EReal) else 0,
    sum_blocks 32 10000 (fun e => if (G (ix1 (edge e)) : BitVec 32).toNat = g.val then (1 : EReal) else 0), ← sum_fin]
  unfold Spec.count
  refine Finset.sum_congr rfl fun n _ => ?_
  rw [edge_val]

variable (a : FVec Ideal S320000x4 .f32) (A : FVec Ideal S1280000 .f32)

/-- The attributes laid out one after the other. -/
theorem attr_cast (hA : A = shapeCast S1280000 (transpose S4x320000 [1, 0] a transposes_S320000x4_S4x320000_1_0) shapeCasts_S4x320000_S1280000)
    (f : Fin 4) (e : Fin 320000) : A (at1 1280000 (f.val * 320000 + e.val)) = a (ix2 e f) := by
  have h1 := f.isLt
  have h2 := e.isLt
  rw [hA]
  refine (shapeCast_apply _ _ _ (ix2 f e) ?_).trans ?_
  · rw [Shape.rowMajor_val_two, Shape.rowMajor_val_one]
    show f.val * 320000 + e.val = (f.val * 320000 + e.val) % 1280000
    rw [Nat.mod_eq_of_lt (by omega)]
  exact transpose_apply [1, 0] a transposes_S320000x4_S4x320000_1_0 (ix2 f e) (ix2 e f) fun b => match b with
    | ⟨0, _⟩ => rfl
    | ⟨1, _⟩ => rfl

theorem av_edge (hA : A = shapeCast S1280000 (transpose S4x320000 [1, 0] a transposes_S320000x4_S4x320000_1_0) shapeCasts_S4x320000_S1280000)
    (w : Fin 32) (f : Fin 4) (e : ℕ) (he : e < 10000) : avOf (F := Ideal) A w.val (at1 40000 (10000 * f.val + e)) = a (ix2 (edge (10000 * w.val + e)) f) := by
  have h1 := f.isLt
  have h2 := w.isLt
  rw [← attr_cast a A hA f]
  refine congrArg A (funext fun q => ?_)
  match q with
  | ⟨0, _⟩ =>
    refine Fin.ext ?_
    show (((10000 * f.val + e) % 40000) / 10000 * 320000 + w.val * 10000 + ((10000 * f.val + e) % 40000) % 10000) % 1280000 = (f.val * 320000 + (10000 * w.val + e) % 320000) % 1280000
    omega

/-- A tile's attribute sums, over the edges it has. -/
theorem outAcc_apply (hA : A = shapeCast S1280000 (transpose S4x320000 [1, 0] a transposes_S320000x4_S4x320000_1_0) shapeCasts_S4x320000_S1280000)
    (hG : GOk G) (w : Fin 32) (g : Fin 64) (f : Fin 4) :
    outAcc (F := Ideal) A G (ix2 w (⟨4 * g.val + f.val, by have := g.isLt; have := f.isLt; omega⟩ : Fin 256))
      = (∑ e ∈ range 10000, if (G (ix1 (edge (10000 * w.val + e))) : BitVec 32).toNat = g.val then (a (ix2 (edge (10000 * w.val + e)) f) : EReal) else 0 : EReal) := by
  refine (rowA_apply (svOf G w.val) (avOf A w.val) (hG.seg w.val) _).trans ?_
  refine (sum_attr g.val f.val f.isLt 10000 (seg (svOf G w.val)) (fun f' e => avOf (F := Ideal) A w.val (at1 40000 (10000 * f' + e)))).trans ?_
  refine Finset.sum_congr rfl fun e he => ?_
  have he := Finset.mem_range.1 he
  rw [seg_edge G w.val e he]
  exact if_congr eq_comm (av_edge a A hA w f e he) rfl

/-- The attribute sums of all the tiles: the sums over each graph's edges. -/
theorem acc_eq (hA : A = shapeCast S1280000 (transpose S4x320000 [1, 0] a transposes_S320000x4_S4x320000_1_0) shapeCasts_S4x320000_S1280000)
    (hG : GOk G) (g : Fin 64) (f : Fin 4) :
    sumE (F := Ideal) (rowE (outAcc (F := Ideal) A G)) (ix2 0 (⟨4 * g.val + f.val, by have := g.isLt; have := f.isLt; omega⟩ : Fin 256))
      = Spec.pool (N := 320000) (C := 4) G a g f := by
  refine (sumE_apply _ _).trans ?_
  have e : ∀ k : Fin 32, (rowE (F := Ideal) (outAcc (F := Ideal) A G) k (ix2 (0 : Fin 1) (⟨4 * g.val + f.val, by have := g.isLt; have := f.isLt; omega⟩ : Fin 256)) : EReal)
      = ∑ e ∈ range 10000, if (G (ix1 (edge (10000 * k.val + e))) : BitVec 32).toNat = g.val then (a (ix2 (edge (10000 * k.val + e)) f) : EReal) else 0 :=
    fun k => (rowE_apply _ k _).trans (outAcc_apply G a A hA hG k g f)
  simp only [e]
  rw [sum_fin 32 fun k => ∑ e ∈ range 10000, if (G (ix1 (edge (10000 * k + e))) : BitVec 32).toNat = g.val then (a (ix2 (edge (10000 * k + e)) f) : EReal) else 0,
    sum_blocks 32 10000 (fun e => if (G (ix1 (edge e)) : BitVec 32).toNat = g.val then (a (ix2 (edge e) f) : EReal) else 0), ← sum_fin]
  unfold Spec.pool
  refine Finset.sum_congr rfl fun n _ => ?_
  rw [edge_val]

end Cert.KernelIdeal.Edge

end
-- ==== Proof.AlgComb.lean ====
/- The last body: from the nodes' and the edges' sums and counts to each graph's result. -/
module

public import proofs.«01_k».proof.Proof.AlgPool
public import proofs.«01_k».proof.Proof.AlgEdge
public import Idealize.ShloMosaic.Lib.MatmulPlain

@[expose] public section

set_option maxRecDepth 16384

noncomputable section

namespace Cert.KernelIdeal.Edge

open Idealize.ShloMosaic Idealize.ShloMosaic.ValueIdx Idealize.SL.Sem
open Cert.KernelIdeal Cert.KernelIdeal.Gen
open Finset (range)

theorem mul_one_hot (p : Prop) [Decidable p] (x : EReal) : x * (if p then (1 : EReal) else 0) = if p then x else 0 := by
  rw [mul_comm, one_hot_mul]

theorem one_bits' : (Scalar.ofBits (F := Ideal) .f32 0x3F800000#32 : EReal) = 1 := Ideal.ofBits_one_f32

/-! ## Which feature and which graph a place of the row stands for -/

/-- The remainder by four, with the fix-up of its sign. -/
def remW (x : BitVec 32) : BitVec 32 :=
  let c : BitVec 32 := Scalar.select (Scalar.cmpi .eq 4#32 0#32) 1#32 4#32
  let r : BitVec 32 := IntOp.remsi .vector x c
  Scalar.select (IntOp.andi (IntOp.xori (IntOp.cmpi .slt r 0#32) (Scalar.cmpi .slt c 0#32)) (IntOp.cmpi .ne r 0#32)) (IntOp.addi r c) r

/-- The quotient by four, with the fix-up of its rounding. -/
def quoW (x : BitVec 32) : BitVec 32 :=
  let s : BitVec 32 := IntOp.subi ((IntOp.cmpi .sgt x 0#32).setWidth 32) ((IntOp.cmpi .slt x 0#32).setWidth 32)
  let q : BitVec 32 := IntOp.divsi .vector x 4#32
  Scalar.select (IntOp.andi (IntOp.cmpi .ne s (Scalar.subi (Scalar.extui (Scalar.cmpi .sgt 4#32 0#32)) (Scalar.extui (Scalar.cmpi .slt 4#32 0#32))))
    (IntOp.cmpi .ne (IntOp.remsi .vector x 4#32) 0#32)) (IntOp.subi q 1#32) q

theorem remW_eq : ∀ k : Fin 256, remW (BitVec.ofNat 32 (0 * 256 + k.val)) = BitVec.ofNat 32 (k.val % 4) := by decide +kernel

theorem quoW_eq : ∀ k : Fin 256, quoW (BitVec.ofNat 32 (0 * 256 + k.val)) = BitVec.ofNat 32 (k.val / 4) := by decide +kernel

/-- Two small numbers make the same word only when they are the same. -/
theorem small_word (m n : ℕ) (hm : m < 64) (hn : n < 64) : BitVec.ofNat 32 m = BitVec.ofNat 32 (0 * 0 + n) ↔ m = n := by
  rw [Nat.zero_mul, Nat.zero_add, eq_ofNat _ n hn, BitVec.toNat_ofNat, Nat.mod_eq_of_lt (by omega)]

theorem feature_hot (f : Fin 4) (k : Fin 256) : k2_pay14 (F := Ideal) (ix2 f k) = (if k.val % 4 = f.val then 1 else 0 : EReal) := by
  refine (oneHot (remW (BitVec.ofNat 32 (0 * 256 + k.val))) (BitVec.ofNat 32 (0 * 4 + f.val))).trans (if_congr ?_ rfl rfl)
  rw [remW_eq, Nat.zero_mul, Nat.zero_add]
  have h1 := small_word (k.val % 4) f.val (by omega) (by have := f.isLt; omega)
  rwa [Nat.zero_mul, Nat.zero_add] at h1

/-- The table that tells which graph a place belongs to. -/
def graphs : FVec Ideal S64x256 .f32 := fun i =>
  FloatOps.sitofp (F := Ideal) .f32 ((IntOp.cmpi .eq (quoW (iota .tc S64x256 32 [1] iota_S64x256_d1_w32 i)) (iota .tc S64x256 32 [0] iota_S64x256_d0_w32 i)).setWidth 32)

theorem graph_hot (g : Fin 64) (k : Fin 256) : graphs (ix2 g k) = (if k.val / 4 = g.val then 1 else 0 : EReal) := by
  refine (oneHot (quoW (BitVec.ofNat 32 (0 * 256 + k.val))) (BitVec.ofNat 32 (0 * 64 + g.val))).trans (if_congr ?_ rfl rfl)
  rw [quoW_eq, Nat.zero_mul, Nat.zero_add]
  have h1 := small_word (k.val / 4) g.val (by have := k.isLt; omega) g.isLt
  rwa [Nat.zero_mul, Nat.zero_add] at h1

/-! ## Sums with one-hot numbers -/

/-- The place of graph `g`'s feature `f`. -/
abbrev place (g : Fin 64) (f : Fin 4) : Fin 256 := ⟨4 * g.val + f.val, by have := g.isLt; have := f.isLt; omega⟩

/-- Of a sum over all places only the graph's four are left. -/
theorem sum_graph (F : Fin 256 → EReal) (g : Fin 64) : (∑ k : Fin 256, if k.val / 4 = g.val then F k else 0) = ∑ f : Fin 4, F (place g f) := by
  let F' : ℕ → EReal := fun n => F ⟨n % 256, Nat.mod_lt _ (by decide)⟩
  have e1 : ∀ k : Fin 256, F k = F' k.val := fun k => congrArg F (Fin.ext (Nat.mod_eq_of_lt k.isLt).symm)
  simp only [e1]
  rw [sum_fin 256 fun n => if n / 4 = g.val then F' n else 0, show (256 : ℕ) = 4 * 64 from rfl, ← sum_blocks 64 4]
  have e2 : ∀ i ∈ range 64, (∑ j ∈ range 4, if (4 * i + j) / 4 = g.val then F' (4 * i + j) else 0) = if i = g.val then ∑ j ∈ range 4, F' (4 * i + j) else 0 := by
    intro i _
    split
    · rename_i h
      refine Finset.sum_congr rfl fun j hj => if_pos ?_
      have := Finset.mem_range.1 hj
      omega
    · rename_i h
      refine (Finset.sum_eq_zero fun j hj => if_neg ?_)
      have := Finset.mem_range.1 hj
      omega
  rw [Finset.sum_congr rfl e2, Finset.sum_ite_eq' (range 64) g.val, if_pos (Finset.mem_range.2 g.isLt), ← sum_fin 4 fun j => F' (4 * g.val + j)]

/-- Of a sum over the features only the place's own is left. -/
theorem sum_feature (F : Fin 4 → EReal) (g : Fin 64) (f : Fin 4) : (∑ f' : Fin 4, if (place g f).val % 4 = f'.val then F f' else 0) = F f := by
  have e : ∀ f' : Fin 4, (place g f).val % 4 = f'.val ↔ f = f' := fun f' => by
    have h1 := f.isLt
    rw [Fin.ext_iff]
    show (4 * g.val + f.val) % 4 = f'.val ↔ _
    omega
  simp only [e]
  rw [Finset.sum_ite_eq, if_pos (Finset.mem_univ _)]

/-- Of a sum over the graphs only the place's own is left. -/
theorem sum_owner (F : Fin 64 → EReal) (g : Fin 64) (f : Fin 4) : (∑ g' : Fin 64, if (place g f).val / 4 = g'.val then F g' else 0) = F g := by
  have e : ∀ g' : Fin 64, (place g f).val / 4 = g'.val ↔ g = g' := fun g' => by
    have h1 := f.isLt
    rw [Fin.ext_iff]
    show (4 * g.val + f.val) / 4 = g'.val ↔ _
    omega
  simp only [e]
  rw [Finset.sum_ite_eq, if_pos (Finset.mem_univ _)]

/-! ## The edges' part -/

variable (e : FVec Ideal S1x256 .f32) (n : FVec Ideal S1x64 .f32) (me : FVec Ideal S1x4 .f32)

/-- The given means laid out over the places. -/
theorem given_apply (g : Fin 64) (f : Fin 4) :
    matmul dot_S1x4_S4x256_S1x256_1_0_0_1_n_n none me (k2_pay14 (F := Ideal)) (constant S1x256 .f32 0x00000000#32) (ix2 0 (place g f)) = me (ix2 0 f) := by
  refine (Ideal.matmul_plain_apply (M := 1) (K := 4) (N := 256) none me (k2_pay14 (F := Ideal)) (constant S1x256 .f32 0x00000000#32) 0 (place g f)).trans ?_
  refine (congrArg (fun t : EReal => t + _) Ideal.ofBits_zero_f32).trans ((zero_add _).trans ?_)
  simp only [feature_hot, mul_one_hot]
  exact sum_feature (fun f' => me (ix2 0 f')) g f

/-- The counts laid out over the places. -/
theorem counts_apply (g : Fin 64) (f : Fin 4) :
    matmul dot_S1x64_S64x256_S1x256_1_0_0_1_n_n none n graphs (constant S1x256 .f32 0x00000000#32) (ix2 0 (place g f)) = n (ix2 0 g) := by
  refine (Ideal.matmul_plain_apply (M := 1) (K := 64) (N := 256) none n graphs (constant S1x256 .f32 0x00000000#32) 0 (place g f)).trans ?_
  refine (congrArg (fun t : EReal => t + _) Ideal.ofBits_zero_f32).trans ((zero_add _).trans ?_)
  simp only [graph_hot, mul_one_hot]
  exact sum_owner (fun g' => n (ix2 0 g')) g f

/-- The squared distances at all places. -/
def dists (e : FVec Ideal S1x256 .f32) (n : FVec Ideal S1x64 .f32) (me : FVec Ideal S1x4 .f32) : FVec Ideal S1x256 .f32 :=
  let d : FVec Ideal S1x256 .f32 := subf (divf e (maximumf (matmul dot_S1x64_S64x256_S1x256_1_0_0_1_n_n none n graphs (constant S1x256 .f32 0x00000000#32))
      (broadcast S1x256 (Scalar.ofBits .f32 0x3F800000#32))))
    (matmul dot_S1x4_S4x256_S1x256_1_0_0_1_n_n none me (k2_pay14 (F := Ideal)) (constant S1x256 .f32 0x00000000#32))
  mulf d d

theorem dists_apply (g : Fin 64) (f : Fin 4) : dists e n me (ix2 0 (place g f)) = Spec.dist2 (e (ix2 0 (place g f))) (n (ix2 0 g)) (me (ix2 0 f)) := by
  show (fun t : EReal => t * t) (Ideal.div (e (ix2 0 (place g f))) (max (matmul dot_S1x64_S64x256_S1x256_1_0_0_1_n_n none n graphs (constant S1x256 .f32 0x00000000#32) (ix2 0 (place g f)))
    (Scalar.ofBits (F := Ideal) .f32 0x3F800000#32 : EReal)) - matmul dot_S1x4_S4x256_S1x256_1_0_0_1_n_n none me (k2_pay14 (F := Ideal)) (constant S1x256 .f32 0x00000000#32) (ix2 0 (place g f))) = _
  rw [given_apply, counts_apply, one_bits']
  rfl

theorem lossE_apply (g : Fin 64) :
    lossE (F := Ideal) e n me (ix2 0 g) = (Ideal.ofBits .f32 0x40400000#32 * ∑ f : Fin 4, Spec.dist2 (e (ix2 0 (place g f))) (n (ix2 0 g)) (me (ix2 0 f)) : EReal) := by
  refine congrArg (fun t : EReal => Ideal.ofBits .f32 0x40400000#32 * t) ?_
  refine (Ideal.matmul_transposedRhs_apply (M := 1) (K := 256) (N := 64) none (dists e n me) graphs (constant S1x64 .f32 0x00000000#32) 0 g).trans ?_
  refine (congrArg (fun t : EReal => t + _) Ideal.ofBits_zero_f32).trans ((zero_add _).trans ?_)
  simp only [graph_hot, mul_one_hot]
  refine (sum_graph (fun k => dists e n me (ix2 0 k)) g).trans ?_
  exact Finset.sum_congr rfl fun f _ => dists_apply e n me g f

theorem penalty_apply (i : S1x64.Idx) : k2_pay18 (F := Ideal) n i = Spec.penalty (n i) := by
  have h : k2_pay18 (F := Ideal) n i = (let r : EReal := n i - Ideal.ofBits .f32 0x41A80000#32
    let q : EReal := Scalar.select (FloatOps.cmpf (F := Ideal) (φ := .f32) .oge r (Scalar.ofBits (F := Ideal) .f32 0x00000000#32 : EReal)) r (Ideal.ofBits .f32 0x3E99999A#32 * r)
    q * q) := rfl
  rw [h, zero_bits]
  rfl

/-! ## The nodes' part and the result -/

variable (xs : FVec Ideal S64x128 .f32) (xc : FVec Ideal S64x1 .f32) (mx : FVec Ideal S1x128 .f32)

/-- The squared distances of the nodes' means. -/
def distsX (xs : FVec Ideal S64x128 .f32) (xc : FVec Ideal S64x1 .f32) (mx : FVec Ideal S1x128 .f32) : FVec Ideal S64x128 .f32 :=
  let d : FVec Ideal S64x128 .f32 := subf (divf xs (broadcastTo S64x128 (maximumf xc (broadcast S64x1 (Scalar.ofBits .f32 0x3F800000#32))) broadcasts_S64x1_S64x128))
    (broadcastTo S64x128 mx broadcasts_S1x128_S64x128)
  mulf d d

theorem distsX_apply (g : Fin 64) (c : Fin 128) : distsX xs xc mx (ix2 g c) = Spec.dist2 (xs (ix2 g c)) (xc (ix2 g 0)) (mx (ix2 0 c)) := by
  have e1 : broadcastTo S64x128 (maximumf xc (broadcast S64x1 (Scalar.ofBits (F := Ideal) .f32 0x3F800000#32))) broadcasts_S64x1_S64x128 (ix2 g c) = (max (xc (ix2 g 0)) 1 : EReal) := by
    refine (broadcastTo_apply _ _ (ix2 g c) (ix2 g (0 : Fin 1)) (fun a => match a with
      | ⟨0, _⟩ => by show g.val = if (64 : ℕ) = 1 then 0 else g.val; rw [if_neg (by decide)]
      | ⟨1, _⟩ => by show 0 = if (1 : ℕ) = 1 then 0 else _; rw [if_pos rfl])).trans ?_
    show max (xc (ix2 g 0) : EReal) (Scalar.ofBits (F := Ideal) .f32 0x3F800000#32 : EReal) = _
    rw [one_bits']
  have e2 : broadcastTo S64x128 mx broadcasts_S1x128_S64x128 (ix2 g c) = mx (ix2 0 c) :=
    broadcastTo_apply _ _ (ix2 g c) (ix2 (0 : Fin 1) c) (fun a => match a with
      | ⟨0, _⟩ => by show 0 = if (1 : ℕ) = 1 then 0 else _; rw [if_pos rfl]
      | ⟨1, _⟩ => by show c.val = if (128 : ℕ) = 1 then 0 else c.val; rw [if_neg (by decide)])
  show (fun t : EReal => t * t) (Ideal.div (xs (ix2 g c)) (broadcastTo S64x128 (maximumf xc (broadcast S64x1 (Scalar.ofBits (F := Ideal) .f32 0x3F800000#32))) broadcasts_S64x1_S64x128 (ix2 g c))
    - broadcastTo S64x128 mx broadcasts_S1x128_S64x128 (ix2 g c)) = _
  rw [e1, e2]
  rfl

theorem pay1_apply (l p : FVec Ideal S1x64 .f32) (g : Fin 64) :
    k2_pay1 (F := Ideal) l p xs xc (Scalar.ofBits .f32 0x3F800000#32) mx (ix2 0 g)
      = (-((Ideal.ofBits .f32 0x40400000#32 * ∑ c : Fin 128, Spec.dist2 (xs (ix2 g c)) (xc (ix2 g 0)) (mx (ix2 0 c))) + l (ix2 0 g) + p (ix2 0 g)) : EReal) := by
  have e : matmul dot_S1x128_S64x128_S1x64_1_1_0_0_n_n none (broadcast S1x128 (Scalar.ofBits (F := Ideal) .f32 0x3F800000#32)) (distsX xs xc mx)
      (constant S1x64 .f32 0x00000000#32) (ix2 0 g) = (∑ c : Fin 128, Spec.dist2 (xs (ix2 g c)) (xc (ix2 g 0)) (mx (ix2 0 c)) : EReal) := by
    refine (Ideal.matmul_transposedRhs_apply (M := 1) (K := 128) (N := 64) none (broadcast S1x128 (Scalar.ofBits (F := Ideal) .f32 0x3F800000#32)) (distsX xs xc mx) (constant S1x64 .f32 0x00000000#32) 0 g).trans ?_
    refine (congrArg (fun t : EReal => t + _) Ideal.ofBits_zero_f32).trans ((zero_add _).trans ?_)
    refine Finset.sum_congr rfl fun c _ => ?_
    rw [distsX_apply]
    show (Scalar.ofBits (F := Ideal) .f32 0x3F800000#32 : EReal) * _ = _
    rw [one_bits', one_mul]
  have h : k2_pay1 (F := Ideal) l p xs xc (Scalar.ofBits .f32 0x3F800000#32) mx (ix2 0 g)
      = ((Scalar.ofBits (F := Ideal) .f32 0x00000000#32 : EReal) - ((Ideal.ofBits .f32 0x40400000#32 *
        matmul dot_S1x128_S64x128_S1x64_1_1_0_0_n_n none (broadcast S1x128 (Scalar.ofBits (F := Ideal) .f32 0x3F800000#32)) (distsX xs xc mx)
      (constant S1x64 .f32 0x00000000#32) (ix2 0 g)) + l (ix2 0 g) + p (ix2 0 g)) : EReal) := rfl
  rw [h, e, zero_bits, zero_sub]

/-- The body's result for a graph. -/
theorem combOf_apply (ea : FVec Ideal S32x256 .f32) (ec : FVec Ideal S32x128 .f32) (g : Fin 64) :
    combOf (F := Ideal) xs xc ea ec mx me (ix2 0 g)
      = (-((Ideal.ofBits .f32 0x40400000#32 * ∑ c : Fin 128, Spec.dist2 (xs (ix2 g c)) (xc (ix2 g 0)) (mx (ix2 0 c)))
        + (Ideal.ofBits .f32 0x40400000#32 * ∑ f : Fin 4, Spec.dist2 (sumE (F := Ideal) (rowE ea) (ix2 0 (place g f))) (sumN (F := Ideal) (rowN ec) (ix2 0 g)) (me (ix2 0 f)))
        + Spec.penalty (sumN (F := Ideal) (rowN ec) (ix2 0 g))) : EReal) := by
  unfold combOf k2_pay19 k2_pay20
  rw [shapeCast_self, shapeCast_self, pay1_apply, lossE_apply, penalty_apply]

end Cert.KernelIdeal.Edge

end
-- ==== Proof.AlgMain.lean ====
/- The value claim: over the extended reals the kernel and the reference leave the same sixty-four results. -/
module

public import proofs.«01_k».proof.Proof.Frames
public import proofs.«01_k».proof.Proof.AlgComb

@[expose] public section

set_option maxRecDepth 16384

noncomputable section

namespace Cert.KernelIdeal.Edge

open Idealize.ShloMosaic Idealize.ShloMosaic.ValueIdx Idealize.SL.Sem
open Cert.KernelIdeal Cert.KernelIdeal.Gen

variable (m : (ℓ : Loc nD τ sig) → Buf (Elt Ideal) ℓ)

/-- The kernel's result for graph `g`, in terms of the arguments. -/
theorem result_eq (hG : ∀ d, GOk (inG (F := Ideal) m d)) (d : Dev nD) (g : Fin 64) :
    result (F := Ideal) m d (ix1 g)
      = Spec.value (inX (F := Ideal) m d) (m ((SparseCore.T d).loc main_arg1) : IVec S10000 32) (m ((SparseCore.T d).loc main_arg2) : FVec Ideal S320000x4 .f32)
          (inG (F := Ideal) m d) (inMx (F := Ideal) m d) (inMe (F := Ideal) m d) g := by
  unfold result
  refine (shapeCast_apply _ _ (ix1 g) (ix2 (0 : Fin 1) g) ?_).trans ?_
  · rw [Shape.rowMajor_val_two, Shape.rowMajor_val_one]; show 0 * 64 + g.val = g.val; omega
  refine (combOf_apply _ _ _ _ _ _ g).trans ?_
  unfold accOf cntOf
  have e1 := fun c => xs_eq (inB (F := Ideal) m) (inX (F := Ideal) m) (fun d => (m ((SparseCore.T d).loc main_arg1) : IVec S10000 32)) d (fun _ => rfl) g c
  have e2 := xc_eq (inB (F := Ideal) m) (inX (F := Ideal) m) (fun d => (m ((SparseCore.T d).loc main_arg1) : IVec S10000 32)) d (fun _ => rfl) g
  have e3 := fun f => acc_eq (inG (F := Ideal) m d) (m ((SparseCore.T d).loc main_arg2) : FVec Ideal S320000x4 .f32) (inA (F := Ideal) m d) rfl (hG d) g f
  have e4 := cnt_eq (inG (F := Ideal) m d) (hG d) g
  simp only [e1, e2, e3, e4]
  rfl

/-- From memories that agree on the arguments the kernel and the reference run to the same result. -/
theorem algebraic : Cert.algebraic_KernelIdeal_ReferenceIdeal_pre_ranges := by
  intro m g m' g' hP hm
  refine ⟨fun c => result (F := Ideal) m c, ?_, ?_⟩
  · exact (θ_run (Cert.KernelIdeal.defs (F := Ideal)) _ _).mono (fun _ e c => ⟨(e.1 c).2.2.2.2.2.2.2, Cert.Frames.end_args (e.1 c)⟩)
      (run_main (F := Ideal) m g (Cert.Frames.gok_ranges m hP))
  · refine (θ_run (Cert.ReferenceIdeal.defs (F := Ideal)) _ _).mono (fun r e c => ⟨(e c).1.trans ?_, (e c).2⟩) (Cert.ReferenceIdeal.Value.run (F := Ideal) m' g')
    refine (Cert.ReferenceIdeal.Read.val_main_v52_eq (F := Ideal) m' c).trans ?_
    obtain ⟨h0, h1, h2, h3, h4, h5, h6⟩ := hm c
    rw [h0, h1, h2, h3, h4, h5, h6]
    funext i
    obtain ⟨k, rfl⟩ : ∃ k : Fin 64, i = ix1 k := ⟨i 0, eq_ix1 i⟩
    refine (Cert.ReferenceIdeal.Read.ref_eq _ _ _ _ _ _ _ (Cert.Frames.ranges_read (congrFun (hP c) (Shape.Idx.first (by decide)))).2 k).trans ?_
    exact (result_eq m (fun d => Cert.Frames.gok_ranges m hP d) c k).symm

end Cert.KernelIdeal.Edge

end
-- ==== Proof.lean ====
/- The certificate of the edge and node pooling kernel: the runs are Proof/Frames.lean's, the values Proof/AlgMain.lean's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_ranges
public import proofs.«01_k».proof.Proof.Main
public import proofs.«01_k».proof.Proof.Ref
public import proofs.«01_k».proof.Proof.Frames
public import proofs.«01_k».proof.Proof.AlgMain
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Frames.places_facts, Cert.Pre_ranges.Gen.facts,
  Cert.Frames.frame_kernel, Cert.Frames.frame_ideal, Cert.Frames.frame_ideal_ranges, Cert.Frames.frame_ref, Cert.Frames.frame_ref_ranges, trivial, Cert.KernelIdeal.Edge.algebraic⟩

end Cert.Proof

end
